-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2)
      ∧ r.2.mem ((c.tc : Thread Cert.InA.nD Cert.InA.τ).loc Cert.InA.main_arg3) = m ((c.tc : Thread Cert.InA.nD Cert.InA.τ).loc Cert.InA.main_arg3)
      ∧ r.2.mem ((c.tc : Thread Cert.InA.nD Cert.InA.τ).loc Cert.InA.main_arg4) = m ((c.tc : Thread Cert.InA.nD Cert.InA.τ).loc Cert.InA.main_arg4))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
      ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
      ∧ r.2.mem ((c.tc : Thread Cert.InAIdeal.nD Cert.InAIdeal.τ).loc Cert.InAIdeal.main_arg4) = m ((c.tc : Thread Cert.InAIdeal.nD Cert.InAIdeal.τ).loc Cert.InAIdeal.main_arg4))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1)
      ∧ r.2.mem ((c.tc : Thread Cert.InARefIdeal.nD Cert.InARefIdeal.τ).loc Cert.InARefIdeal.main_arg2) = m ((c.tc : Thread Cert.InARefIdeal.nD Cert.InARefIdeal.τ).loc Cert.InARefIdeal.main_arg2)
      ∧ r.2.mem ((c.tc : Thread Cert.InARefIdeal.nD Cert.InARefIdeal.τ).loc Cert.InARefIdeal.main_arg3) = m ((c.tc : Thread Cert.InARefIdeal.nD Cert.InARefIdeal.τ).loc Cert.InARefIdeal.main_arg3)
      ∧ r.2.mem ((c.tc : Thread Cert.InARefIdeal.nD Cert.InARefIdeal.τ).loc Cert.InARefIdeal.main_arg4) = m ((c.tc : Thread Cert.InARefIdeal.nD Cert.InARefIdeal.τ).loc Cert.InARefIdeal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_v24) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v34) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v39) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)) →
    ∃ (v0 : (c : Dev Cert.OprojIdeal.nD) → Buf (Elt Ideal) ((c.tc : Thread Cert.OprojIdeal.nD Cert.OprojIdeal.τ).loc Cert.OprojIdeal.main_v4)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v4) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v17) = v0 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4))

def preserves_InB_InBIdeal : Prop :=
  IdealRules.named_const.Statement Cert.InBIdeal.κ "qscale" .f32 0x3E0293EE#32 (((Real.sqrt 128)⁻¹ * (Real.log 2)⁻¹ : ℝ) : EReal)

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v3)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v3) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v11) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)
      ∧ m' ((c.tc : Thread Cert.InARefIdeal.nD Cert.InARefIdeal.τ).loc Cert.InARefIdeal.main_arg2) = m ((c.tc : Thread Cert.InAIdeal.nD Cert.InAIdeal.τ).loc Cert.InAIdeal.main_arg2)
      ∧ m' ((c.tc : Thread Cert.InARefIdeal.nD Cert.InARefIdeal.τ).loc Cert.InARefIdeal.main_arg3) = m ((c.tc : Thread Cert.InAIdeal.nD Cert.InAIdeal.τ).loc Cert.InAIdeal.main_arg3)
      ∧ m' ((c.tc : Thread Cert.InARefIdeal.nD Cert.InARefIdeal.τ).loc Cert.InARefIdeal.main_arg4) = m ((c.tc : Thread Cert.InAIdeal.nD Cert.InAIdeal.τ).loc Cert.InAIdeal.main_arg4)) →
    ∃ (v0 : (c : Dev Cert.InAIdeal.nD) → Buf (Elt Ideal) ((c.tc : Thread Cert.InAIdeal.nD Cert.InAIdeal.τ).loc Cert.InAIdeal.main_v84_0)) (v1 : (c : Dev Cert.InAIdeal.nD) → Buf (Elt Ideal) ((c.tc : Thread Cert.InAIdeal.nD Cert.InAIdeal.τ).loc Cert.InAIdeal.main_v84_1)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v84_0) = v0 c
          ∧ r.2.mem ((c.tc : Thread Cert.InAIdeal.nD Cert.InAIdeal.τ).loc Cert.InAIdeal.main_v84_1) = v1 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
          ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
          ∧ r.2.mem ((c.tc : Thread Cert.InAIdeal.nD Cert.InAIdeal.τ).loc Cert.InAIdeal.main_arg4) = m ((c.tc : Thread Cert.InAIdeal.nD Cert.InAIdeal.τ).loc Cert.InAIdeal.main_arg4))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v154) = v0 c
          ∧ r.2.mem ((c.tc : Thread Cert.InARefIdeal.nD Cert.InARefIdeal.τ).loc Cert.InARefIdeal.main_v155) = v1 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1)
          ∧ r.2.mem ((c.tc : Thread Cert.InARefIdeal.nD Cert.InARefIdeal.τ).loc Cert.InARefIdeal.main_arg2) = m' ((c.tc : Thread Cert.InARefIdeal.nD Cert.InARefIdeal.τ).loc Cert.InARefIdeal.main_arg2)
          ∧ r.2.mem ((c.tc : Thread Cert.InARefIdeal.nD Cert.InARefIdeal.τ).loc Cert.InARefIdeal.main_arg3) = m' ((c.tc : Thread Cert.InARefIdeal.nD Cert.InARefIdeal.τ).loc Cert.InARefIdeal.main_arg3)
          ∧ r.2.mem ((c.tc : Thread Cert.InARefIdeal.nD Cert.InARefIdeal.τ).loc Cert.InARefIdeal.main_arg4) = m' ((c.tc : Thread Cert.InARefIdeal.nD Cert.InARefIdeal.τ).loc Cert.InARefIdeal.main_arg4))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hPle : Cert.Ple.Facts) (hPleIdeal : Cert.PleIdeal.Facts) (hPleRefIdeal : Cert.PleRefIdeal.Facts) (hOproj : Cert.Oproj.Facts) (hOprojIdeal : Cert.OprojIdeal.Facts) (hOprojRefIdeal : Cert.OprojRefIdeal.Facts) (hInB : Cert.InB.Facts) (hInBIdeal : Cert.InBIdeal.Facts) (hInBRefIdeal : Cert.InBRefIdeal.Facts) (hInA : Cert.InA.Facts) (hInAIdeal : Cert.InAIdeal.Facts) (hInARefIdeal : Cert.InARefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Mlp (hMlp := hMlp)
    ∧ quiescent_MlpIdeal (hMlpIdeal := hMlpIdeal)
    ∧ quiescent_MlpRefIdeal (hMlpRefIdeal := hMlpRefIdeal)
    ∧ quiescent_Ple (hPle := hPle)
    ∧ quiescent_PleIdeal (hPleIdeal := hPleIdeal)
    ∧ quiescent_PleRefIdeal (hPleRefIdeal := hPleRefIdeal)
    ∧ quiescent_Oproj (hOproj := hOproj)
    ∧ quiescent_OprojIdeal (hOprojIdeal := hOprojIdeal)
    ∧ quiescent_OprojRefIdeal (hOprojRefIdeal := hOprojRefIdeal)
    ∧ quiescent_InB (hInB := hInB)
    ∧ quiescent_InBIdeal (hInBIdeal := hInBIdeal)
    ∧ quiescent_InBRefIdeal (hInBRefIdeal := hInBRefIdeal)
    ∧ quiescent_InA (hInA := hInA)
    ∧ quiescent_InAIdeal (hInAIdeal := hInAIdeal)
    ∧ quiescent_InARefIdeal (hInARefIdeal := hInARefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Mlp_MlpIdeal
    ∧ algebraic_MlpIdeal_MlpRefIdeal (hMlpIdeal := hMlpIdeal) (hMlpRefIdeal := hMlpRefIdeal)
    ∧ preserves_Ple_PleIdeal
    ∧ algebraic_PleIdeal_PleRefIdeal (hPleIdeal := hPleIdeal) (hPleRefIdeal := hPleRefIdeal)
    ∧ preserves_Oproj_OprojIdeal
    ∧ algebraic_OprojIdeal_OprojRefIdeal (hOprojIdeal := hOprojIdeal) (hOprojRefIdeal := hOprojRefIdeal)
    ∧ preserves_InB_InBIdeal
    ∧ algebraic_InBIdeal_InBRefIdeal (hInBIdeal := hInBIdeal) (hInBRefIdeal := hInBRefIdeal)
    ∧ preserves_InA_InAIdeal
    ∧ algebraic_InAIdeal_InARefIdeal (hInAIdeal := hInAIdeal) (hInARefIdeal := hInARefIdeal)
-- ==== Pre_finite_qk.lean ====
abbrev S1x16384x2x4x128 : Shape := ⟨5, ![1, 16384, 2, 4, 128]⟩
abbrev S1x16384x2x128 : Shape := ⟨4, ![1, 16384, 2, 128]⟩
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩

class Facts : Prop where
  bcast_S_S1x16384x2x4x128 : S_.BroadcastsInDim S1x16384x2x4x128 (![] : Fin 0 → Fin S1x16384x2x4x128.rank)
  reducesTo_S1x16384x2x4x128_S_d0_1_2_3_4 : S1x16384x2x4x128.ReducesTo [0, 1, 2, 3, 4] S_
  h_S_ : 0 < S_.numel
  bcast_S_S1x16384x2x128 : S_.BroadcastsInDim S1x16384x2x128 (![] : Fin 0 → Fin S1x16384x2x128.rank)
  reducesTo_S1x16384x2x128_S_d0_1_2_3 : S1x16384x2x128.ReducesTo [0, 1, 2, 3] S_

variable [Facts]

def fn {F : FTy → Type} [FloatOps F] (main_arg0 : FVec F S1x16384x2x4x128 .f32) (main_arg1 : FVec F S1x16384x2x128 .f32) (main_arg2 : FVec F S1x16384x2x128 .f32) (main_arg3 : FVec F S2048x2048 .f32) (main_arg4 : FVec F S2048x8192 .f32) (main_arg5 : FVec F S8192x2048 .f32) (main_arg6 : FVec F S2048x2048 .f32) : IVec S_ 1 :=
  let main_v0 : FVec F S1x16384x2x4x128 .f32 := Host.absf main_arg0
  let main_cst : FVec F S_ .f32 := constant S_ .f32 0x7F800000#32
  let main_v1 : FVec F S1x16384x2x4x128 .f32 := broadcastInDim S1x16384x2x4x128 ![] bcast_S_S1x16384x2x4x128 main_cst
  let main_v2 : IVec S1x16384x2x4x128 1 := cmpf .olt main_v0 main_v1
  let main_c : IVec S_ 1 := constantI S_ 1 1#1
  let main_v3 : IVec S_ 1 := (fun x v => Host.reduce IntOp.andi x v reducesTo_S1x16384x2x4x128_S_d0_1_2_3_4 h_S_) main_v2 main_c
  let main_v4 : FVec F S1x16384x2x128 .f32 := Host.absf main_arg1
  let main_cst_0 : FVec F S_ .f32 := constant S_ .f32 0x7F800000#32
  let main_v5 : FVec F S1x16384x2x128 .f32 := broadcastInDim S1x16384x2x128 ![] bcast_S_S1x16384x2x128 main_cst_0
  let main_v6 : IVec S1x16384x2x128 1 := cmpf .olt main_v4 main_v5
  let main_c_1 : IVec S_ 1 := constantI S_ 1 1#1
  let main_v7 : IVec S_ 1 := (fun x v => Host.reduce IntOp.andi x v reducesTo_S1x16384x2x128_S_d0_1_2_3 h_S_) main_v6 main_c_1
  let main_v8 : IVec S_ 1 := andi main_v3 main_v7
  main_v8
-- ==== Kernel.lean ====
abbrev S1x16384x2x4x128 : Shape := ⟨5, ![1, 16384, 2, 4, 128]⟩
abbrev S1x16384x2x128 : Shape := ⟨4, ![1, 16384, 2, 128]⟩
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩
abbrev S16384x1024 : Shape := ⟨2, ![16384, 1024]⟩
abbrev S16384x256 : Shape := ⟨2, ![16384, 256]⟩
abbrev S16384x1536 : Shape := ⟨2, ![16384, 1536]⟩
abbrev S1536x16384 : Shape := ⟨2, ![1536, 16384]⟩
abbrev S512x512 : Shape := ⟨2, ![512, 512]⟩
abbrev S128x16384 : Shape := ⟨2, ![128, 16384]⟩
abbrev S32x2048 : Shape := ⟨2, ![32, 2048]⟩
abbrev S32x8192 : Shape := ⟨2, ![32, 8192]⟩
abbrev S128x2048 : Shape := ⟨2, ![128, 2048]⟩
abbrev S16384x128 : Shape := ⟨2, ![16384, 128]⟩
abbrev S32x144x512 : Shape := ⟨3, ![32, 144, 512]⟩
abbrev S1 : Shape := ⟨1, ![1]⟩
abbrev S1x2048 : Shape := ⟨2, ![1, 2048]⟩
abbrev S144x2048 : Shape := ⟨2, ![144, 2048]⟩
abbrev S16x512 : Shape := ⟨2, ![16, 512]⟩
abbrev S1x512 : Shape := ⟨2, ![1, 512]⟩
abbrev S128x512 : Shape := ⟨2, ![128, 512]⟩
abbrev S512x128 : Shape := ⟨2, ![512, 128]⟩
abbrev S1x128x512 : Shape := ⟨3, ![1, 128, 512]⟩
abbrev S1x16x512 : Shape := ⟨3, ![1, 16, 512]⟩
abbrev S512 : Shape := ⟨1, ![512]⟩
abbrev S1x1x512 : Shape := ⟨3, ![1, 1, 512]⟩
abbrev S1x1x1 : Shape := ⟨3, ![1, 1, 1]⟩
abbrev S2048 : Shape := ⟨1, ![2048]⟩
abbrev S1x1x2048 : Shape := ⟨3, ![1, 1, 2048]⟩
abbrev S512x2048 : Shape := ⟨2, ![512, 2048]⟩
abbrev S1x144x512 : Shape := ⟨3, ![1, 144, 512]⟩
abbrev S144x512 : Shape := ⟨2, ![144, 512]⟩

abbrev nBuf : Space → Nat
  | .hbm => 27
  | .vmem => 29
  | .smem => 1
  | _ => 0

abbrev bufTy : (tb : Table) → Fin (tcTables nBuf tb) → BufTy
  | .hbm, ⟨0, _⟩ => ⟨S1x16384x2x4x128, .f32⟩
  | .hbm, ⟨1, _⟩ => ⟨S1x16384x2x128, .f32⟩
  | .hbm, ⟨2, _⟩ => ⟨S1x16384x2x128, .f32⟩
  | .hbm, ⟨3, _⟩ => ⟨S2048x2048, .f32⟩
  | .hbm, ⟨4, _⟩ => ⟨S2048x8192, .f32⟩
  | .hbm, ⟨5, _⟩ => ⟨S8192x2048, .f32⟩
  | .hbm, ⟨6, _⟩ => ⟨S2048x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x16384x2x4x128, .f32⟩
  | .hbm, ⟨15, _⟩ => ⟨S1x16384x2x4x128, .f32⟩
  | .hbm, ⟨16, _⟩ => ⟨S16384x1024, .f32⟩
  | .hbm, ⟨17, _⟩ => ⟨S16384x256, .f32⟩
  | .hbm, ⟨18, _⟩ => ⟨S16384x256, .f32⟩
  | .hbm, ⟨19, _⟩ => ⟨S16384x1536, .f32⟩
  | .hbm, ⟨20, _⟩ => ⟨S16384x1536, .bf16⟩
  | .hbm, ⟨21, _⟩ => ⟨S1536x16384, .bf16⟩
  | .hbm, ⟨22, _⟩ => ⟨S16384x1024, .bf16⟩
  | .hbm, ⟨23, _⟩ => ⟨S2048x2048, .bf16⟩
  | .hbm, ⟨24, _⟩ => ⟨S2048x8192, .bf16⟩
  | .hbm, ⟨25, _⟩ => ⟨S8192x2048, .bf16⟩
  | .hbm, ⟨26, _⟩ => ⟨S2048x2048, .bf16⟩
  | .local _ .vmem, ⟨0, _⟩ => ⟨S512x512, .bf16⟩
  | .local _ .vmem, ⟨1, _⟩ => ⟨S512x512, .bf16⟩
  | .local _ .vmem, ⟨2, _⟩ => ⟨S128x16384, .bf16⟩
  | .local _ .vmem, ⟨3, _⟩ => ⟨S128x16384, .bf16⟩
  | .local _ .vmem, ⟨4, _⟩ => ⟨S128x16384, .bf16⟩
  | .local _ .vmem, ⟨5, _⟩ => ⟨S128x16384, .bf16⟩
  | .local _ .vmem, ⟨6, _⟩ => ⟨S32x2048, .f32⟩
  | .local _ .vmem, ⟨7, _⟩ => ⟨S32x2048, .f32⟩
  | .local _ .vmem, ⟨8, _⟩ => ⟨S32x8192, .f32⟩
  | .local _ .vmem, ⟨9, _⟩ => ⟨S32x8192, .f32⟩
  | .local _ .vmem, ⟨10, _⟩ => ⟨S128x2048, .f32⟩
  | .local _ .vmem, ⟨11, _⟩ => ⟨S128x2048, .f32⟩
  | .local _ .vmem, ⟨12, _⟩ => ⟨S32x2048, .f32⟩
  | .local _ .vmem, ⟨13, _⟩ => ⟨S32x2048, .f32⟩
  | .local _ .vmem, ⟨14, _⟩ => ⟨S512x512, .bf16⟩
  | .local _ .vmem, ⟨15, _⟩ => ⟨S512x512, .bf16⟩
  | .local _ .vmem, ⟨16, _⟩ => ⟨S32x2048, .bf16⟩
  | .local _ .vmem, ⟨17, _⟩ => ⟨S32x2048, .bf16⟩
  | .local _ .vmem, ⟨18, _⟩ => ⟨S32x8192, .bf16⟩
  | .local _ .vmem, ⟨19, _⟩ => ⟨S32x8192, .bf16⟩
  | .local _ .vmem, ⟨20, _⟩ => ⟨S128x2048, .bf16⟩
  | .local _ .vmem, ⟨21, _⟩ => ⟨S128x2048, .bf16⟩
  | .local _ .vmem, ⟨22, _⟩ => ⟨S32x2048, .bf16⟩
  | .local _ .vmem, ⟨23, _⟩ => ⟨S32x2048, .bf16⟩
  | .local _ .vmem, ⟨24, _⟩ => ⟨S128x2048, .bf16⟩
  | .local _ .vmem, ⟨25, _⟩ => ⟨S16384x128, .bf16⟩
  | .local _ .vmem, ⟨26, _⟩ => ⟨S32x144x512, .bf16⟩
  | .local _ .vmem, ⟨27, _⟩ => ⟨S1x2048, .f32⟩
  | .local _ .vmem, ⟨28, _⟩ => ⟨S144x2048, .f32⟩
  | .local _ .smem, ⟨0, _⟩ => ⟨S1, .f32⟩
  | _, _ => ⟨S1x16384x2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch3 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_48 : BitVec 32 := 0#32
  let c32_i32 : BitVec 32 := 32#32
  let v76 : BitVec 32 := Scalar.addi c0_i32_48 c32_i32
  let c1_i32 : BitVec 32 := 1#32
  ⟨c0_i32_48, v76, c1_i32⟩
def k0_mult1 (k0_t1 : Fin k0_t1_loop.trips) : BitVec 32 :=
  let c0_i32_48 : BitVec 32 := 0#32
  let c1_i32 : BitVec 32 := 1#32
  let arg20 : BitVec 32 := Scf.iv c0_i32_48 c1_i32 k0_t1
  let c512_i32 : BitVec 32 := 512#32
  let v77 : BitVec 32 := Scalar.muli arg20 c512_i32
  v77
def k0_off1 (k0_t1 : Fin k0_t1_loop.trips) : Fin 2 → Nat :=
  let c0_i32_48 : BitVec 32 := 0#32
  let c1_i32 : BitVec 32 := 1#32
  let arg20 : BitVec 32 := Scf.iv c0_i32_48 c1_i32 k0_t1
  let c512_i32 : BitVec 32 := 512#32
  let v77 : BitVec 32 := Scalar.muli arg20 c512_i32
  let v78 : BitVec 32 := v77
  let v79 : Index := Scalar.indexCast v78
  let c0_50 : Index := 0#32
  ![v79.toNat, 0]
def k0_off2 (k0_t1 : Fin k0_t1_loop.trips) : Fin 3 → Nat :=
  let c0_i32_48 : BitVec 32 := 0#32
  let c1_i32 : BitVec 32 := 1#32
  let arg20 : BitVec 32 := Scf.iv c0_i32_48 c1_i32 k0_t1
  let v86 : Index := Scalar.indexCast arg20
  let c0_56 : Index := 0#32
  let c0_57 : Index := 0#32
  ![v86.toNat, 0, 0]
@[reducible] def k0_t2_loop : Scf.Loop 32 :=
  let c0_i32_51 : BitVec 32 := 0#32
  let c32_i32 : BitVec 32 := 32#32
  let v80 : BitVec 32 := Scalar.addi c0_i32_51 c32_i32
  let c1_i32 : BitVec 32 := 1#32
  ⟨c0_i32_51, v80, c1_i32⟩
def k0_mult2 (k0_t2 : Fin k0_t2_loop.trips) : BitVec 32 :=
  let c0_i32_51 : BitVec 32 := 0#32
  let c1_i32 : BitVec 32 := 1#32
  let arg20 : BitVec 32 := Scf.iv c0_i32_51 c1_i32 k0_t2
  let c512_i32 : BitVec 32 := 512#32
  let v81 : BitVec 32 := Scalar.muli arg20 c512_i32
  v81
def k0_off3 (k0_t2 : Fin k0_t2_loop.trips) : Fin 2 → Nat :=
  let c0_i32_51 : BitVec 32 := 0#32
  let c1_i32 : BitVec 32 := 1#32
  let arg20 : BitVec 32 := Scf.iv c0_i32_51 c1_i32 k0_t2
  let c512_i32 : BitVec 32 := 512#32
  let v81 : BitVec 32 := Scalar.muli arg20 c512_i32
  let v82 : BitVec 32 := v81
  let v83 : Index := Scalar.indexCast v82
  let c0_53 : Index := 0#32
  ![v83.toNat, 0]
def k0_off4 (k0_t2 : Fin k0_t2_loop.trips) : Fin 3 → Nat :=
  let c0_i32_51 : BitVec 32 := 0#32
  let c1_i32 : BitVec 32 := 1#32
  let arg20 : BitVec 32 := Scf.iv c0_i32_51 c1_i32 k0_t2
  let v100 : Index := Scalar.indexCast arg20
  let c0_62 : Index := 0#32
  let c0_63 : Index := 0#32
  ![v100.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x16384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x8192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S1x16384x2x4x128 : Shape := ⟨5, ![1, 16384, 2, 4, 128]⟩
abbrev S1x16384x2x128 : Shape := ⟨4, ![1, 16384, 2, 128]⟩
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩
abbrev S1x2x16384x16384x4 : Shape := ⟨5, ![1, 2, 16384, 16384, 4]⟩
abbrev S1x2x4x16384x16384 : Shape := ⟨5, ![1, 2, 4, 16384, 16384]⟩
abbrev S1x2x4x16384 : Shape := ⟨4, ![1, 2, 4, 16384]⟩
abbrev S1x2x4x16384x1 : Shape := ⟨5, ![1, 2, 4, 16384, 1]⟩
abbrev S1x2x128x4x16384 : Shape := ⟨5, ![1, 2, 128, 4, 16384]⟩
abbrev S16384x1024 : Shape := ⟨2, ![16384, 1024]⟩

abbrev nBuf : Space → Nat
  | .hbm => 37
  | .vmem => 0
  | .smem => 0
  | _ => 0

abbrev bufTy : (tb : Table) → Fin (tcTables nBuf tb) → BufTy
  | .hbm, ⟨0, _⟩ => ⟨S1x16384x2x4x128, .f32⟩
  | .hbm, ⟨1, _⟩ => ⟨S1x16384x2x128, .f32⟩
  | .hbm, ⟨2, _⟩ => ⟨S1x16384x2x128, .f32⟩
  | .hbm, ⟨3, _⟩ => ⟨S2048x2048, .f32⟩
  | .hbm, ⟨4, _⟩ => ⟨S2048x8192, .f32⟩
  | .hbm, ⟨5, _⟩ => ⟨S8192x2048, .f32⟩
  | .hbm, ⟨6, _⟩ => ⟨S2048x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x2x16384x16384x4, .f32⟩
  | .hbm, ⟨12, _⟩ => ⟨S1x2x4x16384x16384, .f32⟩
  | .hbm, ⟨13, _⟩ => ⟨S1x2x4x16384x16384, .f32⟩
  | .hbm, ⟨14, _⟩ => ⟨S1x2x4x16384x16384, .f32⟩
  | .hbm, ⟨15, _⟩ => ⟨S_, .f32⟩
  | .hbm, ⟨16, _⟩ => ⟨S1x2x4x16384, .f32⟩
  | .hbm, ⟨17, _⟩ => ⟨S_, .f32⟩
  | .hbm, ⟨18, _⟩ => ⟨S1x2x4x16384, .f32⟩
  | .hbm, ⟨19, _⟩ => ⟨S1x2x4x16384, .f32⟩
  | .hbm, ⟨20, _⟩ => ⟨S1x2x4x16384x1, .f32⟩
  | .hbm, ⟨21, _⟩ => ⟨S1x2x4x16384x16384, .f32⟩
  | .hbm, ⟨22, _⟩ => ⟨S1x2x4x16384x16384, .f32⟩
  | .hbm, ⟨23, _⟩ => ⟨S1x2x4x16384x16384, .f32⟩
  | .hbm, ⟨24, _⟩ => ⟨S_, .f32⟩
  | .hbm, ⟨25, _⟩ => ⟨S1x2x4x16384, .f32⟩
  | .hbm, ⟨26, _⟩ => ⟨S1x2x4x16384x1, .f32⟩
  | .hbm, ⟨27, _⟩ => ⟨S1x2x4x16384x16384, .f32⟩
  | .hbm, ⟨28, _⟩ => ⟨S1x2x4x16384x16384, .f32⟩
  | .hbm, ⟨29, _⟩ => ⟨S1x2x128x4x16384, .f32⟩
  | .hbm, ⟨30, _⟩ => ⟨S1x16384x2x4x128, .f32⟩
  | .hbm, ⟨31, _⟩ => ⟨S16384x1024, .f32⟩
  | .hbm, ⟨32, _⟩ => ⟨S16384x1024, .bf16⟩
  | .hbm, ⟨33, _⟩ => ⟨S2048x2048, .bf16⟩
  | .hbm, ⟨34, _⟩ => ⟨S2048x8192, .bf16⟩
  | .hbm, ⟨35, _⟩ => ⟨S8192x2048, .bf16⟩
  | .hbm, ⟨36, _⟩ => ⟨S2048x2048, .bf16⟩
  | _, _ => ⟨S1x16384x2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Mlp.lean ====
abbrev S16384x2048 : Shape := ⟨2, ![16384, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S8192x2048 : Shape := ⟨2, ![8192, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S16384x2048 : Shape := ⟨2, ![16384, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x8192 : Shape := ⟨2, ![2048, 8192]⟩
abbrev S16384x8192 : Shape := ⟨2, ![16384, 8192]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S2048x8192, .f32⟩
  | .hbm, ⟨23, _⟩ => ⟨S16384x8192, .f32⟩
  | .hbm, ⟨24, _⟩ => ⟨S_, .f32⟩
  | .hbm, ⟨25, _⟩ => ⟨S16384x8192, .f32⟩
  | .hbm, ⟨26, _⟩ => ⟨S16384x8192, .f32⟩
  | .hbm, ⟨27, _⟩ => ⟨S16384x8192, .f32⟩
  | .hbm, ⟨28, _⟩ => ⟨S8192x2048, .f32⟩
  | .hbm, ⟨29, _⟩ => ⟨S16384x2048, .f32⟩
  | .hbm, ⟨30, _⟩ => ⟨S2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x2048, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Ple.lean ====
abbrev S16384x2048 : Shape := ⟨2, ![16384, 2048]⟩
abbrev S16384x256 : Shape := ⟨2, ![16384, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩
abbrev S256 : Shape := ⟨1, ![256]⟩
abbrev S256x1 : Shape := ⟨2, ![256, 1]⟩
abbrev S256x256 : Shape := ⟨2, ![256, 256]⟩

abbrev nBuf : Space → Nat
  | .hbm => 11
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S256x2048, .f32⟩
  | .hbm, ⟨9, _⟩ => ⟨S256x2048, .bf16⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S16384x2048 : Shape := ⟨2, ![16384, 2048]⟩
abbrev S16384x256 : Shape := ⟨2, ![16384, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x2048 : Shape := ⟨2, ![2048, 2048]⟩
abbrev S256x2048 : Shape := ⟨2, ![256, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S1x2048, .f32⟩
  | .hbm, ⟨3, _⟩ => ⟨S1x2048x2048, .f32⟩
  | .hbm, ⟨4, _⟩ => ⟨S1x256x2048, .f32⟩
  | .hbm, ⟨5, _⟩ => ⟨S1x2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S256x2048, .f32⟩
  | .hbm, ⟨34, _⟩ => ⟨S16384x2048, .f32⟩
  | .hbm, ⟨35, _⟩ => ⟨S16384x2048, .f32⟩
  | .hbm, ⟨36, _⟩ => ⟨S2048, .f32⟩
  | .hbm, ⟨37, _⟩ => ⟨S16384x2048, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x2048, .f32⟩
  | .hbm, ⟨49, _⟩ => ⟨S16384x2048, .f32⟩
  | .hbm, ⟨50, _⟩ => ⟨S1x2048, .f32⟩
  | .hbm, ⟨51, _⟩ => ⟨S16384x2048, .f32⟩
  | .hbm, ⟨52, _⟩ => ⟨S16384x2048, .f32⟩
  | .hbm, ⟨53, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Oproj.lean ====
abbrev S16384x1024 : Shape := ⟨2, ![16384, 1024]⟩
abbrev S1x2048x2048 : Shape := ⟨3, ![1, 2048, 2048]⟩
abbrev S16384x2048 : Shape := ⟨2, ![16384, 2048]⟩
abbrev S1x2048 : Shape := ⟨2, ![1, 2048]⟩
abbrev S2048x2048 : Shape := ⟨2, ![2048, 2048]⟩
abbrev S512x1024 : Shape := ⟨2, ![512, 1024]⟩
abbrev S512x2048 : Shape := ⟨2, ![512, 2048]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x2048x2048, .f32⟩
  | .hbm, ⟨3, _⟩ => ⟨S16384x2048, .f32⟩
  | .hbm, ⟨4, _⟩ => ⟨S1x2048, .f32⟩
  | .hbm, ⟨5, _⟩ => ⟨S16384x1024, .bf16⟩
  | .hbm, ⟨6, _⟩ => ⟨S16384x1024, .bf16⟩
  | .hbm, ⟨7, _⟩ => ⟨S2048x2048, .f32⟩
  | .hbm, ⟨8, _⟩ => ⟨S2048x2048, .bf16⟩
  | .hbm, ⟨9, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OprojRefIdeal.lean ====
abbrev S16384x1024 : Shape := ⟨2, ![16384, 1024]⟩
abbrev S1x2048x2048 : Shape := ⟨3, ![1, 2048, 2048]⟩
abbrev S16384x2048 : Shape := ⟨2, ![16384, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x2048x2048, .f32⟩
  | .hbm, ⟨3, _⟩ => ⟨S16384x2048, .f32⟩
  | .hbm, ⟨4, _⟩ => ⟨S1x2048, .f32⟩
  | .hbm, ⟨5, _⟩ => ⟨S16384x2048, .f32⟩
  | .hbm, ⟨6, _⟩ => ⟨S2048x2048, .f32⟩
  | .hbm, ⟨7, _⟩ => ⟨S16384x2048, .f32⟩
  | .hbm, ⟨8, _⟩ => ⟨S2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== InB.lean ====
abbrev S16384x2048 : Shape := ⟨2, ![16384, 2048]⟩
abbrev S1x2048x4608 : Shape := ⟨3, ![1, 2048, 4608]⟩
abbrev S2048x4608 : Shape := ⟨2, ![2048, 4608]⟩
abbrev S16384x3072 : Shape := ⟨2, ![16384, 3072]⟩
abbrev S1024x2048 : Shape := ⟨2, ![1024, 2048]⟩
abbrev S2048x1536 : Shape := ⟨2, ![2048, 1536]⟩
abbrev S1024x1536 : Shape := ⟨2, ![1024, 1536]⟩
abbrev S1024x1024 : Shape := ⟨2, ![1024, 1024]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048x4608, .f32⟩
  | .hbm, ⟨2, _⟩ => ⟨S16384x2048, .bf16⟩
  | .hbm, ⟨3, _⟩ => ⟨S2048x4608, .f32⟩
  | .hbm, ⟨4, _⟩ => ⟨S2048x4608, .bf16⟩
  | .hbm, ⟨5, _⟩ => ⟨S16384x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InBIdeal.lean ====
variable {F : FTy → Type} [FloatOps F] [Named F]
def κ : String → Option EReal := fun
  | "qscale" => some (((Real.sqrt 128)⁻¹ * (Real.log 2)⁻¹ : ℝ) : EReal)
  | _ => none
-- ==== InBRefIdeal.lean ====
abbrev S16384x2048 : Shape := ⟨2, ![16384, 2048]⟩
abbrev S1x2048x4608 : Shape := ⟨3, ![1, 2048, 4608]⟩
abbrev S2048x4608 : Shape := ⟨2, ![2048, 4608]⟩
abbrev S16384x4608 : Shape := ⟨2, ![16384, 4608]⟩
abbrev S_ : Shape := ⟨0, ![]⟩
abbrev S16384x1024 : Shape := ⟨2, ![16384, 1024]⟩
abbrev S16384x3072 : Shape := ⟨2, ![16384, 3072]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x4608, .f32⟩
  | .hbm, ⟨2, _⟩ => ⟨S2048x4608, .f32⟩
  | .hbm, ⟨3, _⟩ => ⟨S16384x4608, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x2048, .f32⟩
  | .hbm, ⟨15, _⟩ => ⟨S16384x3072, .f32⟩
  | .hbm, ⟨16, _⟩ => ⟨S16384x3072, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== InA.lean ====
abbrev S16384x2048 : Shape := ⟨2, ![16384, 2048]⟩
abbrev S1x2048 : Shape := ⟨2, ![1, 2048]⟩
abbrev S1x2048x4608 : Shape := ⟨3, ![1, 2048, 4608]⟩
abbrev S1x128 : Shape := ⟨2, ![1, 128]⟩
abbrev S32 : Shape := ⟨1, ![32]⟩
abbrev S_ : Shape := ⟨0, ![]⟩
abbrev S32x1 : Shape := ⟨2, ![32, 1]⟩
abbrev S256 : Shape := ⟨1, ![256]⟩
abbrev S1x256 : Shape := ⟨2, ![1, 256]⟩
abbrev S32x256 : Shape := ⟨2, ![32, 256]⟩
abbrev S64 : Shape := ⟨1, ![64]⟩
abbrev S1x64 : Shape := ⟨2, ![1, 64]⟩
abbrev S32x64 : Shape := ⟨2, ![32, 64]⟩
abbrev S128x256 : Shape := ⟨2, ![128, 256]⟩
abbrev S128x16x16 : Shape := ⟨3, ![128, 16, 16]⟩
abbrev S16x128x16 : Shape := ⟨3, ![16, 128, 16]⟩
abbrev S16x128x32 : Shape := ⟨3, ![16, 128, 32]⟩
abbrev S128x64 : Shape := ⟨2, ![128, 64]⟩
abbrev S1x128x1x64 : Shape := ⟨4, ![1, 128, 1, 64]⟩
abbrev S1x128x16x64 : Shape := ⟨4, ![1, 128, 16, 64]⟩
abbrev S128x1024 : Shape := ⟨2, ![128, 1024]⟩
abbrev S1024 : Shape := ⟨1, ![1024]⟩
abbrev S1x1024 : Shape := ⟨2, ![1, 1024]⟩
abbrev S32x1024 : Shape := ⟨2, ![32, 1024]⟩
abbrev S128 : Shape := ⟨1, ![128]⟩
abbrev S128x1 : Shape := ⟨2, ![128, 1]⟩
abbrev S128x128 : Shape := ⟨2, ![128, 128]⟩
abbrev S2048x4608 : Shape := ⟨2, ![2048, 4608]⟩
abbrev S2048x1536 : Shape := ⟨2, ![2048, 1536]⟩
abbrev S1536x2048 : Shape := ⟨2, ![1536, 2048]⟩
abbrev S1536x16384 : Shape := ⟨2, ![1536, 16384]⟩
abbrev S1024x2048 : Shape := ⟨2, ![1024, 2048]⟩
abbrev S1x128x32 : Shape := ⟨3, ![1, 128, 32]⟩
abbrev S1536x1024 : Shape := ⟨2, ![1536, 1024]⟩
abbrev S1024x1 : Shape := ⟨2, ![1024, 1]⟩
abbrev S128x32 : Shape := ⟨2, ![128, 32]⟩

abbrev nBuf : Space → Nat
  | .hbm => 136
  | .vmem => 17
  | .smem => 0
  | _ => 0

abbrev hbmTy0_0 (i : Nat) : BufTy := match i % 128 with
  | 0 => ⟨S16384x2048, .f32⟩
  | 1 => ⟨S1x2048, .f32⟩
  | 2 => ⟨S1x2048x4608, .f32⟩
  | 3 => ⟨S1x128, .f32⟩
  | 4 => ⟨S1x128, .f32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32x1, .f32⟩
  | 14 => ⟨S256, .f32⟩
  | 15 => ⟨S1x256, .f32⟩
  | 16 => ⟨S32x256, .f32⟩
  | 17 => ⟨S32x256, .f32⟩
  | 18 => ⟨S32x256, .f32⟩
  | 19 => ⟨S32x1, .f32⟩
  | 20 => ⟨S64, .f32⟩
  | 21 => ⟨S1x64, .f32⟩
  | 22 => ⟨S32x64, .f32⟩
  | 23 => ⟨S32x64, .f32⟩
  | 24 => ⟨S32x64, .f32⟩
  | 25 => ⟨S_, .f32⟩
  | 26 => ⟨S32x256, .f32⟩
  | 27 => ⟨S_, .f32⟩
  | 28 => ⟨S32x64, .f32⟩
  | 29 => ⟨S32x256, .f32⟩
  | 30 => ⟨S32x256, .f32⟩
  | 31 => ⟨S128x256, .f32⟩
  | 32 => ⟨S128x256, .bf16⟩
  | 33 => ⟨S128x256, .f32⟩
  | 34 => ⟨S128x256, .f32⟩
  | 35 => ⟨S128x256, .bf16⟩
  | 36 => ⟨S128x16x16, .bf16⟩
  | 37 => ⟨S16x128x16, .bf16⟩
  | 38 => ⟨S128x16x16, .bf16⟩
  | 39 => ⟨S16x128x16, .bf16⟩
  | 40 => ⟨S16x128x32, .bf16⟩
  | 41 => ⟨S32x256, .f32⟩
  | 42 => ⟨S32x256, .f32⟩
  | 43 => ⟨S32x256, .f32⟩
  | 44 => ⟨S128x256, .f32⟩
  | 45 => ⟨S128x256, .bf16⟩
  | 46 => ⟨S128x256, .f32⟩
  | 47 => ⟨S128x256, .f32⟩
  | 48 => ⟨S128x256, .bf16⟩
  | 49 => ⟨S128x16x16, .bf16⟩
  | 50 => ⟨S16x128x16, .bf16⟩
  | 51 => ⟨S128x16x16, .bf16⟩
  | 52 => ⟨S16x128x16, .bf16⟩
  | 53 => ⟨S16x128x32, .bf16⟩
  | 54 => ⟨S32x64, .f32⟩
  | 55 => ⟨S32x64, .f32⟩
  | 56 => ⟨S128x64, .f32⟩
  | 57 => ⟨S1x128x1x64, .f32⟩
  | 58 => ⟨S1x128x16x64, .f32⟩
  | 59 => ⟨S128x1024, .f32⟩
  | 60 => ⟨S32x64, .f32⟩
  | 61 => ⟨S32x64, .f32⟩
  | 62 => ⟨S32x64, .f32⟩
  | 63 => ⟨S128x64, .f32⟩
  | 64 => ⟨S1x128x1x64, .f32⟩
  | 65 => ⟨S1x128x16x64, .f32⟩
  | 66 => ⟨S128x1024, .f32⟩
  | 67 => ⟨S1024, .i32⟩
  | 68 => ⟨S1x1024, .i32⟩
  | 69 => ⟨S_, .i32⟩
  | 70 => ⟨S_, .i32⟩
  | 71 => ⟨S1x1024, .i32⟩
  | 72 => ⟨S1x1024, .i32⟩
  | 73 => ⟨S1x1024, .i32⟩
  | 74 => ⟨S_, .i32⟩
  | 75 => ⟨S1x1024, .i32⟩
  | 76 => ⟨S1x1024, .i1⟩
  | 77 => ⟨S1x1024, .i32⟩
  | 78 => ⟨S1x1024, .i32⟩
  | 79 => ⟨S_, .i32⟩
  | 80 => ⟨S1x1024, .i32⟩
  | 81 => ⟨S1x1024, .i1⟩
  | 82 => ⟨S1x1024, .i1⟩
  | 83 => ⟨S_, .i32⟩
  | 84 => ⟨S1x1024, .i32⟩
  | 85 => ⟨S1x1024, .i32⟩
  | 86 => ⟨S1x1024, .i32⟩
  | 87 => ⟨S32, .i32⟩
  | 88 => ⟨S32x1, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S32x1, .i32⟩
  | 96 => ⟨S32x1, .i32⟩
  | 97 => ⟨S_, .i32⟩
  | 98 => ⟨S32x1, .i32⟩
  | 99 => ⟨S32x1, .i1⟩
  | 100 => ⟨S_, .i32⟩
  | 101 => ⟨S32x1, .i32⟩
  | 102 => ⟨S32x1, .i1⟩
  | 103 => ⟨S_, .i32⟩
  | 104 => ⟨S_, .i1⟩
  | 105 => ⟨S32x1, .i1⟩
  | 106 => ⟨S32x1, .i1⟩
  | 107 => ⟨S32x1, .i1⟩
  | 108 => ⟨S32x1, .i32⟩
  | 109 => ⟨S32x1, .i32⟩
  | 110 => ⟨S32x1, .i32⟩
  | 111 => ⟨S32x1024, .i32⟩
  | 112 => ⟨S32x1024, .i32⟩
  | 113 => ⟨S32x1024, .i1⟩
  | 114 => ⟨S32x1024, .bf16⟩
  | 115 => ⟨S128, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S128, .f32⟩
  | 124 => ⟨S128, .f32⟩
  | 125 => ⟨S128x1, .f32⟩
  | 126 => ⟨S128x128, .f32⟩
  | 127 => ⟨S128, .f32⟩
  | _ => ⟨S16384x2048, .f32⟩

abbrev hbmTy0_1 (i : Nat) : BufTy := match i % 128 with
  | 0 => ⟨S128x1, .f32⟩
  | 1 => ⟨S128x128, .f32⟩
  | 2 => ⟨S2048x4608, .f32⟩
  | 3 => ⟨S2048x4608, .bf16⟩
  | 4 => ⟨S2048x1536, .bf16⟩
  | 5 => ⟨S1536x2048, .bf16⟩
  | 6 => ⟨S1536x16384, .bf16⟩
  | 7 => ⟨S16384x2048, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1536x2048, .bf16⟩
  | .local _ .vmem, ⟨4, _⟩ => ⟨S1x128x32, .bf16⟩
  | .local _ .vmem, ⟨5, _⟩ => ⟨S1x128x32, .bf16⟩
  | .local _ .vmem, ⟨6, _⟩ => ⟨S1x128x32, .bf16⟩
  | .local _ .vmem, ⟨7, _⟩ => ⟨S1x128x32, .bf16⟩
  | .local _ .vmem, ⟨8, _⟩ => ⟨S128x1024, .f32⟩
  | .local _ .vmem, ⟨9, _⟩ => ⟨S128x1024, .f32⟩
  | .local _ .vmem, ⟨10, _⟩ => ⟨S32x1024, .bf16⟩
  | .local _ .vmem, ⟨11, _⟩ => ⟨S128x128, .f32⟩
  | .local _ .vmem, ⟨12, _⟩ => ⟨S128x128, .f32⟩
  | .local _ .vmem, ⟨13, _⟩ => ⟨S1536x1024, .bf16⟩
  | .local _ .vmem, ⟨14, _⟩ => ⟨S1536x1024, .bf16⟩
  | .local _ .vmem, ⟨15, _⟩ => ⟨S1024x2048, .bf16⟩
  | .local _ .vmem, ⟨16, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_c : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_c : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_0 : Ref sig .tc := ⟨.hbm, 83, rfl⟩
abbrev main_call0_v12 : Ref sig .tc := ⟨.hbm, 84, rfl⟩
abbrev main_call0_v13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_3 : Ref sig .tc := ⟨.hbm, 89, rfl⟩
abbrev main_call1_v0 : Ref sig .tc := ⟨.hbm, 90, rfl⟩
abbrev main_call1_c : Ref sig .tc := ⟨.hbm, 91, rfl⟩
abbrev main_call1_v1 : Ref sig .tc := ⟨.hbm, 92, rfl⟩
abbrev main_call1_c_0 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_c_1 : Ref sig .tc := ⟨.hbm, 97, rfl⟩
abbrev main_call1_v5 : Ref sig .tc := ⟨.hbm, 98, rfl⟩
abbrev main_call1_v6 : Ref sig .tc := ⟨.hbm, 99, rfl⟩
abbrev main_call1_c_2 : Ref sig .tc := ⟨.hbm, 100, rfl⟩
abbrev main_call1_v7 : Ref sig .tc := ⟨.hbm, 101, rfl⟩
abbrev main_call1_v8 : Ref sig .tc := ⟨.hbm, 102, rfl⟩
abbrev main_call1_c_3 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_v12 : Ref sig .tc := ⟨.hbm, 107, rfl⟩
abbrev main_call1_v13 : Ref sig .tc := ⟨.hbm, 108, rfl⟩
abbrev main_call1_v14 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_4 : Ref sig .tc := ⟨.hbm, 116, rfl⟩
abbrev main_v69 : Ref sig .tc := ⟨.hbm, 117, rfl⟩
abbrev main_cst_5 : Ref sig .tc := ⟨.hbm, 118, rfl⟩
abbrev main_v70 : Ref sig .tc := ⟨.hbm, 119, rfl⟩
abbrev main_v71 : Ref sig .tc := ⟨.hbm, 120, rfl⟩
abbrev main_cst_6 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84_0 : Ref sig .tc := ⟨.hbm, 134, rfl⟩
abbrev main_v84_1 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1536x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InARefIdeal.lean ====
abbrev S16384x2048 : Shape := ⟨2, ![16384, 2048]⟩
abbrev S1x2048 : Shape := ⟨2, ![1, 2048]⟩
abbrev S1x2048x4608 : Shape := ⟨3, ![1, 2048, 4608]⟩
abbrev S1x128 : Shape := ⟨2, ![1, 128]⟩
abbrev S16384 : Shape := ⟨1, ![16384]⟩
abbrev S_ : Shape := ⟨0, ![]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S2048 : Shape := ⟨1, ![2048]⟩
abbrev S2048x4608 : Shape := ⟨2, ![2048, 4608]⟩
abbrev S16384x4608 : Shape := ⟨2, ![16384, 4608]⟩
abbrev S16384x1024 : Shape := ⟨2, ![16384, 1024]⟩
abbrev S16384x8x128 : Shape := ⟨3, ![16384, 8, 128]⟩
abbrev S128 : Shape := ⟨1, ![128]⟩
abbrev S16384x8 : Shape := ⟨2, ![16384, 8]⟩
abbrev S16384x8x1 : Shape := ⟨3, ![16384, 8, 1]⟩
abbrev S1x1x128 : Shape := ⟨3, ![1, 1, 128]⟩
abbrev S16384x8x64 : Shape := ⟨3, ![16384, 8, 64]⟩
abbrev S16384x1x32 : Shape := ⟨3, ![16384, 1, 32]⟩
abbrev S16384x8x32 : Shape := ⟨3, ![16384, 8, 32]⟩
abbrev S16384x256 : Shape := ⟨2, ![16384, 256]⟩
abbrev S16384x2x128 : Shape := ⟨3, ![16384, 2, 128]⟩
abbrev S16384x2 : Shape := ⟨2, ![16384, 2]⟩
abbrev S16384x2x1 : Shape := ⟨3, ![16384, 2, 1]⟩
abbrev S16384x2x64 : Shape := ⟨3, ![16384, 2, 64]⟩
abbrev S16384x2x32 : Shape := ⟨3, ![16384, 2, 32]⟩
abbrev S16384x1536 : Shape := ⟨2, ![16384, 1536]⟩
abbrev S1536x16384 : Shape := ⟨2, ![1536, 16384]⟩

abbrev nBuf : Space → Nat
  | .hbm => 213
  | .vmem => 0
  | .smem => 0
  | _ => 0

abbrev hbmTy0_0 (i : Nat) : BufTy := match i % 128 with
  | 0 => ⟨S16384x2048, .f32⟩
  | 1 => ⟨S1x2048, .f32⟩
  | 2 => ⟨S1x2048x4608, .f32⟩
  | 3 => ⟨S1x128, .f32⟩
  | 4 => ⟨S1x128, .f32⟩
  | 5 => ⟨S16384, .i32⟩
  | 6 => ⟨S_, .i32⟩
  | 7 => ⟨S_, .i32⟩
  | 8 => ⟨S16384, .i32⟩
  | 9 => ⟨S16384, .i32⟩
  | 10 => ⟨S16384, .i32⟩
  | 11 => ⟨S_, .i32⟩
  | 12 => ⟨S16384, .i32⟩
  | 13 => ⟨S16384, .i1⟩
  | 14 => ⟨S16384, .i32⟩
  | 15 => ⟨S16384, .i32⟩
  | 16 => ⟨S_, .i32⟩
  | 17 => ⟨S16384, .i32⟩
  | 18 => ⟨S16384, .i1⟩
  | 19 => ⟨S16384, .i1⟩
  | 20 => ⟨S_, .i32⟩
  | 21 => ⟨S16384, .i32⟩
  | 22 => ⟨S16384, .i32⟩
  | 23 => ⟨S16384, .i32⟩
  | 24 => ⟨S16384, .f32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S16384, .i32⟩
  | 32 => ⟨S16384, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i1⟩
  | 39 => ⟨S_, .i32⟩
  | 40 => ⟨S_, .i1⟩
  | 41 => ⟨S16384, .i1⟩
  | 42 => ⟨S16384, .i1⟩
  | 43 => ⟨S16384, .i1⟩
  | 44 => ⟨S16384, .i32⟩
  | 45 => ⟨S16384, .i32⟩
  | 46 => ⟨S16384, .i32⟩
  | 47 => ⟨S16384, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S16384x1, .f32⟩
  | 57 => ⟨S1x32, .f32⟩
  | 58 => ⟨S16384x32, .f32⟩
  | 59 => ⟨S16384x32, .f32⟩
  | 60 => ⟨S16384x32, .f32⟩
  | 61 => ⟨S16384x1, .f32⟩
  | 62 => ⟨S1x32, .f32⟩
  | 63 => ⟨S16384x32, .f32⟩
  | 64 => ⟨S16384x32, .f32⟩
  | 65 => ⟨S16384x32, .f32⟩
  | 66 => ⟨S2048, .f32⟩
  | 67 => ⟨S16384x2048, .f32⟩
  | 68 => ⟨S_, .f32⟩
  | 69 => ⟨S16384, .f32⟩
  | 70 => ⟨S16384x1, .f32⟩
  | 71 => ⟨S_, .f32⟩
  | 72 => ⟨S16384x1, .f32⟩
  | 73 => ⟨S16384x1, .f32⟩
  | 74 => ⟨S_, .f32⟩
  | 75 => ⟨S16384x1, .f32⟩
  | 76 => ⟨S16384x1, .f32⟩
  | 77 => ⟨S16384x1, .f32⟩
  | 78 => ⟨S16384x2048, .f32⟩
  | 79 => ⟨S16384x2048, .f32⟩
  | 80 => ⟨S1x2048, .f32⟩
  | 81 => ⟨S16384x2048, .f32⟩
  | 82 => ⟨S16384x2048, .f32⟩
  | 83 => ⟨S2048x4608, .f32⟩
  | 84 => ⟨S16384x4608, .f32⟩
  | 85 => ⟨S16384x1024, .f32⟩
  | 86 => ⟨S16384x8x128, .f32⟩
  | 87 => ⟨S128, .f32⟩
  | 88 => ⟨S16384x8x128, .f32⟩
  | 89 => ⟨S_, .f32⟩
  | 90 => ⟨S16384x8, .f32⟩
  | 91 => ⟨S16384x8x1, .f32⟩
  | 92 => ⟨S_, .f32⟩
  | 93 => ⟨S16384x8x1, .f32⟩
  | 94 => ⟨S16384x8x1, .f32⟩
  | 95 => ⟨S_, .f32⟩
  | 96 => ⟨S16384x8x1, .f32⟩
  | 97 => ⟨S16384x8x1, .f32⟩
  | 98 => ⟨S16384x8x1, .f32⟩
  | 99 => ⟨S16384x8x128, .f32⟩
  | 100 => ⟨S16384x8x128, .f32⟩
  | 101 => ⟨S1x1x128, .f32⟩
  | 102 => ⟨S16384x8x128, .f32⟩
  | 103 => ⟨S16384x8x128, .f32⟩
  | 104 => ⟨S16384x8x64, .f32⟩
  | 105 => ⟨S16384x32, .f32⟩
  | 106 => ⟨S16384x1x32, .f32⟩
  | 107 => ⟨S16384x32, .f32⟩
  | 108 => ⟨S16384x1x32, .f32⟩
  | 109 => ⟨S16384x8x32, .f32⟩
  | 110 => ⟨S16384x8x32, .f32⟩
  | 111 => ⟨S16384x8x32, .f32⟩
  | 112 => ⟨S16384x8x32, .f32⟩
  | 113 => ⟨S16384x8x32, .f32⟩
  | 114 => ⟨S16384x8x32, .f32⟩
  | 115 => ⟨S16384x8x32, .f32⟩
  | 116 => ⟨S16384x8x32, .f32⟩
  | 117 => ⟨S16384x8x32, .f32⟩
  | 118 => ⟨S16384x8x32, .f32⟩
  | 119 => ⟨S16384x8x32, .f32⟩
  | 120 => ⟨S16384x8x32, .f32⟩
  | 121 => ⟨S16384x8x64, .f32⟩
  | 122 => ⟨S16384x8x64, .f32⟩
  | 123 => ⟨S16384x32, .f32⟩
  | 124 => ⟨S16384x1x32, .f32⟩
  | 125 => ⟨S16384x32, .f32⟩
  | 126 => ⟨S16384x1x32, .f32⟩
  | 127 => ⟨S16384x8x32, .f32⟩
  | _ => ⟨S16384x2048, .f32⟩

abbrev hbmTy0_1 (i : Nat) : BufTy := match i % 128 with
  | 0 => ⟨S16384x8x32, .f32⟩
  | 1 => ⟨S16384x8x32, .f32⟩
  | 2 => ⟨S16384x8x32, .f32⟩
  | 3 => ⟨S16384x8x32, .f32⟩
  | 4 => ⟨S16384x8x32, .f32⟩
  | 5 => ⟨S16384x8x32, .f32⟩
  | 6 => ⟨S16384x8x32, .f32⟩
  | 7 => ⟨S16384x8x32, .f32⟩
  | 8 => ⟨S16384x8x32, .f32⟩
  | 9 => ⟨S16384x8x32, .f32⟩
  | 10 => ⟨S16384x8x32, .f32⟩
  | 11 => ⟨S16384x8x64, .f32⟩
  | 12 => ⟨S16384x8x128, .f32⟩
  | 13 => ⟨S16384x256, .f32⟩
  | 14 => ⟨S16384x2x128, .f32⟩
  | 15 => ⟨S128, .f32⟩
  | 16 => ⟨S16384x2x128, .f32⟩
  | 17 => ⟨S_, .f32⟩
  | 18 => ⟨S16384x2, .f32⟩
  | 19 => ⟨S16384x2x1, .f32⟩
  | 20 => ⟨S_, .f32⟩
  | 21 => ⟨S16384x2x1, .f32⟩
  | 22 => ⟨S16384x2x1, .f32⟩
  | 23 => ⟨S_, .f32⟩
  | 24 => ⟨S16384x2x1, .f32⟩
  | 25 => ⟨S16384x2x1, .f32⟩
  | 26 => ⟨S16384x2x1, .f32⟩
  | 27 => ⟨S16384x2x128, .f32⟩
  | 28 => ⟨S16384x2x128, .f32⟩
  | 29 => ⟨S1x1x128, .f32⟩
  | 30 => ⟨S16384x2x128, .f32⟩
  | 31 => ⟨S16384x2x128, .f32⟩
  | 32 => ⟨S16384x2x64, .f32⟩
  | 33 => ⟨S16384x32, .f32⟩
  | 34 => ⟨S16384x1x32, .f32⟩
  | 35 => ⟨S16384x32, .f32⟩
  | 36 => ⟨S16384x1x32, .f32⟩
  | 37 => ⟨S16384x2x32, .f32⟩
  | 38 => ⟨S16384x2x32, .f32⟩
  | 39 => ⟨S16384x2x32, .f32⟩
  | 40 => ⟨S16384x2x32, .f32⟩
  | 41 => ⟨S16384x2x32, .f32⟩
  | 42 => ⟨S16384x2x32, .f32⟩
  | 43 => ⟨S16384x2x32, .f32⟩
  | 44 => ⟨S16384x2x32, .f32⟩
  | 45 => ⟨S16384x2x32, .f32⟩
  | 46 => ⟨S16384x2x32, .f32⟩
  | 47 => ⟨S16384x2x32, .f32⟩
  | 48 => ⟨S16384x2x32, .f32⟩
  | 49 => ⟨S16384x2x64, .f32⟩
  | 50 => ⟨S16384x2x64, .f32⟩
  | 51 => ⟨S16384x32, .f32⟩
  | 52 => ⟨S16384x1x32, .f32⟩
  | 53 => ⟨S16384x32, .f32⟩
  | 54 => ⟨S16384x1x32, .f32⟩
  | 55 => ⟨S16384x2x32, .f32⟩
  | 56 => ⟨S16384x2x32, .f32⟩
  | 57 => ⟨S16384x2x32, .f32⟩
  | 58 => ⟨S16384x2x32, .f32⟩
  | 59 => ⟨S16384x2x32, .f32⟩
  | 60 => ⟨S16384x2x32, .f32⟩
  | 61 => ⟨S16384x2x32, .f32⟩
  | 62 => ⟨S16384x2x32, .f32⟩
  | 63 => ⟨S16384x2x32, .f32⟩
  | 64 => ⟨S16384x2x32, .f32⟩
  | 65 => ⟨S16384x2x32, .f32⟩
  | 66 => ⟨S16384x2x32, .f32⟩
  | 67 => ⟨S16384x2x64, .f32⟩
  | 68 => ⟨S16384x2x128, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S16384x8x128, .f32⟩
  | 77 => ⟨S16384x8x128, .f32⟩
  | 78 => ⟨S16384x1024, .f32⟩
  | 79 => ⟨S16384x256, .f32⟩
  | 80 => ⟨S16384x256, .f32⟩
  | 81 => ⟨S16384x1536, .f32⟩
  | 82 => ⟨S16384x1536, .bf16⟩
  | 83 => ⟨S1536x16384, .bf16⟩
  | 84 => ⟨S16384x2048, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst : Ref sig .tc := ⟨.hbm, 50, rfl⟩
abbrev main_v7 : Ref sig .tc := ⟨.hbm, 51, rfl⟩
abbrev main_v8 : Ref sig .tc := ⟨.hbm, 52, rfl⟩
abbrev main_cst_1 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_2 : Ref sig .tc := ⟨.hbm, 68, rfl⟩
abbrev main_v23 : Ref sig .tc := ⟨.hbm, 69, rfl⟩
abbrev main_v24 : Ref sig .tc := ⟨.hbm, 70, rfl⟩
abbrev main_cst_3 : Ref sig .tc := ⟨.hbm, 71, rfl⟩
abbrev main_v25 : Ref sig .tc := ⟨.hbm, 72, rfl⟩
abbrev main_v26 : Ref sig .tc := ⟨.hbm, 73, rfl⟩
abbrev main_cst_4 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_cst_5 : Ref sig .tc := ⟨.hbm, 89, rfl⟩
abbrev main_v41 : Ref sig .tc := ⟨.hbm, 90, rfl⟩
abbrev main_v42 : Ref sig .tc := ⟨.hbm, 91, rfl⟩
abbrev main_cst_6 : Ref sig .tc := ⟨.hbm, 92, rfl⟩
abbrev main_v43 : Ref sig .tc := ⟨.hbm, 93, rfl⟩
abbrev main_v44 : Ref sig .tc := ⟨.hbm, 94, rfl⟩
abbrev main_cst_7 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_8 : Ref sig .tc := ⟨.hbm, 145, rfl⟩
abbrev main_v94 : Ref sig .tc := ⟨.hbm, 146, rfl⟩
abbrev main_v95 : Ref sig .tc := ⟨.hbm, 147, rfl⟩
abbrev main_cst_9 : Ref sig .tc := ⟨.hbm, 148, rfl⟩
abbrev main_v96 : Ref sig .tc := ⟨.hbm, 149, rfl⟩
abbrev main_v97 : Ref sig .tc := ⟨.hbm, 150, rfl⟩
abbrev main_cst_10 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_11 : Ref sig .tc := ⟨.hbm, 197, rfl⟩
abbrev main_v143 : Ref sig .tc := ⟨.hbm, 198, rfl⟩
abbrev main_cst_12 : Ref sig .tc := ⟨.hbm, 199, rfl⟩
abbrev main_v144 : Ref sig .tc := ⟨.hbm, 200, rfl⟩
abbrev main_v145 : Ref sig .tc := ⟨.hbm, 201, rfl⟩
abbrev main_cst_13 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩

abbrev nD : Nat := 1
abbrev τ : Topo := Topo.v7x

variable {F : FTy → Type} [FloatOps F]
-- ==== Proof.AttnLoop.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.Pipeline.Value
public import Idealize.ShloMosaic.Lib.WholeRead
public import Idealize.ShloMosaic.Lib.VecWindow

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The keys of tile `k`: rows `512 k` to `512 k + 511` of the key scratch. -/
def knSl (kn : Vec F S16384x128 .bf16) (k : Fin k0_t1_loop.trips) : Vec F S512x128 .bf16 :=
  View.ld kn (Rect.unit (s := S16384x128) (k0_off1 k) S512x128.size (k0_off1_inb k))

/-- The values of tile `k`, with the row of ones below them. -/
def vxSl (vx : Vec F S32x144x512 .bf16) (k : Fin k0_t1_loop.trips) : Vec F S1x144x512 .bf16 :=
  View.ld vx (Rect.unit (s := S32x144x512) (k0_off2 k) S1x144x512.size (k0_off2_inb k))

/-- The keys of tile `k` as the running-maximum loop addresses them. -/
def knSl2 (kn : Vec F S16384x128 .bf16) (k : Fin k0_t2_loop.trips) : Vec F S512x128 .bf16 :=
  View.ld kn (Rect.unit (s := S16384x128) (k0_off3 k) S512x128.size (k0_off3_inb k))

/-- The values of tile `k` as the running-maximum loop addresses them. -/
def vxSl2 (vx : Vec F S32x144x512 .bf16) (k : Fin k0_t2_loop.trips) : Vec F S1x144x512 .bf16 :=
  View.ld vx (Rect.unit (s := S32x144x512) (k0_off4 k) S1x144x512.size (k0_off4_inb k))

/-- The plain accumulator before tile `k`, started at `a0`. -/
def accP (qt : Vec F S128x2048 .bf16) (kn : Vec F S16384x128 .bf16) (vx : Vec F S32x144x512 .bf16) (a0 : Vec F S144x2048 .f32) : ℕ → Vec F S144x2048 .f32
  | 0 => a0
  | k + 1 => if h : k < k0_t1_loop.trips then k0_pay165 (knSl kn ⟨k, h⟩) qt (accP qt kn vx a0 k) (vxSl vx ⟨k, h⟩) else accP qt kn vx a0 k

theorem accP_succ (qt : Vec F S128x2048 .bf16) (kn : Vec F S16384x128 .bf16) (vx : Vec F S32x144x512 .bf16) (a0 : Vec F S144x2048 .f32) (k : Fin k0_t1_loop.trips) :
    accP qt kn vx a0 (k.val + 1) = k0_pay165 (knSl kn k) qt (accP qt kn vx a0 k.val) (vxSl vx k) := by
  rw [accP, dif_pos k.isLt]

/-- The running maximum and the rescaled accumulator before tile `k`, started at `m0` and `a0`. -/
def accO (qt : Vec F S128x2048 .bf16) (kn : Vec F S16384x128 .bf16) (vx : Vec F S32x144x512 .bf16) (m0 : Vec F S1x2048 .f32) (a0 : Vec F S144x2048 .f32) :
    ℕ → Vec F S1x2048 .f32 × Vec F S144x2048 .f32
  | 0 => (m0, a0)
  | k + 1 => if h : k < k0_t2_loop.trips then
      (k0_pay170 (knSl2 kn ⟨k, h⟩) qt (accO qt kn vx m0 a0 k).1,
        k0_pay169 (knSl2 kn ⟨k, h⟩) qt (accO qt kn vx m0 a0 k).1 (accO qt kn vx m0 a0 k).2 (vxSl2 vx ⟨k, h⟩))
      else accO qt kn vx m0 a0 k

theorem accO_succ (qt : Vec F S128x2048 .bf16) (kn : Vec F S16384x128 .bf16) (vx : Vec F S32x144x512 .bf16) (m0 : Vec F S1x2048 .f32) (a0 : Vec F S144x2048 .f32) (k : Fin k0_t2_loop.trips) :
    accO qt kn vx m0 a0 (k.val + 1) = (k0_pay170 (knSl2 kn k) qt (accO qt kn vx m0 a0 k.val).1,
        k0_pay169 (knSl2 kn k) qt (accO qt kn vx m0 a0 k.val).1 (accO qt kn vx m0 a0 k.val).2 (vxSl2 vx k)) := by
  rw [accO, dif_pos k.isLt]

/-- The one store of the whole accumulator that stands for the first `k` trips' stores: none before the first trip. -/
def pc19 (a : ℕ → Vec F S144x2048 .f32) : ℕ → List (View.Piece (Elt F) S144x2048 .f32)
  | 0 => []
  | k + 1 => [⟨Rect.unit (s := S144x2048) ![0, 0] S144x2048.size inb_S144x2048_S144x2048_0_0, a (k + 1)⟩]

/-- The same for the running maximum. -/
def pc18 (a : ℕ → Vec F S1x2048 .f32) : ℕ → List (View.Piece (Elt F) S1x2048 .f32)
  | 0 => []
  | k + 1 => [⟨Rect.unit (s := S1x2048) ![0, 0] S1x2048.size inb_S1x2048_S1x2048_0_0, a (k + 1)⟩]

theorem read_pc19 (m : Memref sig .tc .vmem S144x2048 .f32) (hm : m.IsWhole) (G : m.view.ty.Contents (Elt F)) (a : ℕ → Vec F S144x2048 .f32)
    (h0 : a 0 = m.view.read (Elt F) G) (k : ℕ) : m.view.read (Elt F) (m.view.writes (Elt F) G (pc19 a k)) = a k := by
  cases k with
  | zero => exact h0.symm
  | succ k => exact View.read_writes_full _ _ _ _ _

theorem read_pc18 (m : Memref sig .tc .vmem S1x2048 .f32) (hm : m.IsWhole) (G : m.view.ty.Contents (Elt F)) (a : ℕ → Vec F S1x2048 .f32)
    (h0 : a 0 = m.view.read (Elt F) G) (k : ℕ) : m.view.read (Elt F) (m.view.writes (Elt F) G (pc18 a k)) = a k := by
  cases k with
  | zero => exact h0.symm
  | succ k => exact View.read_writes_full _ _ _ _ _

/-- A store of the whole accumulator forgets what it held. -/
theorem writes19 (m : Memref sig .tc .vmem S144x2048 .f32) (hm : m.IsWhole) (f : m.view.ty.Contents (Elt F)) (g : m.view.ty.Contents (Elt F)) (w w' : Vec F S144x2048 .f32) (h : w = w') :
    m.view.writes (Elt F) f [⟨Rect.unit (s := S144x2048) ![0, 0] S144x2048.size inb_S144x2048_S144x2048_0_0, w⟩] = m.view.writes (Elt F) g [⟨Rect.unit (s := S144x2048) ![0, 0] S144x2048.size inb_S144x2048_S144x2048_0_0, w'⟩] := by
  subst h
  rw [hm.eq_unread (View.read_writes_full _ f inb_S144x2048_S144x2048_0_0 w []), hm.eq_unread (View.read_writes_full _ g inb_S144x2048_S144x2048_0_0 w [])]

theorem writes18 (m : Memref sig .tc .vmem S1x2048 .f32) (hm : m.IsWhole) (f : m.view.ty.Contents (Elt F)) (g : m.view.ty.Contents (Elt F)) (w w' : Vec F S1x2048 .f32) (h : w = w') :
    m.view.writes (Elt F) f [⟨Rect.unit (s := S1x2048) ![0, 0] S1x2048.size inb_S1x2048_S1x2048_0_0, w⟩] = m.view.writes (Elt F) g [⟨Rect.unit (s := S1x2048) ![0, 0] S1x2048.size inb_S1x2048_S1x2048_0_0, w'⟩] := by
  subst h
  rw [hm.eq_unread (View.read_writes_full _ f inb_S1x2048_S1x2048_0_0 w []), hm.eq_unread (View.read_writes_full _ g inb_S1x2048_S1x2048_0_0 w [])]

/-- One trip of the plain loop takes one tile into the accumulator. -/
theorem trip1 (𝒱 : Variants) (c : Dev nD) (bd : Option 𝒱.V) (i : grid0.Coords) (arg2 : Memref sig .tc .vmem S512x512 .bf16) (harg2 : arg2.IsWhole) (arg3 : Memref sig .tc .vmem S128x16384 .bf16) (harg3 : arg3.IsWhole) (arg4 : Memref sig .tc .vmem S128x16384 .bf16) (harg4 : arg4.IsWhole) (arg5 : Memref sig .tc .vmem S32x2048 .f32) (harg5 : arg5.IsWhole) (arg6 : Memref sig .tc .vmem S32x8192 .f32) (harg6 : arg6.IsWhole) (arg7 : Memref sig .tc .vmem S128x2048 .f32) (harg7 : arg7.IsWhole) (arg8 : Memref sig .tc .vmem S32x2048 .f32) (harg8 : arg8.IsWhole) (arg9 : Memref sig .tc .vmem S512x512 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S32x2048 .bf16) (harg13 : arg13.IsWhole) (arg14 : Memref sig .tc .vmem S128x2048 .bf16) (harg14 : arg14.IsWhole) (arg15 : Memref sig .tc .vmem S16384x128 .bf16) (harg15 : arg15.IsWhole) (arg16 : Memref sig .tc .vmem S32x144x512 .bf16) (harg16 : arg16.IsWhole) (arg17 : Memref sig .tc .smem S1 .f32) (harg17 : arg17.IsWhole) (arg18 : Memref sig .tc .vmem S1x2048 .f32) (harg18 : arg18.IsWhole) (arg19 : Memref sig .tc .vmem S144x2048 .f32) (harg19 : arg19.IsWhole)
    (X14 : BufTy.Contents (Elt F) arg14.view.ty) (X15 : BufTy.Contents (Elt F) arg15.view.ty) (X16 : BufTy.Contents (Elt F) arg16.view.ty) (G19 : BufTy.Contents (Elt F) arg19.view.ty) (k : Fin k0_t1_loop.trips) (E : Set ℕ) :
    (iprop((arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg19.view.loc (c : Thread nD τ) ↦[arg19.view.set]{fullShare} arg19.view.writes (Elt F) G19 (pc19 (accP (arg14.view.read (Elt F) X14) (arg15.view.read (Elt F) X15) (arg16.view.read (Elt F) X16) (arg19.view.read (Elt F) G19)) (k.val)))) : sProp 𝕄)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k PUnit.unit)
          (fun _ => iprop((arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg19.view.loc (c : Thread nD τ) ↦[arg19.view.set]{fullShare} arg19.view.writes (Elt F) G19 (pc19 (accP (arg14.view.read (Elt F) X14) (arg15.view.read (Elt F) X15) (arg16.view.read (Elt F) X16) (arg19.view.read (Elt F) G19)) (k.val + 1))))) := by
  have hk : k.val < 32 := Nat.lt_of_lt_of_le k.isLt k0_t1_abs.2.1
  have hR19 := fun a h0 => read_pc19 arg19 harg19 G19 a h0 k.val
  iintro ⟨H14, H15, H16, H19⟩
  have e19 : ∀ f w, w = accP (arg14.view.read (Elt F) X14) (arg15.view.read (Elt F) X15) (arg16.view.read (Elt F) X16) (arg19.view.read (Elt F) G19) (k.val + 1) →
      arg19.view.writes (Elt F) f [⟨Rect.unit (s := S144x2048) ![0, 0] S144x2048.size inb_S144x2048_S144x2048_0_0, w⟩] = arg19.view.writes (Elt F) G19 (pc19 (accP (arg14.view.read (Elt F) X14) (arg15.view.read (Elt F) X15) (arg16.view.read (Elt F) X16) (arg19.view.read (Elt F) G19)) (k.val + 1)) :=
    fun f w h => writes19 arg19 harg19 f G19 w _ h
  generalize hw : arg19.view.writes (Elt F) G19 (pc19 (accP (arg14.view.read (Elt F) X14) (arg15.view.read (Elt F) X15) (arg16.view.read (Elt F) X16) (arg19.view.read (Elt F) G19)) k.val) = W19
  have hr19 : arg19.view.read (Elt F) W19 = (accP (arg14.view.read (Elt F) X14) (arg15.view.read (Elt F) X15) (arg16.view.read (Elt F) X16) (arg19.view.read (Elt F) G19)) k.val := by rw [← hw]; exact hR19 _ rfl
  unfold k0_t1_body
  sl_exec
  sl_step
  isplitl [H14]; · iexact H14
  isplitl [H15]; · iexact H15
  isplitl [H16]; · iexact H16
  rw [← e19 W19 _ ?_]
  · iexact H19
  · rw [accP_succ, ← hr19, View.readAt_full, View.readAt_full]; rfl

/-- What holds before trip `k` of the plain loop. -/
abbrev inv1 (c : Dev nD) (i : grid0.Coords) (arg2 : Memref sig .tc .vmem S512x512 .bf16) (harg2 : arg2.IsWhole) (arg3 : Memref sig .tc .vmem S128x16384 .bf16) (harg3 : arg3.IsWhole) (arg4 : Memref sig .tc .vmem S128x16384 .bf16) (harg4 : arg4.IsWhole) (arg5 : Memref sig .tc .vmem S32x2048 .f32) (harg5 : arg5.IsWhole) (arg6 : Memref sig .tc .vmem S32x8192 .f32) (harg6 : arg6.IsWhole) (arg7 : Memref sig .tc .vmem S128x2048 .f32) (harg7 : arg7.IsWhole) (arg8 : Memref sig .tc .vmem S32x2048 .f32) (harg8 : arg8.IsWhole) (arg9 : Memref sig .tc .vmem S512x512 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S32x2048 .bf16) (harg13 : arg13.IsWhole) (arg14 : Memref sig .tc .vmem S128x2048 .bf16) (harg14 : arg14.IsWhole) (arg15 : Memref sig .tc .vmem S16384x128 .bf16) (harg15 : arg15.IsWhole) (arg16 : Memref sig .tc .vmem S32x144x512 .bf16) (harg16 : arg16.IsWhole) (arg17 : Memref sig .tc .smem S1 .f32) (harg17 : arg17.IsWhole) (arg18 : Memref sig .tc .vmem S1x2048 .f32) (harg18 : arg18.IsWhole) (arg19 : Memref sig .tc .vmem S144x2048 .f32) (harg19 : arg19.IsWhole)
    (X14 : BufTy.Contents (Elt F) arg14.view.ty) (X15 : BufTy.Contents (Elt F) arg15.view.ty) (X16 : BufTy.Contents (Elt F) arg16.view.ty) (G19 : BufTy.Contents (Elt F) arg19.view.ty) (k : ℕ) (_u : PUnit) : sProp 𝕄 :=
  iprop((arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ ∃ f, (arg19.view.loc (c : Thread nD τ) ↦[arg19.view.set]{fullShare} f) ∗ ⌜f = arg19.view.writes (Elt F) G19 (pc19 (accP (arg14.view.read (Elt F) X14) (arg15.view.read (Elt F) X15) (arg16.view.read (Elt F) X16) (arg19.view.read (Elt F) G19)) k)⌝)

set_option warn.classDefReducibility false in
/-- The plain loop by its invariant. -/
@[sl_loop] def loopInv1 (𝒱 : Variants) (c : Dev nD) (bd : Option 𝒱.V) (E : Set ℕ) (i : grid0.Coords) (arg2 : Memref sig .tc .vmem S512x512 .bf16) (harg2 : arg2.IsWhole) (arg3 : Memref sig .tc .vmem S128x16384 .bf16) (harg3 : arg3.IsWhole) (arg4 : Memref sig .tc .vmem S128x16384 .bf16) (harg4 : arg4.IsWhole) (arg5 : Memref sig .tc .vmem S32x2048 .f32) (harg5 : arg5.IsWhole) (arg6 : Memref sig .tc .vmem S32x8192 .f32) (harg6 : arg6.IsWhole) (arg7 : Memref sig .tc .vmem S128x2048 .f32) (harg7 : arg7.IsWhole) (arg8 : Memref sig .tc .vmem S32x2048 .f32) (harg8 : arg8.IsWhole) (arg9 : Memref sig .tc .vmem S512x512 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S32x2048 .bf16) (harg13 : arg13.IsWhole) (arg14 : Memref sig .tc .vmem S128x2048 .bf16) (harg14 : arg14.IsWhole) (arg15 : Memref sig .tc .vmem S16384x128 .bf16) (harg15 : arg15.IsWhole) (arg16 : Memref sig .tc .vmem S32x144x512 .bf16) (harg16 : arg16.IsWhole) (arg17 : Memref sig .tc .smem S1 .f32) (harg17 : arg17.IsWhole) (arg18 : Memref sig .tc .vmem S1x2048 .f32) (harg18 : arg18.IsWhole) (arg19 : Memref sig .tc .vmem S144x2048 .f32) (harg19 : arg19.IsWhole)
    (X14 : BufTy.Contents (Elt F) arg14.view.ty) (X15 : BufTy.Contents (Elt F) arg15.view.ty) (X16 : BufTy.Contents (Elt F) arg16.view.ty) (G19 : BufTy.Contents (Elt F) arg19.view.ty) :
    Idealize.ShloMosaic.LoopInv (M := 𝕄) Idealize.ShloMosaic.frame (wpE defs₀ 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) where
  inv := inv1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X14 X15 X16 G19
  step k acc := by
    iintro ⟨H14, H15, H16, ⟨%f, H19, %h⟩⟩
    subst h
    iapply (wp_wand_r Idealize.ShloMosaic.frame (wpE (defs₀ (F := F)) 𝒱 (c : Thread nD τ) bd) E)
    isplitl [H14 H15 H16 H19]
    · iapply (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X14 X15 X16 G19 k E)
      isplitl [H14]; · iexact H14
      isplitl [H15]; · iexact H15
      isplitl [H16]; · iexact H16
      iexact H19
    · iintro %_ ⟨H14, H15, H16, H19⟩
      isplitl [H14]; · iexact H14
      isplitl [H15]; · iexact H15
      isplitl [H16]; · iexact H16
      iexists _; isplitl [H19]; · iexact H19
      ipureintro; rfl

/-- One trip of the running-maximum loop takes one tile into the accumulator. -/
theorem trip2 (𝒱 : Variants) (c : Dev nD) (bd : Option 𝒱.V) (i : grid0.Coords) (arg2 : Memref sig .tc .vmem S512x512 .bf16) (harg2 : arg2.IsWhole) (arg3 : Memref sig .tc .vmem S128x16384 .bf16) (harg3 : arg3.IsWhole) (arg4 : Memref sig .tc .vmem S128x16384 .bf16) (harg4 : arg4.IsWhole) (arg5 : Memref sig .tc .vmem S32x2048 .f32) (harg5 : arg5.IsWhole) (arg6 : Memref sig .tc .vmem S32x8192 .f32) (harg6 : arg6.IsWhole) (arg7 : Memref sig .tc .vmem S128x2048 .f32) (harg7 : arg7.IsWhole) (arg8 : Memref sig .tc .vmem S32x2048 .f32) (harg8 : arg8.IsWhole) (arg9 : Memref sig .tc .vmem S512x512 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S32x2048 .bf16) (harg13 : arg13.IsWhole) (arg14 : Memref sig .tc .vmem S128x2048 .bf16) (harg14 : arg14.IsWhole) (arg15 : Memref sig .tc .vmem S16384x128 .bf16) (harg15 : arg15.IsWhole) (arg16 : Memref sig .tc .vmem S32x144x512 .bf16) (harg16 : arg16.IsWhole) (arg17 : Memref sig .tc .smem S1 .f32) (harg17 : arg17.IsWhole) (arg18 : Memref sig .tc .vmem S1x2048 .f32) (harg18 : arg18.IsWhole) (arg19 : Memref sig .tc .vmem S144x2048 .f32) (harg19 : arg19.IsWhole)
    (X14 : BufTy.Contents (Elt F) arg14.view.ty) (X15 : BufTy.Contents (Elt F) arg15.view.ty) (X16 : BufTy.Contents (Elt F) arg16.view.ty) (G18 : BufTy.Contents (Elt F) arg18.view.ty) (G19 : BufTy.Contents (Elt F) arg19.view.ty) (k : Fin k0_t2_loop.trips) (E : Set ℕ) :
    (iprop((arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg18.view.loc (c : Thread nD τ) ↦[arg18.view.set]{fullShare} arg18.view.writes (Elt F) G18 (pc18 (fun n => (accO (arg14.view.read (Elt F) X14) (arg15.view.read (Elt F) X15) (arg16.view.read (Elt F) X16) (arg18.view.read (Elt F) G18) (arg19.view.read (Elt F) G19) n).1) (k.val))) ∗ (arg19.view.loc (c : Thread nD τ) ↦[arg19.view.set]{fullShare} arg19.view.writes (Elt F) G19 (pc19 (fun n => (accO (arg14.view.read (Elt F) X14) (arg15.view.read (Elt F) X15) (arg16.view.read (Elt F) X16) (arg18.view.read (Elt F) G18) (arg19.view.read (Elt F) G19) n).2) (k.val)))) : sProp 𝕄)
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k PUnit.unit)
          (fun _ => iprop((arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg18.view.loc (c : Thread nD τ) ↦[arg18.view.set]{fullShare} arg18.view.writes (Elt F) G18 (pc18 (fun n => (accO (arg14.view.read (Elt F) X14) (arg15.view.read (Elt F) X15) (arg16.view.read (Elt F) X16) (arg18.view.read (Elt F) G18) (arg19.view.read (Elt F) G19) n).1) (k.val + 1))) ∗ (arg19.view.loc (c : Thread nD τ) ↦[arg19.view.set]{fullShare} arg19.view.writes (Elt F) G19 (pc19 (fun n => (accO (arg14.view.read (Elt F) X14) (arg15.view.read (Elt F) X15) (arg16.view.read (Elt F) X16) (arg18.view.read (Elt F) G18) (arg19.view.read (Elt F) G19) n).2) (k.val + 1))))) := by
  have hk : k.val < 32 := Nat.lt_of_lt_of_le k.isLt k0_t2_abs.2.1
  have hR19 := fun a h0 => read_pc19 arg19 harg19 G19 a h0 k.val
  have hR18 := fun a h0 => read_pc18 arg18 harg18 G18 a h0 k.val
  iintro ⟨H14, H15, H16, H18, H19⟩
  have e19 : ∀ f w, w = (accO (arg14.view.read (Elt F) X14) (arg15.view.read (Elt F) X15) (arg16.view.read (Elt F) X16) (arg18.view.read (Elt F) G18) (arg19.view.read (Elt F) G19) (k.val + 1)).2 →
      arg19.view.writes (Elt F) f [⟨Rect.unit (s := S144x2048) ![0, 0] S144x2048.size inb_S144x2048_S144x2048_0_0, w⟩] = arg19.view.writes (Elt F) G19 (pc19 (fun n => (accO (arg14.view.read (Elt F) X14) (arg15.view.read (Elt F) X15) (arg16.view.read (Elt F) X16) (arg18.view.read (Elt F) G18) (arg19.view.read (Elt F) G19) n).2) (k.val + 1)) :=
    fun f w h => writes19 arg19 harg19 f G19 w _ h
  have e18 : ∀ f w, w = (accO (arg14.view.read (Elt F) X14) (arg15.view.read (Elt F) X15) (arg16.view.read (Elt F) X16) (arg18.view.read (Elt F) G18) (arg19.view.read (Elt F) G19) (k.val + 1)).1 →
      arg18.view.writes (Elt F) f [⟨Rect.unit (s := S1x2048) ![0, 0] S1x2048.size inb_S1x2048_S1x2048_0_0, w⟩] = arg18.view.writes (Elt F) G18 (pc18 (fun n => (accO (arg14.view.read (Elt F) X14) (arg15.view.read (Elt F) X15) (arg16.view.read (Elt F) X16) (arg18.view.read (Elt F) G18) (arg19.view.read (Elt F) G19) n).1) (k.val + 1)) :=
    fun f w h => writes18 arg18 harg18 f G18 w _ h
  generalize hw : arg19.view.writes (Elt F) G19 (pc19 (fun n => (accO (arg14.view.read (Elt F) X14) (arg15.view.read (Elt F) X15) (arg16.view.read (Elt F) X16) (arg18.view.read (Elt F) G18) (arg19.view.read (Elt F) G19) n).2) k.val) = W19
  have hr19 : arg19.view.read (Elt F) W19 = (fun n => (accO (arg14.view.read (Elt F) X14) (arg15.view.read (Elt F) X15) (arg16.view.read (Elt F) X16) (arg18.view.read (Elt F) G18) (arg19.view.read (Elt F) G19) n).2) k.val := by rw [← hw]; exact hR19 _ rfl
  generalize hw' : arg18.view.writes (Elt F) G18 (pc18 (fun n => (accO (arg14.view.read (Elt F) X14) (arg15.view.read (Elt F) X15) (arg16.view.read (Elt F) X16) (arg18.view.read (Elt F) G18) (arg19.view.read (Elt F) G19) n).1) k.val) = W18
  have hr18 : arg18.view.read (Elt F) W18 = (fun n => (accO (arg14.view.read (Elt F) X14) (arg15.view.read (Elt F) X15) (arg16.view.read (Elt F) X16) (arg18.view.read (Elt F) G18) (arg19.view.read (Elt F) G19) n).1) k.val := by rw [← hw']; exact hR18 _ rfl
  unfold k0_t2_body
  sl_exec
  sl_step
  isplitl [H14]; · iexact H14
  isplitl [H15]; · iexact H15
  isplitl [H16]; · iexact H16
  isplitl [H18]
  · rw [← e18 W18 _ ?_]
    · iexact H18
    · rw [accO_succ]; dsimp only; exact congr (congrArg (k0_pay170 _) (View.readAt_full _ _ _)) ((View.readAt_full _ _ _).trans hr18)
  · rw [← e19 W19 _ ?_]
    · iexact H19
    · rw [accO_succ]; dsimp only; exact congr (congr (congr (congrArg (k0_pay169 _) (View.readAt_full _ _ _)) ((View.readAt_full _ _ _).trans hr18)) ((View.readAt_full _ _ _).trans hr19)) rfl

/-- What holds before trip `k` of the running-maximum loop. -/
abbrev inv2 (c : Dev nD) (i : grid0.Coords) (arg2 : Memref sig .tc .vmem S512x512 .bf16) (harg2 : arg2.IsWhole) (arg3 : Memref sig .tc .vmem S128x16384 .bf16) (harg3 : arg3.IsWhole) (arg4 : Memref sig .tc .vmem S128x16384 .bf16) (harg4 : arg4.IsWhole) (arg5 : Memref sig .tc .vmem S32x2048 .f32) (harg5 : arg5.IsWhole) (arg6 : Memref sig .tc .vmem S32x8192 .f32) (harg6 : arg6.IsWhole) (arg7 : Memref sig .tc .vmem S128x2048 .f32) (harg7 : arg7.IsWhole) (arg8 : Memref sig .tc .vmem S32x2048 .f32) (harg8 : arg8.IsWhole) (arg9 : Memref sig .tc .vmem S512x512 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S32x2048 .bf16) (harg13 : arg13.IsWhole) (arg14 : Memref sig .tc .vmem S128x2048 .bf16) (harg14 : arg14.IsWhole) (arg15 : Memref sig .tc .vmem S16384x128 .bf16) (harg15 : arg15.IsWhole) (arg16 : Memref sig .tc .vmem S32x144x512 .bf16) (harg16 : arg16.IsWhole) (arg17 : Memref sig .tc .smem S1 .f32) (harg17 : arg17.IsWhole) (arg18 : Memref sig .tc .vmem S1x2048 .f32) (harg18 : arg18.IsWhole) (arg19 : Memref sig .tc .vmem S144x2048 .f32) (harg19 : arg19.IsWhole)
    (X14 : BufTy.Contents (Elt F) arg14.view.ty) (X15 : BufTy.Contents (Elt F) arg15.view.ty) (X16 : BufTy.Contents (Elt F) arg16.view.ty) (G18 : BufTy.Contents (Elt F) arg18.view.ty) (G19 : BufTy.Contents (Elt F) arg19.view.ty) (k : ℕ) (_u : PUnit) : sProp 𝕄 :=
  iprop((arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (∃ f, (arg18.view.loc (c : Thread nD τ) ↦[arg18.view.set]{fullShare} f) ∗ ⌜f = arg18.view.writes (Elt F) G18 (pc18 (fun n => (accO (arg14.view.read (Elt F) X14) (arg15.view.read (Elt F) X15) (arg16.view.read (Elt F) X16) (arg18.view.read (Elt F) G18) (arg19.view.read (Elt F) G19) n).1) k)⌝) ∗ (∃ f, (arg19.view.loc (c : Thread nD τ) ↦[arg19.view.set]{fullShare} f) ∗ ⌜f = arg19.view.writes (Elt F) G19 (pc19 (fun n => (accO (arg14.view.read (Elt F) X14) (arg15.view.read (Elt F) X15) (arg16.view.read (Elt F) X16) (arg18.view.read (Elt F) G18) (arg19.view.read (Elt F) G19) n).2) k)⌝))

set_option warn.classDefReducibility false in
/-- The running-maximum loop by its invariant. -/
@[sl_loop] def loopInv2 (𝒱 : Variants) (c : Dev nD) (bd : Option 𝒱.V) (E : Set ℕ) (i : grid0.Coords) (arg2 : Memref sig .tc .vmem S512x512 .bf16) (harg2 : arg2.IsWhole) (arg3 : Memref sig .tc .vmem S128x16384 .bf16) (harg3 : arg3.IsWhole) (arg4 : Memref sig .tc .vmem S128x16384 .bf16) (harg4 : arg4.IsWhole) (arg5 : Memref sig .tc .vmem S32x2048 .f32) (harg5 : arg5.IsWhole) (arg6 : Memref sig .tc .vmem S32x8192 .f32) (harg6 : arg6.IsWhole) (arg7 : Memref sig .tc .vmem S128x2048 .f32) (harg7 : arg7.IsWhole) (arg8 : Memref sig .tc .vmem S32x2048 .f32) (harg8 : arg8.IsWhole) (arg9 : Memref sig .tc .vmem S512x512 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S32x2048 .bf16) (harg13 : arg13.IsWhole) (arg14 : Memref sig .tc .vmem S128x2048 .bf16) (harg14 : arg14.IsWhole) (arg15 : Memref sig .tc .vmem S16384x128 .bf16) (harg15 : arg15.IsWhole) (arg16 : Memref sig .tc .vmem S32x144x512 .bf16) (harg16 : arg16.IsWhole) (arg17 : Memref sig .tc .smem S1 .f32) (harg17 : arg17.IsWhole) (arg18 : Memref sig .tc .vmem S1x2048 .f32) (harg18 : arg18.IsWhole) (arg19 : Memref sig .tc .vmem S144x2048 .f32) (harg19 : arg19.IsWhole)
    (X14 : BufTy.Contents (Elt F) arg14.view.ty) (X15 : BufTy.Contents (Elt F) arg15.view.ty) (X16 : BufTy.Contents (Elt F) arg16.view.ty) (G18 : BufTy.Contents (Elt F) arg18.view.ty) (G19 : BufTy.Contents (Elt F) arg19.view.ty) :
    Idealize.ShloMosaic.LoopInv (M := 𝕄) Idealize.ShloMosaic.frame (wpE defs₀ 𝒱 (c : Thread nD τ) bd) E
      k0_t2_loop.lb k0_t2_loop.ub k0_t2_loop.st k0_t2_ok () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) where
  inv := inv2 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X14 X15 X16 G18 G19
  step k acc := by
    iintro ⟨H14, H15, H16, ⟨%f8, H18, %h8⟩, ⟨%f, H19, %h⟩⟩
    subst h
    subst h8
    iapply (wp_wand_r Idealize.ShloMosaic.frame (wpE (defs₀ (F := F)) 𝒱 (c : Thread nD τ) bd) E)
    isplitl [H14 H15 H16 H18 H19]
    · iapply (trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X14 X15 X16 G18 G19 k E)
      isplitl [H14]; · iexact H14
      isplitl [H15]; · iexact H15
      isplitl [H16]; · iexact H16
      isplitl [H18]; · iexact H18
      iexact H19
    · iintro %_ ⟨H14, H15, H16, H18, H19⟩
      isplitl [H14]; · iexact H14
      isplitl [H15]; · iexact H15
      isplitl [H16]; · iexact H16
      isplitl [H18]
      · iexists _; isplitl [H18]; · iexact H18
        ipureintro; rfl
      iexists _; isplitl [H19]; · iexact H19
      ipureintro; rfl

end Cert.KernelIdeal.Attn

end
-- ==== Proof.AttnTail.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.Pipeline.Value
public import Idealize.ShloMosaic.Lib.WholeRead
public import proofs.«01_k».proof.Proof.AttnLoop

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores that lay the four query heads of a block side by side. -/
abbrev qtL (x0 : Vec F S512x512 .bf16) : List (View.Piece (Elt F) S128x2048 .bf16) :=
  [⟨Rect.unit (s := S128x2048) ![0, 1536] S128x512.size inb_S128x2048_S128x512_0_1536, k0_pay162 (View.ld x0 (Rect.unit (s := S512x512) ![384, 0] S128x512.size inb_S512x512_S128x512_384_0))⟩, ⟨Rect.unit (s := S128x2048) ![0, 1024] S128x512.size inb_S128x2048_S128x512_0_1024, k0_pay161 (View.ld x0 (Rect.unit (s := S512x512) ![256, 0] S128x512.size inb_S512x512_S128x512_256_0))⟩, ⟨Rect.unit (s := S128x2048) ![0, 512] S128x512.size inb_S128x2048_S128x512_0_512, k0_pay160 (View.ld x0 (Rect.unit (s := S512x512) ![128, 0] S128x512.size inb_S512x512_S128x512_128_0))⟩, ⟨Rect.unit (s := S128x2048) ![0, 0] S128x512.size inb_S128x2048_S128x512_0_0, k0_pay159 (View.ld x0 (Rect.unit (s := S512x512) ![0, 0] S128x512.size inb_S512x512_S128x512_0_0))⟩]

/-- The four query heads of a block, side by side. -/
def qtF (x0 : Vec F S512x512 .bf16) : Vec F S128x2048 .bf16 := View.canon (qtL x0)

/-- Whether the scores of the block are bounded so that no running maximum is wanted. -/
def condB (x0 : Vec F S512x512 .bf16) (km : Vec F S1 .f32) : BitVec 1 :=
  Scalar.cmpf .ole (k0_pay164 (qtF x0) (View.ld km (Rect.unit (s := S1) ![0] S1.size inb_S1_S1_0) (Shape.Idx.first (numel1_S1.symm ▸ Nat.one_pos)))) (Scalar.ofBits .f32 0x45610000#32)

/-- The accumulator after all tiles, by the loop the bound selects. -/
def accF (x0 : Vec F S512x512 .bf16) (kn : Vec F S16384x128 .bf16) (vx : Vec F S32x144x512 .bf16) (km : Vec F S1 .f32) : Vec F S144x2048 .f32 :=
  if condB x0 km = 1#1 then accP (qtF x0) kn vx k0_pay163 32 else (accO (qtF x0) kn vx k0_pay166 k0_pay163 32).2

/-- The stores of the block's four normalised heads. -/
abbrev outL (a : Vec F S144x2048 .f32) : List (View.Piece (Elt F) S512x512 .bf16) :=
  [⟨Rect.unit (s := S512x512) ![0, 384] S512x128.size inb_S512x512_S512x128_0_384, k0_pay5 (View.ld a (Rect.unit (s := S144x2048) ![0, 0] S128x2048.size inb_S144x2048_S128x2048_0_0)) (View.ld a (Rect.unit (s := S144x2048) ![128, 0] S1x2048.size inb_S144x2048_S1x2048_128_0))⟩, ⟨Rect.unit (s := S512x512) ![0, 256] S512x128.size inb_S512x512_S512x128_0_256, k0_pay4 (View.ld a (Rect.unit (s := S144x2048) ![0, 0] S128x2048.size inb_S144x2048_S128x2048_0_0)) (View.ld a (Rect.unit (s := S144x2048) ![128, 0] S1x2048.size inb_S144x2048_S1x2048_128_0))⟩, ⟨Rect.unit (s := S512x512) ![0, 128] S512x128.size inb_S512x512_S512x128_0_128, k0_pay3 (View.ld a (Rect.unit (s := S144x2048) ![0, 0] S128x2048.size inb_S144x2048_S128x2048_0_0)) (View.ld a (Rect.unit (s := S144x2048) ![128, 0] S1x2048.size inb_S144x2048_S1x2048_128_0))⟩, ⟨Rect.unit (s := S512x512) ![0, 0] S512x128.size inb_S512x512_S512x128_0_0, k0_pay2 (View.ld a (Rect.unit (s := S144x2048) ![0, 0] S128x2048.size inb_S144x2048_S128x2048_0_0)) (View.ld a (Rect.unit (s := S144x2048) ![128, 0] S1x2048.size inb_S144x2048_S1x2048_128_0))⟩]

/-- The block of the attention's output that the body leaves. -/
def attnOut (x0 : Vec F S512x512 .bf16) (kn : Vec F S16384x128 .bf16) (vx : Vec F S32x144x512 .bf16) (km : Vec F S1 .f32) : Vec F S512x512 .bf16 :=
  View.canon (outL (accF x0 kn vx km))

theorem bit_ne (b : BitVec 1) : Scalar.cmpi .ne (Scalar.extui b : BitVec 32) 0#32 = 1#1 ↔ b = 1#1 := by
  revert b; decide

theorem bit_xor (b : BitVec 1) : Scalar.cmpi .ne (Scalar.extui (Scalar.xori b 1#1) : BitVec 32) 0#32 = 1#1 ↔ ¬ b = 1#1 := by
  revert b; decide

theorem read14 (m : Memref sig .tc .vmem S128x2048 .bf16) (f : m.view.ty.Contents (Elt F)) (x0 : Vec F S512x512 .bf16) :
    m.view.read (Elt F) (m.view.writes (Elt F) f (qtL x0)) = qtF x0 :=
  View.read_writes_eq_canon _ _ _ (View.cover_of_tiledL (qtL x0) S128x512.size (by sl_kernel_rfl))

theorem read9 (m : Memref sig .tc .vmem S512x512 .bf16) (f : m.view.ty.Contents (Elt F)) (a : Vec F S144x2048 .f32) :
    m.view.read (Elt F) (m.view.writes (Elt F) f (outL a)) = View.canon (outL a) :=
  View.read_writes_eq_canon _ _ _ (View.cover_of_tiledL (outL a) S512x128.size (by sl_kernel_rfl))

/-- What the accumulator holds after the plain loop. -/
theorem read19P (m : Memref sig .tc .vmem S144x2048 .f32) (f : m.view.ty.Contents (Elt F)) (qt : Vec F S128x2048 .bf16) (kn : Vec F S16384x128 .bf16) (vx : Vec F S32x144x512 .bf16)
    (a0 : Vec F S144x2048 .f32) (L : List (View.Piece (Elt F) S144x2048 .f32)) :
    m.view.read (Elt F) (m.view.writes (Elt F) f (pc19 (accP qt kn vx a0) (Scf.trips k0_t1_loop.lb k0_t1_loop.ub k0_t1_loop.st) ++ L)) = accP qt kn vx a0 32 := by
  have e : Scf.trips k0_t1_loop.lb k0_t1_loop.ub k0_t1_loop.st = 31 + 1 := by decide
  rw [e]; exact View.read_writes_full _ _ _ _ _

/-- What the accumulator holds after the loop with a running maximum. -/
theorem read19O (m : Memref sig .tc .vmem S144x2048 .f32) (f : m.view.ty.Contents (Elt F)) (a : ℕ → Vec F S144x2048 .f32) (L : List (View.Piece (Elt F) S144x2048 .f32)) :
    m.view.read (Elt F) (m.view.writes (Elt F) f (pc19 a (Scf.trips k0_t2_loop.lb k0_t2_loop.ub k0_t2_loop.st) ++ L)) = a 32 := by
  have e : Scf.trips k0_t2_loop.lb k0_t2_loop.ub k0_t2_loop.st = 31 + 1 := by decide
  rw [e]; exact View.read_writes_full _ _ _ _ _

/-- The body, from what its first part leaves: `h20` runs the first part (the weights cast, the keys and values
prepared or kept, the first two query heads laid out), and the rest lays out the others, runs the loop the bound
selects and stores the four normalised heads. -/
theorem body_run (c : Dev nD) (i : grid0.Coords) (arg2 : Memref sig .tc .vmem S512x512 .bf16) (harg2 : arg2.IsWhole) (arg3 : Memref sig .tc .vmem S128x16384 .bf16) (harg3 : arg3.IsWhole) (arg4 : Memref sig .tc .vmem S128x16384 .bf16) (harg4 : arg4.IsWhole) (arg5 : Memref sig .tc .vmem S32x2048 .f32) (harg5 : arg5.IsWhole) (arg6 : Memref sig .tc .vmem S32x8192 .f32) (harg6 : arg6.IsWhole) (arg7 : Memref sig .tc .vmem S128x2048 .f32) (harg7 : arg7.IsWhole) (arg8 : Memref sig .tc .vmem S32x2048 .f32) (harg8 : arg8.IsWhole) (arg9 : Memref sig .tc .vmem S512x512 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S32x2048 .bf16) (harg13 : arg13.IsWhole) (arg14 : Memref sig .tc .vmem S128x2048 .bf16) (harg14 : arg14.IsWhole) (arg15 : Memref sig .tc .vmem S16384x128 .bf16) (harg15 : arg15.IsWhole) (arg16 : Memref sig .tc .vmem S32x144x512 .bf16) (harg16 : arg16.IsWhole) (arg17 : Memref sig .tc .smem S1 .f32) (harg17 : arg17.IsWhole) (arg18 : Memref sig .tc .vmem S1x2048 .f32) (harg18 : arg18.IsWhole) (arg19 : Memref sig .tc .vmem S144x2048 .f32) (harg19 : arg19.IsWhole) (x0 : Vec F S512x512 .bf16) (kn : Vec F S16384x128 .bf16) (vx : Vec F S32x144x512 .bf16) (km : Vec F S1 .f32)
   (E : Set ℕ) (PRE MID : sProp 𝕄) (K : PUnit → sProp 𝕄)
   (h20 : ∀ K' : PUnit → sProp 𝕄, iprop(PRE ∗ (iprop(MID ∗ (arg2.view.loc (c : Thread nD τ) ↦[arg2.view.set]{fullShare} harg2.unread x0) ∗ (∃ f14, (arg14.view.loc (c : Thread nD τ) ↦[arg14.view.set]{fullShare} arg14.view.writes (Elt F) f14 [⟨Rect.unit (s := S128x2048) ![0, 512] S128x512.size inb_S128x2048_S128x512_0_512, k0_pay160 (View.ld x0 (Rect.unit (s := S512x512) ![128, 0] S128x512.size inb_S512x512_S128x512_128_0))⟩, ⟨Rect.unit (s := S128x2048) ![0, 0] S128x512.size inb_S128x2048_S128x512_0_0, k0_pay159 (View.ld x0 (Rect.unit (s := S512x512) ![0, 0] S128x512.size inb_S512x512_S128x512_0_0))⟩])) ∗ (arg15.view.loc (c : Thread nD τ) ↦[arg15.view.set]{fullShare} harg15.unread kn) ∗ (arg16.view.loc (c : Thread nD τ) ↦[arg16.view.set]{fullShare} harg16.unread vx) ∗ (arg17.view.loc (c : Thread nD τ) ↦[arg17.view.set]{fullShare} harg17.unread km)) -∗ K' ⟨⟩))
      ⊢ wp frame (wpE (defs₀ (F := F)) Variants.none (c : Thread nD τ) none) E (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K') :
    iprop(PRE ∗ (∃ d, owns (c : Thread nD τ) arg9 fullShare d) ∗ (∃ d, owns (c : Thread nD τ) arg18 fullShare d) ∗ (∃ d, owns (c : Thread nD τ) arg19 fullShare d) ∗
      (iprop(MID ∗ owns (c : Thread nD τ) arg2 fullShare x0 ∗ owns (c : Thread nD τ) arg9 fullShare (attnOut x0 kn vx km) ∗ (∃ d, owns (c : Thread nD τ) arg14 fullShare d) ∗ owns (c : Thread nD τ) arg15 fullShare kn ∗ owns (c : Thread nD τ) arg16 fullShare vx ∗ owns (c : Thread nD τ) arg17 fullShare km ∗ (∃ d, owns (c : Thread nD τ) arg18 fullShare d) ∗ (∃ d, owns (c : Thread nD τ) arg19 fullShare d)) -∗ K ⟨⟩))
      ⊢ wp frame (wpE (defs₀ (F := F)) Variants.none (c : Thread nD τ) none) E (cc0_attn_global (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_attn_global_eq_skeleton]; unfold cc0_attn_global_skel
  unfold owns
  iintro ⟨HP, ⟨%d9, %f9, -, H9⟩, ⟨%d18, %f18, -, H18⟩, ⟨%d19, %f19, -, H19⟩, Hk⟩
  rw [wp_bind]
  iapply (h20 _)
  isplitl [HP]; · iexact HP
  iintro ⟨HM, H2, ⟨%f14, H14⟩, H15, H16, H17⟩
  rw [wp_bind]
  simp only [k0_part21_eq_skeleton]; unfold k0_part21_skel
  sl_exec
  have e2 : ∀ r : Rect S512x512, View.readAt (Elt F) arg2.view r.toLoadRect (harg2.unread x0) = View.ld x0 r := fun r => funext fun x => harg2.readAt_unread x0 _ x
  have e17 : ∀ r : Rect S1, View.readAt (Elt F) arg17.view r.toLoadRect (harg17.unread km) = View.ld km r := fun r => funext fun x => harg17.readAt_unread km _ x
  have hL : body_run.sl.H14_4 arg2 harg2 x0 = qtL x0 := by
    unfold qtL; rw [← e2, ← e2]; rfl
  have q14 : View.read (Elt F) arg14.view (arg14.view.writes (Elt F) arg14.view.junk (body_run.sl.H14_4 arg2 harg2 x0)) = qtF x0 := by
    rw [hL]; exact read14 _ _ _
  have hb : body_run.sl.v50 arg2 harg2 arg14 arg17 harg17 x0 km = condB x0 km := by
    have a1 : View.readCov arg14.view (body_run.sl.H14_4 arg2 harg2 x0) (Rect.unit (s := S128x2048) ![0, 0] S128x2048.size inb_S128x2048_S128x2048_0_0).toLoadRect = qtF x0 := by
      rw [← q14]; exact View.readAt_full _ _ _
    unfold condB; rw [← a1, ← e17]; rfl
  by_cases hc : condB x0 km = 1#1
  · have h52 : body_run.sl.v52 arg2 harg2 arg14 arg17 harg17 x0 km = 1#1 := (bit_ne _).2 (hb.trans hc)
    have h55 : ¬ Scalar.cmpi .ne (Scalar.extui (Scalar.xori (body_run.sl.v50 arg2 harg2 arg14 arg17 harg17 x0 km) 1#1) : BitVec 32) 0#32 = 1#1 := fun h => (bit_xor _).1 h (hb.trans hc)
    sl_exec (disch := first | sl_exact h52 | sl_exact h55)
    sl_step
    iapply Hk
    isplitl [HM]; · iexact HM
    isplitl [H2]
    · iexists _; isplitr; · ipureintro; exact harg2.read_unread _
      iexact H2
    isplitl [H9]
    · iexists _; isplitr; swap; · iexact H9
      ipureintro
      have hv := (show View.read (Elt F) arg19.view (arg19.view.writes (Elt F) arg19.view.junk (pc19 (accP (View.read (Elt F) arg14.view (arg14.view.writes (Elt F) arg14.view.junk (body_run.sl.H14_4 arg2 harg2 x0))) (View.read (Elt F) arg15.view (harg15.unread kn)) (View.read (Elt F) arg16.view (harg16.unread vx)) (View.read (Elt F) arg19.view (arg19.view.writes (Elt F) arg19.view.junk [⟨Rect.unit (s := S144x2048) ![0, 0] S144x2048.size inb_S144x2048_S144x2048_0_0, k0_pay163⟩]))) (Scf.trips k0_t1_loop.lb k0_t1_loop.ub k0_t1_loop.st) ++ [⟨Rect.unit (s := S144x2048) ![0, 0] S144x2048.size inb_S144x2048_S144x2048_0_0, k0_pay163⟩])) = accF x0 kn vx km by
        rw [read19P, q14, harg15.read_unread, harg16.read_unread, View.read_writes_full, accF, if_pos hc])
      have h56 : View.readAt (Elt F) arg19.view (Rect.unit (s := S144x2048) ![0, 0] S128x2048.size inb_S144x2048_S128x2048_0_0).toLoadRect (arg19.view.writes (Elt F) arg19.view.junk (pc19 (accP (View.read (Elt F) arg14.view (arg14.view.writes (Elt F) arg14.view.junk (body_run.sl.H14_4 arg2 harg2 x0))) (View.read (Elt F) arg15.view (harg15.unread kn)) (View.read (Elt F) arg16.view (harg16.unread vx)) (View.read (Elt F) arg19.view (arg19.view.writes (Elt F) arg19.view.junk [⟨Rect.unit (s := S144x2048) ![0, 0] S144x2048.size inb_S144x2048_S144x2048_0_0, k0_pay163⟩]))) (Scf.trips k0_t1_loop.lb k0_t1_loop.ub k0_t1_loop.st) ++ [⟨Rect.unit (s := S144x2048) ![0, 0] S144x2048.size inb_S144x2048_S144x2048_0_0, k0_pay163⟩])) = View.ld (accF x0 kn vx km) (Rect.unit (s := S144x2048) ![0, 0] S128x2048.size inb_S144x2048_S128x2048_0_0) := by rw [← hv]; rfl
      have h57 : View.readAt (Elt F) arg19.view (Rect.unit (s := S144x2048) ![128, 0] S1x2048.size inb_S144x2048_S1x2048_128_0).toLoadRect (arg19.view.writes (Elt F) arg19.view.junk (pc19 (accP (View.read (Elt F) arg14.view (arg14.view.writes (Elt F) arg14.view.junk (body_run.sl.H14_4 arg2 harg2 x0))) (View.read (Elt F) arg15.view (harg15.unread kn)) (View.read (Elt F) arg16.view (harg16.unread vx)) (View.read (Elt F) arg19.view (arg19.view.writes (Elt F) arg19.view.junk [⟨Rect.unit (s := S144x2048) ![0, 0] S144x2048.size inb_S144x2048_S144x2048_0_0, k0_pay163⟩]))) (Scf.trips k0_t1_loop.lb k0_t1_loop.ub k0_t1_loop.st) ++ [⟨Rect.unit (s := S144x2048) ![0, 0] S144x2048.size inb_S144x2048_S144x2048_0_0, k0_pay163⟩])) = View.ld (accF x0 kn vx km) (Rect.unit (s := S144x2048) ![128, 0] S1x2048.size inb_S144x2048_S1x2048_128_0) := by rw [← hv]; rfl
      refine Eq.trans ?_ (read9 arg9 f9 (accF x0 kn vx km))
      unfold outL; rw [← h56, ← h57]; rfl
    isplitl [H14]
    · iexists _, _; isplitr; swap; · iexact H14
      ipureintro; rfl
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _, _; isplitr; swap; · iexact H18
      ipureintro; rfl
    iexists _, _; isplitr; swap; · iexact H19
    ipureintro; rfl
  · have h52 : ¬ body_run.sl.v52 arg2 harg2 arg14 arg17 harg17 x0 km = 1#1 := fun h => hc (hb ▸ (bit_ne _).1 h)
    have h55 : Scalar.cmpi .ne (Scalar.extui (Scalar.xori (body_run.sl.v50 arg2 harg2 arg14 arg17 harg17 x0 km) 1#1) : BitVec 32) 0#32 = 1#1 := (bit_xor _).2 (fun h => hc (hb ▸ h))
    sl_exec (disch := first | sl_exact h52 | sl_exact h55)
    sl_step
    iapply Hk
    isplitl [HM]; · iexact HM
    isplitl [H2]
    · iexists _; isplitr; · ipureintro; exact harg2.read_unread _
      iexact H2
    isplitl [H9]
    · iexists _; isplitr; swap; · iexact H9
      ipureintro
      have hv := (show View.read (Elt F) arg19.view (arg19.view.writes (Elt F) arg19.view.junk (pc19 (fun n => (accO (View.read (Elt F) arg14.view (arg14.view.writes (Elt F) arg14.view.junk (body_run.sl.H14_4 arg2 harg2 x0))) (View.read (Elt F) arg15.view (harg15.unread kn)) (View.read (Elt F) arg16.view (harg16.unread vx)) (View.read (Elt F) arg18.view (arg18.view.writes (Elt F) arg18.view.junk [⟨Rect.unit (s := S1x2048) ![0, 0] S1x2048.size inb_S1x2048_S1x2048_0_0, k0_pay166⟩])) (View.read (Elt F) arg19.view (arg19.view.writes (Elt F) arg19.view.junk [⟨Rect.unit (s := S144x2048) ![0, 0] S144x2048.size inb_S144x2048_S144x2048_0_0, k0_pay163⟩])) n).2) (Scf.trips k0_t2_loop.lb k0_t2_loop.ub k0_t2_loop.st) ++ [⟨Rect.unit (s := S144x2048) ![0, 0] S144x2048.size inb_S144x2048_S144x2048_0_0, k0_pay163⟩])) = accF x0 kn vx km by
        rw [read19O, q14, harg15.read_unread, harg16.read_unread, View.read_writes_full, View.read_writes_full, accF, if_neg hc])
      have h56 : View.readAt (Elt F) arg19.view (Rect.unit (s := S144x2048) ![0, 0] S128x2048.size inb_S144x2048_S128x2048_0_0).toLoadRect (arg19.view.writes (Elt F) arg19.view.junk (pc19 (fun n => (accO (View.read (Elt F) arg14.view (arg14.view.writes (Elt F) arg14.view.junk (body_run.sl.H14_4 arg2 harg2 x0))) (View.read (Elt F) arg15.view (harg15.unread kn)) (View.read (Elt F) arg16.view (harg16.unread vx)) (View.read (Elt F) arg18.view (arg18.view.writes (Elt F) arg18.view.junk [⟨Rect.unit (s := S1x2048) ![0, 0] S1x2048.size inb_S1x2048_S1x2048_0_0, k0_pay166⟩])) (View.read (Elt F) arg19.view (arg19.view.writes (Elt F) arg19.view.junk [⟨Rect.unit (s := S144x2048) ![0, 0] S144x2048.size inb_S144x2048_S144x2048_0_0, k0_pay163⟩])) n).2) (Scf.trips k0_t2_loop.lb k0_t2_loop.ub k0_t2_loop.st) ++ [⟨Rect.unit (s := S144x2048) ![0, 0] S144x2048.size inb_S144x2048_S144x2048_0_0, k0_pay163⟩])) = View.ld (accF x0 kn vx km) (Rect.unit (s := S144x2048) ![0, 0] S128x2048.size inb_S144x2048_S128x2048_0_0) := by rw [← hv]; rfl
      have h57 : View.readAt (Elt F) arg19.view (Rect.unit (s := S144x2048) ![128, 0] S1x2048.size inb_S144x2048_S1x2048_128_0).toLoadRect (arg19.view.writes (Elt F) arg19.view.junk (pc19 (fun n => (accO (View.read (Elt F) arg14.view (arg14.view.writes (Elt F) arg14.view.junk (body_run.sl.H14_4 arg2 harg2 x0))) (View.read (Elt F) arg15.view (harg15.unread kn)) (View.read (Elt F) arg16.view (harg16.unread vx)) (View.read (Elt F) arg18.view (arg18.view.writes (Elt F) arg18.view.junk [⟨Rect.unit (s := S1x2048) ![0, 0] S1x2048.size inb_S1x2048_S1x2048_0_0, k0_pay166⟩])) (View.read (Elt F) arg19.view (arg19.view.writes (Elt F) arg19.view.junk [⟨Rect.unit (s := S144x2048) ![0, 0] S144x2048.size inb_S144x2048_S144x2048_0_0, k0_pay163⟩])) n).2) (Scf.trips k0_t2_loop.lb k0_t2_loop.ub k0_t2_loop.st) ++ [⟨Rect.unit (s := S144x2048) ![0, 0] S144x2048.size inb_S144x2048_S144x2048_0_0, k0_pay163⟩])) = View.ld (accF x0 kn vx km) (Rect.unit (s := S144x2048) ![128, 0] S1x2048.size inb_S144x2048_S1x2048_128_0) := by rw [← hv]; rfl
      refine Eq.trans ?_ (read9 arg9 f9 (accF x0 kn vx km))
      unfold outL; rw [← h56, ← h57]; rfl
    isplitl [H14]
    · iexists _, _; isplitr; swap; · iexact H14
      ipureintro; rfl
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _, _; isplitr; swap; · iexact H18
      ipureintro; rfl
    iexists _, _; isplitr; swap; · iexact H19
    ipureintro; rfl

end Cert.KernelIdeal.Attn

end
-- ==== Proof.AttnData.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.Pipeline.Value
public import Idealize.ShloMosaic.Lib.WholeRead
public import proofs.«01_k».proof.Proof.AttnTail

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first inner step: the body prepares the keys and values of a group. -/
def first (i : grid0.Coords) : Prop := Scalar.cmpi .ne (Scalar.extui (Scalar.cmpi .eq (BitVec.ofNat 32 (i 1).val) 0#32) : BitVec 32) 0#32 = 1#1

/-- The stores of the keys, a tile at a time, turned to rows. -/
abbrev knL (x1 : Vec F S128x16384 .bf16) : List (View.Piece (Elt F) S16384x128 .bf16) :=
   [⟨(Rect.unit (s := S16384x128) ![15872, 0] S512x128.size inb_S16384x128_S512x128_15872_0), (k0_pay151 (View.ld x1 (Rect.unit (s := S128x16384) ![0, 15872] S128x512.size inb_S128x16384_S128x512_0_15872)))⟩,
    ⟨(Rect.unit (s := S16384x128) ![15360, 0] S512x128.size inb_S16384x128_S512x128_15360_0), (k0_pay146 (View.ld x1 (Rect.unit (s := S128x16384) ![0, 15360] S128x512.size inb_S128x16384_S128x512_0_15360)))⟩,
    ⟨(Rect.unit (s := S16384x128) ![14848, 0] S512x128.size inb_S16384x128_S512x128_14848_0), (k0_pay142 (View.ld x1 (Rect.unit (s := S128x16384) ![0, 14848] S128x512.size inb_S128x16384_S128x512_0_14848)))⟩,
    ⟨(Rect.unit (s := S16384x128) ![14336, 0] S512x128.size inb_S16384x128_S512x128_14336_0), (k0_pay137 (View.ld x1 (Rect.unit (s := S128x16384) ![0, 14336] S128x512.size inb_S128x16384_S128x512_0_14336)))⟩,
    ⟨(Rect.unit (s := S16384x128) ![13824, 0] S512x128.size inb_S16384x128_S512x128_13824_0), (k0_pay132 (View.ld x1 (Rect.unit (s := S128x16384) ![0, 13824] S128x512.size inb_S128x16384_S128x512_0_13824)))⟩,
    ⟨(Rect.unit (s := S16384x128) ![13312, 0] S512x128.size inb_S16384x128_S512x128_13312_0), (k0_pay128 (View.ld x1 (Rect.unit (s := S128x16384) ![0, 13312] S128x512.size inb_S128x16384_S128x512_0_13312)))⟩,
    ⟨(Rect.unit (s := S16384x128) ![12800, 0] S512x128.size inb_S16384x128_S512x128_12800_0), (k0_pay123 (View.ld x1 (Rect.unit (s := S128x16384) ![0, 12800] S128x512.size inb_S128x16384_S128x512_0_12800)))⟩,
    ⟨(Rect.unit (s := S16384x128) ![12288, 0] S512x128.size inb_S16384x128_S512x128_12288_0), (k0_pay119 (View.ld x1 (Rect.unit (s := S128x16384) ![0, 12288] S128x512.size inb_S128x16384_S128x512_0_12288)))⟩,
    ⟨(Rect.unit (s := S16384x128) ![11776, 0] S512x128.size inb_S16384x128_S512x128_11776_0), (k0_pay114 (View.ld x1 (Rect.unit (s := S128x16384) ![0, 11776] S128x512.size inb_S128x16384_S128x512_0_11776)))⟩,
    ⟨(Rect.unit (s := S16384x128) ![11264, 0] S512x128.size inb_S16384x128_S512x128_11264_0), (k0_pay109 (View.ld x1 (Rect.unit (s := S128x16384) ![0, 11264] S128x512.size inb_S128x16384_S128x512_0_11264)))⟩,
    ⟨(Rect.unit (s := S16384x128) ![10752, 0] S512x128.size inb_S16384x128_S512x128_10752_0), (k0_pay105 (View.ld x1 (Rect.unit (s := S128x16384) ![0, 10752] S128x512.size inb_S128x16384_S128x512_0_10752)))⟩,
    ⟨(Rect.unit (s := S16384x128) ![10240, 0] S512x128.size inb_S16384x128_S512x128_10240_0), (k0_pay100 (View.ld x1 (Rect.unit (s := S128x16384) ![0, 10240] S128x512.size inb_S128x16384_S128x512_0_10240)))⟩,
    ⟨(Rect.unit (s := S16384x128) ![9728, 0] S512x128.size inb_S16384x128_S512x128_9728_0), (k0_pay96 (View.ld x1 (Rect.unit (s := S128x16384) ![0, 9728] S128x512.size inb_S128x16384_S128x512_0_9728)))⟩,
    ⟨(Rect.unit (s := S16384x128) ![9216, 0] S512x128.size inb_S16384x128_S512x128_9216_0), (k0_pay91 (View.ld x1 (Rect.unit (s := S128x16384) ![0, 9216] S128x512.size inb_S128x16384_S128x512_0_9216)))⟩,
    ⟨(Rect.unit (s := S16384x128) ![8704, 0] S512x128.size inb_S16384x128_S512x128_8704_0), (k0_pay86 (View.ld x1 (Rect.unit (s := S128x16384) ![0, 8704] S128x512.size inb_S128x16384_S128x512_0_8704)))⟩,
    ⟨(Rect.unit (s := S16384x128) ![8192, 0] S512x128.size inb_S16384x128_S512x128_8192_0), (k0_pay82 (View.ld x1 (Rect.unit (s := S128x16384) ![0, 8192] S128x512.size inb_S128x16384_S128x512_0_8192)))⟩,
    ⟨(Rect.unit (s := S16384x128) ![7680, 0] S512x128.size inb_S16384x128_S512x128_7680_0), (k0_pay77 (View.ld x1 (Rect.unit (s := S128x16384) ![0, 7680] S128x512.size inb_S128x16384_S128x512_0_7680)))⟩,
    ⟨(Rect.unit (s := S16384x128) ![7168, 0] S512x128.size inb_S16384x128_S512x128_7168_0), (k0_pay73 (View.ld x1 (Rect.unit (s := S128x16384) ![0, 7168] S128x512.size inb_S128x16384_S128x512_0_7168)))⟩,
    ⟨(Rect.unit (s := S16384x128) ![6656, 0] S512x128.size inb_S16384x128_S512x128_6656_0), (k0_pay68 (View.ld x1 (Rect.unit (s := S128x16384) ![0, 6656] S128x512.size inb_S128x16384_S128x512_0_6656)))⟩,
    ⟨(Rect.unit (s := S16384x128) ![6144, 0] S512x128.size inb_S16384x128_S512x128_6144_0), (k0_pay63 (View.ld x1 (Rect.unit (s := S128x16384) ![0, 6144] S128x512.size inb_S128x16384_S128x512_0_6144)))⟩,
    ⟨(Rect.unit (s := S16384x128) ![5632, 0] S512x128.size inb_S16384x128_S512x128_5632_0), (k0_pay59 (View.ld x1 (Rect.unit (s := S128x16384) ![0, 5632] S128x512.size inb_S128x16384_S128x512_0_5632)))⟩,
    ⟨(Rect.unit (s := S16384x128) ![5120, 0] S512x128.size inb_S16384x128_S512x128_5120_0), (k0_pay54 (View.ld x1 (Rect.unit (s := S128x16384) ![0, 5120] S128x512.size inb_S128x16384_S128x512_0_5120)))⟩,
    ⟨(Rect.unit (s := S16384x128) ![4608, 0] S512x128.size inb_S16384x128_S512x128_4608_0), (k0_pay50 (View.ld x1 (Rect.unit (s := S128x16384) ![0, 4608] S128x512.size inb_S128x16384_S128x512_0_4608)))⟩,
    ⟨(Rect.unit (s := S16384x128) ![4096, 0] S512x128.size inb_S16384x128_S512x128_4096_0), (k0_pay45 (View.ld x1 (Rect.unit (s := S128x16384) ![0, 4096] S128x512.size inb_S128x16384_S128x512_0_4096)))⟩,
    ⟨(Rect.unit (s := S16384x128) ![3584, 0] S512x128.size inb_S16384x128_S512x128_3584_0), (k0_pay40 (View.ld x1 (Rect.unit (s := S128x16384) ![0, 3584] S128x512.size inb_S128x16384_S128x512_0_3584)))⟩,
    ⟨(Rect.unit (s := S16384x128) ![3072, 0] S512x128.size inb_S16384x128_S512x128_3072_0), (k0_pay36 (View.ld x1 (Rect.unit (s := S128x16384) ![0, 3072] S128x512.size inb_S128x16384_S128x512_0_3072)))⟩,
    ⟨(Rect.unit (s := S16384x128) ![2560, 0] S512x128.size inb_S16384x128_S512x128_2560_0), (k0_pay31 (View.ld x1 (Rect.unit (s := S128x16384) ![0, 2560] S128x512.size inb_S128x16384_S128x512_0_2560)))⟩,
    ⟨(Rect.unit (s := S16384x128) ![2048, 0] S512x128.size inb_S16384x128_S512x128_2048_0), (k0_pay27 (View.ld x1 (Rect.unit (s := S128x16384) ![0, 2048] S128x512.size inb_S128x16384_S128x512_0_2048)))⟩,
    ⟨(Rect.unit (s := S16384x128) ![1536, 0] S512x128.size inb_S16384x128_S512x128_1536_0), (k0_pay22 (View.ld x1 (Rect.unit (s := S128x16384) ![0, 1536] S128x512.size inb_S128x16384_S128x512_0_1536)))⟩,
    ⟨(Rect.unit (s := S16384x128) ![1024, 0] S512x128.size inb_S16384x128_S512x128_1024_0), (k0_pay17 (View.ld x1 (Rect.unit (s := S128x16384) ![0, 1024] S128x512.size inb_S128x16384_S128x512_0_1024)))⟩,
    ⟨(Rect.unit (s := S16384x128) ![512, 0] S512x128.size inb_S16384x128_S512x128_512_0), (k0_pay13 (View.ld x1 (Rect.unit (s := S128x16384) ![0, 512] S128x512.size inb_S128x16384_S128x512_0_512)))⟩,
    ⟨(Rect.unit (s := S16384x128) ![0, 0] S512x128.size inb_S16384x128_S512x128_0_0), (k0_pay8 (View.ld x1 (Rect.unit (s := S128x16384) ![0, 0] S128x512.size inb_S128x16384_S128x512_0_0)))⟩]

/-- The stores of the values, a tile at a time, each over a row of ones. -/
abbrev vxL (x2 : Vec F S128x16384 .bf16) : List (View.Piece (Elt F) S32x144x512 .bf16) :=
   [⟨(Rect.unit (s := S32x144x512) ![31, 128, 0] S1x16x512.size inb_S32x144x512_S1x16x512_31_128_0), (k0_pay157 (k0_pay6 (F := F)))⟩,
    ⟨(Rect.unit (s := S32x144x512) ![31, 0, 0] S1x128x512.size inb_S32x144x512_S1x128x512_31_0_0), (k0_pay156 (View.ld x2 (Rect.unit (s := S128x16384) ![0, 15872] S128x512.size inb_S128x16384_S128x512_0_15872)))⟩,
    ⟨(Rect.unit (s := S32x144x512) ![30, 128, 0] S1x16x512.size inb_S32x144x512_S1x16x512_30_128_0), (k0_pay148 (k0_pay6 (F := F)))⟩,
    ⟨(Rect.unit (s := S32x144x512) ![30, 0, 0] S1x128x512.size inb_S32x144x512_S1x128x512_30_0_0), (k0_pay147 (View.ld x2 (Rect.unit (s := S128x16384) ![0, 15360] S128x512.size inb_S128x16384_S128x512_0_15360)))⟩,
    ⟨(Rect.unit (s := S32x144x512) ![29, 128, 0] S1x16x512.size inb_S32x144x512_S1x16x512_29_128_0), (k0_pay144 (k0_pay6 (F := F)))⟩,
    ⟨(Rect.unit (s := S32x144x512) ![29, 0, 0] S1x128x512.size inb_S32x144x512_S1x128x512_29_0_0), (k0_pay143 (View.ld x2 (Rect.unit (s := S128x16384) ![0, 14848] S128x512.size inb_S128x16384_S128x512_0_14848)))⟩,
    ⟨(Rect.unit (s := S32x144x512) ![28, 128, 0] S1x16x512.size inb_S32x144x512_S1x16x512_28_128_0), (k0_pay139 (k0_pay6 (F := F)))⟩,
    ⟨(Rect.unit (s := S32x144x512) ![28, 0, 0] S1x128x512.size inb_S32x144x512_S1x128x512_28_0_0), (k0_pay138 (View.ld x2 (Rect.unit (s := S128x16384) ![0, 14336] S128x512.size inb_S128x16384_S128x512_0_14336)))⟩,
    ⟨(Rect.unit (s := S32x144x512) ![27, 128, 0] S1x16x512.size inb_S32x144x512_S1x16x512_27_128_0), (k0_pay134 (k0_pay6 (F := F)))⟩,
    ⟨(Rect.unit (s := S32x144x512) ![27, 0, 0] S1x128x512.size inb_S32x144x512_S1x128x512_27_0_0), (k0_pay133 (View.ld x2 (Rect.unit (s := S128x16384) ![0, 13824] S128x512.size inb_S128x16384_S128x512_0_13824)))⟩,
    ⟨(Rect.unit (s := S32x144x512) ![26, 128, 0] S1x16x512.size inb_S32x144x512_S1x16x512_26_128_0), (k0_pay130 (k0_pay6 (F := F)))⟩,
    ⟨(Rect.unit (s := S32x144x512) ![26, 0, 0] S1x128x512.size inb_S32x144x512_S1x128x512_26_0_0), (k0_pay129 (View.ld x2 (Rect.unit (s := S128x16384) ![0, 13312] S128x512.size inb_S128x16384_S128x512_0_13312)))⟩,
    ⟨(Rect.unit (s := S32x144x512) ![25, 128, 0] S1x16x512.size inb_S32x144x512_S1x16x512_25_128_0), (k0_pay125 (k0_pay6 (F := F)))⟩,
    ⟨(Rect.unit (s := S32x144x512) ![25, 0, 0] S1x128x512.size inb_S32x144x512_S1x128x512_25_0_0), (k0_pay124 (View.ld x2 (Rect.unit (s := S128x16384) ![0, 12800] S128x512.size inb_S128x16384_S128x512_0_12800)))⟩,
    ⟨(Rect.unit (s := S32x144x512) ![24, 128, 0] S1x16x512.size inb_S32x144x512_S1x16x512_24_128_0), (k0_pay121 (k0_pay6 (F := F)))⟩,
    ⟨(Rect.unit (s := S32x144x512) ![24, 0, 0] S1x128x512.size inb_S32x144x512_S1x128x512_24_0_0), (k0_pay120 (View.ld x2 (Rect.unit (s := S128x16384) ![0, 12288] S128x512.size inb_S128x16384_S128x512_0_12288)))⟩,
    ⟨(Rect.unit (s := S32x144x512) ![23, 128, 0] S1x16x512.size inb_S32x144x512_S1x16x512_23_128_0), (k0_pay116 (k0_pay6 (F := F)))⟩,
    ⟨(Rect.unit (s := S32x144x512) ![23, 0, 0] S1x128x512.size inb_S32x144x512_S1x128x512_23_0_0), (k0_pay115 (View.ld x2 (Rect.unit (s := S128x16384) ![0, 11776] S128x512.size inb_S128x16384_S128x512_0_11776)))⟩,
    ⟨(Rect.unit (s := S32x144x512) ![22, 128, 0] S1x16x512.size inb_S32x144x512_S1x16x512_22_128_0), (k0_pay111 (k0_pay6 (F := F)))⟩,
    ⟨(Rect.unit (s := S32x144x512) ![22, 0, 0] S1x128x512.size inb_S32x144x512_S1x128x512_22_0_0), (k0_pay110 (View.ld x2 (Rect.unit (s := S128x16384) ![0, 11264] S128x512.size inb_S128x16384_S128x512_0_11264)))⟩,
    ⟨(Rect.unit (s := S32x144x512) ![21, 128, 0] S1x16x512.size inb_S32x144x512_S1x16x512_21_128_0), (k0_pay107 (k0_pay6 (F := F)))⟩,
    ⟨(Rect.unit (s := S32x144x512) ![21, 0, 0] S1x128x512.size inb_S32x144x512_S1x128x512_21_0_0), (k0_pay106 (View.ld x2 (Rect.unit (s := S128x16384) ![0, 10752] S128x512.size inb_S128x16384_S128x512_0_10752)))⟩,
    ⟨(Rect.unit (s := S32x144x512) ![20, 128, 0] S1x16x512.size inb_S32x144x512_S1x16x512_20_128_0), (k0_pay102 (k0_pay6 (F := F)))⟩,
    ⟨(Rect.unit (s := S32x144x512) ![20, 0, 0] S1x128x512.size inb_S32x144x512_S1x128x512_20_0_0), (k0_pay101 (View.ld x2 (Rect.unit (s := S128x16384) ![0, 10240] S128x512.size inb_S128x16384_S128x512_0_10240)))⟩,
    ⟨(Rect.unit (s := S32x144x512) ![19, 128, 0] S1x16x512.size inb_S32x144x512_S1x16x512_19_128_0), (k0_pay98 (k0_pay6 (F := F)))⟩,
    ⟨(Rect.unit (s := S32x144x512) ![19, 0, 0] S1x128x512.size inb_S32x144x512_S1x128x512_19_0_0), (k0_pay97 (View.ld x2 (Rect.unit (s := S128x16384) ![0, 9728] S128x512.size inb_S128x16384_S128x512_0_9728)))⟩,
    ⟨(Rect.unit (s := S32x144x512) ![18, 128, 0] S1x16x512.size inb_S32x144x512_S1x16x512_18_128_0), (k0_pay93 (k0_pay6 (F := F)))⟩,
    ⟨(Rect.unit (s := S32x144x512) ![18, 0, 0] S1x128x512.size inb_S32x144x512_S1x128x512_18_0_0), (k0_pay92 (View.ld x2 (Rect.unit (s := S128x16384) ![0, 9216] S128x512.size inb_S128x16384_S128x512_0_9216)))⟩,
    ⟨(Rect.unit (s := S32x144x512) ![17, 128, 0] S1x16x512.size inb_S32x144x512_S1x16x512_17_128_0), (k0_pay88 (k0_pay6 (F := F)))⟩,
    ⟨(Rect.unit (s := S32x144x512) ![17, 0, 0] S1x128x512.size inb_S32x144x512_S1x128x512_17_0_0), (k0_pay87 (View.ld x2 (Rect.unit (s := S128x16384) ![0, 8704] S128x512.size inb_S128x16384_S128x512_0_8704)))⟩,
    ⟨(Rect.unit (s := S32x144x512) ![16, 128, 0] S1x16x512.size inb_S32x144x512_S1x16x512_16_128_0), (k0_pay84 (k0_pay6 (F := F)))⟩,
    ⟨(Rect.unit (s := S32x144x512) ![16, 0, 0] S1x128x512.size inb_S32x144x512_S1x128x512_16_0_0), (k0_pay83 (View.ld x2 (Rect.unit (s := S128x16384) ![0, 8192] S128x512.size inb_S128x16384_S128x512_0_8192)))⟩,
    ⟨(Rect.unit (s := S32x144x512) ![15, 128, 0] S1x16x512.size inb_S32x144x512_S1x16x512_15_128_0), (k0_pay79 (k0_pay6 (F := F)))⟩,
    ⟨(Rect.unit (s := S32x144x512) ![15, 0, 0] S1x128x512.size inb_S32x144x512_S1x128x512_15_0_0), (k0_pay78 (View.ld x2 (Rect.unit (s := S128x16384) ![0, 7680] S128x512.size inb_S128x16384_S128x512_0_7680)))⟩,
    ⟨(Rect.unit (s := S32x144x512) ![14, 128, 0] S1x16x512.size inb_S32x144x512_S1x16x512_14_128_0), (k0_pay75 (k0_pay6 (F := F)))⟩,
    ⟨(Rect.unit (s := S32x144x512) ![14, 0, 0] S1x128x512.size inb_S32x144x512_S1x128x512_14_0_0), (k0_pay74 (View.ld x2 (Rect.unit (s := S128x16384) ![0, 7168] S128x512.size inb_S128x16384_S128x512_0_7168)))⟩,
    ⟨(Rect.unit (s := S32x144x512) ![13, 128, 0] S1x16x512.size inb_S32x144x512_S1x16x512_13_128_0), (k0_pay70 (k0_pay6 (F := F)))⟩,
    ⟨(Rect.unit (s := S32x144x512) ![13, 0, 0] S1x128x512.size inb_S32x144x512_S1x128x512_13_0_0), (k0_pay69 (View.ld x2 (Rect.unit (s := S128x16384) ![0, 6656] S128x512.size inb_S128x16384_S128x512_0_6656)))⟩,
    ⟨(Rect.unit (s := S32x144x512) ![12, 128, 0] S1x16x512.size inb_S32x144x512_S1x16x512_12_128_0), (k0_pay65 (k0_pay6 (F := F)))⟩,
    ⟨(Rect.unit (s := S32x144x512) ![12, 0, 0] S1x128x512.size inb_S32x144x512_S1x128x512_12_0_0), (k0_pay64 (View.ld x2 (Rect.unit (s := S128x16384) ![0, 6144] S128x512.size inb_S128x16384_S128x512_0_6144)))⟩,
    ⟨(Rect.unit (s := S32x144x512) ![11, 128, 0] S1x16x512.size inb_S32x144x512_S1x16x512_11_128_0), (k0_pay61 (k0_pay6 (F := F)))⟩,
    ⟨(Rect.unit (s := S32x144x512) ![11, 0, 0] S1x128x512.size inb_S32x144x512_S1x128x512_11_0_0), (k0_pay60 (View.ld x2 (Rect.unit (s := S128x16384) ![0, 5632] S128x512.size inb_S128x16384_S128x512_0_5632)))⟩,
    ⟨(Rect.unit (s := S32x144x512) ![10, 128, 0] S1x16x512.size inb_S32x144x512_S1x16x512_10_128_0), (k0_pay56 (k0_pay6 (F := F)))⟩,
    ⟨(Rect.unit (s := S32x144x512) ![10, 0, 0] S1x128x512.size inb_S32x144x512_S1x128x512_10_0_0), (k0_pay55 (View.ld x2 (Rect.unit (s := S128x16384) ![0, 5120] S128x512.size inb_S128x16384_S128x512_0_5120)))⟩,
    ⟨(Rect.unit (s := S32x144x512) ![9, 128, 0] S1x16x512.size inb_S32x144x512_S1x16x512_9_128_0), (k0_pay52 (k0_pay6 (F := F)))⟩,
    ⟨(Rect.unit (s := S32x144x512) ![9, 0, 0] S1x128x512.size inb_S32x144x512_S1x128x512_9_0_0), (k0_pay51 (View.ld x2 (Rect.unit (s := S128x16384) ![0, 4608] S128x512.size inb_S128x16384_S128x512_0_4608)))⟩,
    ⟨(Rect.unit (s := S32x144x512) ![8, 128, 0] S1x16x512.size inb_S32x144x512_S1x16x512_8_128_0), (k0_pay47 (k0_pay6 (F := F)))⟩,
    ⟨(Rect.unit (s := S32x144x512) ![8, 0, 0] S1x128x512.size inb_S32x144x512_S1x128x512_8_0_0), (k0_pay46 (View.ld x2 (Rect.unit (s := S128x16384) ![0, 4096] S128x512.size inb_S128x16384_S128x512_0_4096)))⟩,
    ⟨(Rect.unit (s := S32x144x512) ![7, 128, 0] S1x16x512.size inb_S32x144x512_S1x16x512_7_128_0), (k0_pay42 (k0_pay6 (F := F)))⟩,
    ⟨(Rect.unit (s := S32x144x512) ![7, 0, 0] S1x128x512.size inb_S32x144x512_S1x128x512_7_0_0), (k0_pay41 (View.ld x2 (Rect.unit (s := S128x16384) ![0, 3584] S128x512.size inb_S128x16384_S128x512_0_3584)))⟩,
    ⟨(Rect.unit (s := S32x144x512) ![6, 128, 0] S1x16x512.size inb_S32x144x512_S1x16x512_6_128_0), (k0_pay38 (k0_pay6 (F := F)))⟩,
    ⟨(Rect.unit (s := S32x144x512) ![6, 0, 0] S1x128x512.size inb_S32x144x512_S1x128x512_6_0_0), (k0_pay37 (View.ld x2 (Rect.unit (s := S128x16384) ![0, 3072] S128x512.size inb_S128x16384_S128x512_0_3072)))⟩,
    ⟨(Rect.unit (s := S32x144x512) ![5, 128, 0] S1x16x512.size inb_S32x144x512_S1x16x512_5_128_0), (k0_pay33 (k0_pay6 (F := F)))⟩,
    ⟨(Rect.unit (s := S32x144x512) ![5, 0, 0] S1x128x512.size inb_S32x144x512_S1x128x512_5_0_0), (k0_pay32 (View.ld x2 (Rect.unit (s := S128x16384) ![0, 2560] S128x512.size inb_S128x16384_S128x512_0_2560)))⟩,
    ⟨(Rect.unit (s := S32x144x512) ![4, 128, 0] S1x16x512.size inb_S32x144x512_S1x16x512_4_128_0), (k0_pay29 (k0_pay6 (F := F)))⟩,
    ⟨(Rect.unit (s := S32x144x512) ![4, 0, 0] S1x128x512.size inb_S32x144x512_S1x128x512_4_0_0), (k0_pay28 (View.ld x2 (Rect.unit (s := S128x16384) ![0, 2048] S128x512.size inb_S128x16384_S128x512_0_2048)))⟩,
    ⟨(Rect.unit (s := S32x144x512) ![3, 128, 0] S1x16x512.size inb_S32x144x512_S1x16x512_3_128_0), (k0_pay24 (k0_pay6 (F := F)))⟩,
    ⟨(Rect.unit (s := S32x144x512) ![3, 0, 0] S1x128x512.size inb_S32x144x512_S1x128x512_3_0_0), (k0_pay23 (View.ld x2 (Rect.unit (s := S128x16384) ![0, 1536] S128x512.size inb_S128x16384_S128x512_0_1536)))⟩,
    ⟨(Rect.unit (s := S32x144x512) ![2, 128, 0] S1x16x512.size inb_S32x144x512_S1x16x512_2_128_0), (k0_pay19 (k0_pay6 (F := F)))⟩,
    ⟨(Rect.unit (s := S32x144x512) ![2, 0, 0] S1x128x512.size inb_S32x144x512_S1x128x512_2_0_0), (k0_pay18 (View.ld x2 (Rect.unit (s := S128x16384) ![0, 1024] S128x512.size inb_S128x16384_S128x512_0_1024)))⟩,
    ⟨(Rect.unit (s := S32x144x512) ![1, 128, 0] S1x16x512.size inb_S32x144x512_S1x16x512_1_128_0), (k0_pay15 (k0_pay6 (F := F)))⟩,
    ⟨(Rect.unit (s := S32x144x512) ![1, 0, 0] S1x128x512.size inb_S32x144x512_S1x128x512_1_0_0), (k0_pay14 (View.ld x2 (Rect.unit (s := S128x16384) ![0, 512] S128x512.size inb_S128x16384_S128x512_0_512)))⟩,
    ⟨(Rect.unit (s := S32x144x512) ![0, 128, 0] S1x16x512.size inb_S32x144x512_S1x16x512_0_128_0), (k0_pay10 (F := F))⟩,
    ⟨(Rect.unit (s := S32x144x512) ![0, 0, 0] S1x128x512.size inb_S32x144x512_S1x128x512_0_0_0), (k0_pay9 (View.ld x2 (Rect.unit (s := S128x16384) ![0, 0] S128x512.size inb_S128x16384_S128x512_0_0)))⟩]

/-- The store of the largest squared length of a key. -/
abbrev kmL (x1 : Vec F S128x16384 .bf16) : List (View.Piece (Elt F) S1 .f32) :=
   [⟨(Rect.unit (s := S1) ![0] S1.size inb_S1_S1_0), (fun _ => k0_pay158 (k0_pay149 (k0_pay140 (k0_pay135 (k0_pay126 (k0_pay117 (k0_pay112 (k0_pay103 (k0_pay94 (k0_pay89 (k0_pay80 (k0_pay71 (k0_pay66 (k0_pay57 (k0_pay48 (k0_pay43 (k0_pay34 (k0_pay25 (k0_pay20 (k0_pay11 (View.ld x1 (Rect.unit (s := S128x16384) ![0, 0] S128x512.size inb_S128x16384_S128x512_0_0))) (k0_pay12 (View.ld x1 (Rect.unit (s := S128x16384) ![0, 512] S128x512.size inb_S128x16384_S128x512_0_512))) (View.ld x1 (Rect.unit (s := S128x16384) ![0, 1024] S128x512.size inb_S128x16384_S128x512_0_1024))) (View.ld x1 (Rect.unit (s := S128x16384) ![0, 1536] S128x512.size inb_S128x16384_S128x512_0_1536))) (k0_pay26 (View.ld x1 (Rect.unit (s := S128x16384) ![0, 2048] S128x512.size inb_S128x16384_S128x512_0_2048))) (View.ld x1 (Rect.unit (s := S128x16384) ![0, 2560] S128x512.size inb_S128x16384_S128x512_0_2560))) (k0_pay35 (View.ld x1 (Rect.unit (s := S128x16384) ![0, 3072] S128x512.size inb_S128x16384_S128x512_0_3072))) (View.ld x1 (Rect.unit (s := S128x16384) ![0, 3584] S128x512.size inb_S128x16384_S128x512_0_3584))) (View.ld x1 (Rect.unit (s := S128x16384) ![0, 4096] S128x512.size inb_S128x16384_S128x512_0_4096))) (k0_pay49 (View.ld x1 (Rect.unit (s := S128x16384) ![0, 4608] S128x512.size inb_S128x16384_S128x512_0_4608))) (View.ld x1 (Rect.unit (s := S128x16384) ![0, 5120] S128x512.size inb_S128x16384_S128x512_0_5120))) (k0_pay58 (View.ld x1 (Rect.unit (s := S128x16384) ![0, 5632] S128x512.size inb_S128x16384_S128x512_0_5632))) (View.ld x1 (Rect.unit (s := S128x16384) ![0, 6144] S128x512.size inb_S128x16384_S128x512_0_6144))) (View.ld x1 (Rect.unit (s := S128x16384) ![0, 6656] S128x512.size inb_S128x16384_S128x512_0_6656))) (k0_pay72 (View.ld x1 (Rect.unit (s := S128x16384) ![0, 7168] S128x512.size inb_S128x16384_S128x512_0_7168))) (View.ld x1 (Rect.unit (s := S128x16384) ![0, 7680] S128x512.size inb_S128x16384_S128x512_0_7680))) (k0_pay81 (View.ld x1 (Rect.unit (s := S128x16384) ![0, 8192] S128x512.size inb_S128x16384_S128x512_0_8192))) (View.ld x1 (Rect.unit (s := S128x16384) ![0, 8704] S128x512.size inb_S128x16384_S128x512_0_8704))) (View.ld x1 (Rect.unit (s := S128x16384) ![0, 9216] S128x512.size inb_S128x16384_S128x512_0_9216))) (k0_pay95 (View.ld x1 (Rect.unit (s := S128x16384) ![0, 9728] S128x512.size inb_S128x16384_S128x512_0_9728))) (View.ld x1 (Rect.unit (s := S128x16384) ![0, 10240] S128x512.size inb_S128x16384_S128x512_0_10240))) (k0_pay104 (View.ld x1 (Rect.unit (s := S128x16384) ![0, 10752] S128x512.size inb_S128x16384_S128x512_0_10752))) (View.ld x1 (Rect.unit (s := S128x16384) ![0, 11264] S128x512.size inb_S128x16384_S128x512_0_11264))) (View.ld x1 (Rect.unit (s := S128x16384) ![0, 11776] S128x512.size inb_S128x16384_S128x512_0_11776))) (k0_pay118 (View.ld x1 (Rect.unit (s := S128x16384) ![0, 12288] S128x512.size inb_S128x16384_S128x512_0_12288))) (View.ld x1 (Rect.unit (s := S128x16384) ![0, 12800] S128x512.size inb_S128x16384_S128x512_0_12800))) (k0_pay127 (View.ld x1 (Rect.unit (s := S128x16384) ![0, 13312] S128x512.size inb_S128x16384_S128x512_0_13312))) (View.ld x1 (Rect.unit (s := S128x16384) ![0, 13824] S128x512.size inb_S128x16384_S128x512_0_13824))) (View.ld x1 (Rect.unit (s := S128x16384) ![0, 14336] S128x512.size inb_S128x16384_S128x512_0_14336))) (k0_pay141 (View.ld x1 (Rect.unit (s := S128x16384) ![0, 14848] S128x512.size inb_S128x16384_S128x512_0_14848))) (View.ld x1 (Rect.unit (s := S128x16384) ![0, 15360] S128x512.size inb_S128x16384_S128x512_0_15360))) (k0_pay150 (View.ld x1 (Rect.unit (s := S128x16384) ![0, 15872] S128x512.size inb_S128x16384_S128x512_0_15872))))⟩]

/-- The keys of a group as rows. -/
def knF (x1 : Vec F S128x16384 .bf16) : Vec F S16384x128 .bf16 := View.canon (knL x1)

/-- The values of a group in tiles, with the row of ones. -/
def vxF (x2 : Vec F S128x16384 .bf16) : Vec F S32x144x512 .bf16 := View.canon (vxL x2)

/-- The largest squared length of a key. -/
def kmF (x1 : Vec F S128x16384 .bf16) : Vec F S1 .f32 := View.canon (kmL x1)

theorem read15 (m : Memref sig .tc .vmem S16384x128 .bf16) (f : m.view.ty.Contents (Elt F)) (x1 : Vec F S128x16384 .bf16) :
    m.view.read (Elt F) (m.view.writes (Elt F) f (knL x1)) = knF x1 :=
  View.read_writes_eq_canon _ _ _ (View.cover_of_tiledL (knL x1) S512x128.size (by sl_kernel_rfl))

theorem read16 (m : Memref sig .tc .vmem S32x144x512 .bf16) (f : m.view.ty.Contents (Elt F)) (x2 : Vec F S128x16384 .bf16) :
    m.view.read (Elt F) (m.view.writes (Elt F) f (vxL x2)) = vxF x2 :=
  View.read_writes_eq_canon _ _ _ (View.cover_of_tiledBy (vxL x2) ![1, 16, 512] (by sl_kernel_rfl))

theorem read17 (m : Memref sig .tc .smem S1 .f32) (f : m.view.ty.Contents (Elt F)) (x1 : Vec F S128x16384 .bf16) :
    m.view.read (Elt F) (m.view.writes (Elt F) f (kmL x1)) = kmF x1 :=
  View.read_writes_eq_canon _ _ _ (View.cover_of_tiledL (kmL x1) S1.size (by sl_kernel_rfl))

end Cert.KernelIdeal.Attn

end
-- ==== Proof.AttnHead.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.Pipeline.Value
public import Idealize.ShloMosaic.Lib.WholeRead
public import proofs.«01_k».proof.Proof.AttnData

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first part at the first inner step: the group's keys, values and bound are prepared. -/
theorem head_first (c : Dev nD) (i : grid0.Coords) (arg2 : Memref sig .tc .vmem S512x512 .bf16) (harg2 : arg2.IsWhole) (arg3 : Memref sig .tc .vmem S128x16384 .bf16) (harg3 : arg3.IsWhole) (arg4 : Memref sig .tc .vmem S128x16384 .bf16) (harg4 : arg4.IsWhole) (arg5 : Memref sig .tc .vmem S32x2048 .f32) (harg5 : arg5.IsWhole) (arg6 : Memref sig .tc .vmem S32x8192 .f32) (harg6 : arg6.IsWhole) (arg7 : Memref sig .tc .vmem S128x2048 .f32) (harg7 : arg7.IsWhole) (arg8 : Memref sig .tc .vmem S32x2048 .f32) (harg8 : arg8.IsWhole) (arg9 : Memref sig .tc .vmem S512x512 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S32x2048 .bf16) (harg13 : arg13.IsWhole) (arg14 : Memref sig .tc .vmem S128x2048 .bf16) (harg14 : arg14.IsWhole) (arg15 : Memref sig .tc .vmem S16384x128 .bf16) (harg15 : arg15.IsWhole) (arg16 : Memref sig .tc .vmem S32x144x512 .bf16) (harg16 : arg16.IsWhole) (arg17 : Memref sig .tc .smem S1 .f32) (harg17 : arg17.IsWhole) (arg18 : Memref sig .tc .vmem S1x2048 .f32) (harg18 : arg18.IsWhole) (arg19 : Memref sig .tc .vmem S144x2048 .f32) (harg19 : arg19.IsWhole) (hc : first i) (x0 : Vec F S512x512 .bf16) (x1 x2 : Vec F S128x16384 .bf16) (x3 : Vec F S32x2048 .f32) (x4 : Vec F S32x8192 .f32) (x5 : Vec F S128x2048 .f32) (x6 : Vec F S32x2048 .f32) (E : Set ℕ) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)  ∗ (∃ d, owns (c : Thread nD τ) arg15 fullShare d) ∗ (∃ d, owns (c : Thread nD τ) arg16 fullShare d) ∗ (∃ d, owns (c : Thread nD τ) arg17 fullShare d)) ∗ (iprop((owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare (k0_pay152 x3) ∗ owns (c : Thread nD τ) arg11 fullShare (k0_pay153 x4) ∗ owns (c : Thread nD τ) arg12 fullShare (k0_pay154 x5) ∗ owns (c : Thread nD τ) arg13 fullShare (k0_pay155 x6)) ∗ (arg2.view.loc (c : Thread nD τ) ↦[arg2.view.set]{fullShare} harg2.unread x0) ∗ (∃ f14, (arg14.view.loc (c : Thread nD τ) ↦[arg14.view.set]{fullShare} arg14.view.writes (Elt F) f14 [⟨Rect.unit (s := S128x2048) ![0, 512] S128x512.size inb_S128x2048_S128x512_0_512, k0_pay160 (View.ld x0 (Rect.unit (s := S512x512) ![128, 0] S128x512.size inb_S512x512_S128x512_128_0))⟩, ⟨Rect.unit (s := S128x2048) ![0, 0] S128x512.size inb_S128x2048_S128x512_0_0, k0_pay159 (View.ld x0 (Rect.unit (s := S512x512) ![0, 0] S128x512.size inb_S512x512_S128x512_0_0))⟩])) ∗ (arg15.view.loc (c : Thread nD τ) ↦[arg15.view.set]{fullShare} harg15.unread (knF x1)) ∗ (arg16.view.loc (c : Thread nD τ) ↦[arg16.view.set]{fullShare} harg16.unread (vxF x2)) ∗ (arg17.view.loc (c : Thread nD τ) ↦[arg17.view.set]{fullShare} harg17.unread (kmF x1))) -∗ K ⟨⟩))
        ⊢ wp frame (wpE (defs₀ (F := F)) Variants.none (c : Thread nD τ) none) E (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have e2 : ∀ r : Rect _, View.readAt (Elt F) arg2.view r.toLoadRect (harg2.unread x0) = View.ld x0 r := fun r => funext fun x => harg2.readAt_unread x0 _ x
  have e3 : ∀ r : Rect _, View.readAt (Elt F) arg3.view r.toLoadRect (harg3.unread x1) = View.ld x1 r := fun r => funext fun x => harg3.readAt_unread x1 _ x
  have e4 : ∀ r : Rect _, View.readAt (Elt F) arg4.view r.toLoadRect (harg4.unread x2) = View.ld x2 r := fun r => funext fun x => harg4.readAt_unread x2 _ x
  have e5 : View.readAt (Elt F) arg5.view (Rect.unit (s := S32x2048) ![0, 0] S32x2048.size inb_S32x2048_S32x2048_0_0).toLoadRect (harg5.unread x3) = x3 := (View.readAt_full _ _ _).trans (harg5.read_unread _)
  have e6 : View.readAt (Elt F) arg6.view (Rect.unit (s := S32x8192) ![0, 0] S32x8192.size inb_S32x8192_S32x8192_0_0).toLoadRect (harg6.unread x4) = x4 := (View.readAt_full _ _ _).trans (harg6.read_unread _)
  have e7 : View.readAt (Elt F) arg7.view (Rect.unit (s := S128x2048) ![0, 0] S128x2048.size inb_S128x2048_S128x2048_0_0).toLoadRect (harg7.unread x5) = x5 := (View.readAt_full _ _ _).trans (harg7.read_unread _)
  have e8 : View.readAt (Elt F) arg8.view (Rect.unit (s := S32x2048) ![0, 0] S32x2048.size inb_S32x2048_S32x2048_0_0).toLoadRect (harg8.unread x6) = x6 := (View.readAt_full _ _ _).trans (harg8.read_unread _)
  simp only [k0_part20_eq_skeleton]; unfold k0_part20_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact hc)
  · sl_step
    iapply Hk
    isplitl [H3 H4 H5 H6 H7 H8 H10 H11 H12 H13]
    · isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H10]
      · iexists _; isplitr; swap; · iexact H10
        ipureintro; exact View.read_writes_full _ _ _ _ _
      isplitl [H11]
      · iexists _; isplitr; swap; · iexact H11
        ipureintro; exact View.read_writes_full _ _ _ _ _
      isplitl [H12]
      · iexists _; isplitr; swap; · iexact H12
        ipureintro; exact View.read_writes_full _ _ _ _ _
      iexists _; isplitr; swap; · iexact H13
      ipureintro; exact View.read_writes_full _ _ _ _ _
    isplitl [H2]; · iexact H2
    isplitl [H14]
    · iexists _; rw [← e2, ← e2]; iexact H14
    isplitl [H15]
    · have h15 : arg15.view.writes (Elt F) f15 (knL x1) = harg15.unread (knF x1) := harg15.eq_unread (read15 _ _ _)
      rw [← h15]; unfold knL; simp only [e3]; iexact H15
    isplitl [H16]
    · have h16 : arg16.view.writes (Elt F) f16 (vxL x2) = harg16.unread (vxF x2) := harg16.eq_unread (read16 _ _ _)
      rw [← h16]; unfold vxL; simp only [e4]; iexact H16
    have h17 : arg17.view.writes (Elt F) f17 (kmL x1) = harg17.unread (kmF x1) := harg17.eq_unread (read17 _ _ _)
    rw [← h17]; unfold kmL; simp only [e3]; iexact H17

end Cert.KernelIdeal.Attn

end
-- ==== Proof.AttnRest.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.Pipeline.Value
public import Idealize.ShloMosaic.Lib.WholeRead
public import proofs.«01_k».proof.Proof.AttnData

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first part at a later inner step: the group's keys, values and bound are kept. -/
theorem head_rest (c : Dev nD) (i : grid0.Coords) (arg2 : Memref sig .tc .vmem S512x512 .bf16) (harg2 : arg2.IsWhole) (arg3 : Memref sig .tc .vmem S128x16384 .bf16) (harg3 : arg3.IsWhole) (arg4 : Memref sig .tc .vmem S128x16384 .bf16) (harg4 : arg4.IsWhole) (arg5 : Memref sig .tc .vmem S32x2048 .f32) (harg5 : arg5.IsWhole) (arg6 : Memref sig .tc .vmem S32x8192 .f32) (harg6 : arg6.IsWhole) (arg7 : Memref sig .tc .vmem S128x2048 .f32) (harg7 : arg7.IsWhole) (arg8 : Memref sig .tc .vmem S32x2048 .f32) (harg8 : arg8.IsWhole) (arg9 : Memref sig .tc .vmem S512x512 .bf16) (harg9 : arg9.IsWhole) (arg10 : Memref sig .tc .vmem S32x2048 .bf16) (harg10 : arg10.IsWhole) (arg11 : Memref sig .tc .vmem S32x8192 .bf16) (harg11 : arg11.IsWhole) (arg12 : Memref sig .tc .vmem S128x2048 .bf16) (harg12 : arg12.IsWhole) (arg13 : Memref sig .tc .vmem S32x2048 .bf16) (harg13 : arg13.IsWhole) (arg14 : Memref sig .tc .vmem S128x2048 .bf16) (harg14 : arg14.IsWhole) (arg15 : Memref sig .tc .vmem S16384x128 .bf16) (harg15 : arg15.IsWhole) (arg16 : Memref sig .tc .vmem S32x144x512 .bf16) (harg16 : arg16.IsWhole) (arg17 : Memref sig .tc .smem S1 .f32) (harg17 : arg17.IsWhole) (arg18 : Memref sig .tc .vmem S1x2048 .f32) (harg18 : arg18.IsWhole) (arg19 : Memref sig .tc .vmem S144x2048 .f32) (harg19 : arg19.IsWhole) (hc : ¬ first i) (x0 : Vec F S512x512 .bf16) (x1 x2 : Vec F S128x16384 .bf16) (x3 : Vec F S32x2048 .f32) (x4 : Vec F S32x8192 .f32) (x5 : Vec F S128x2048 .f32) (x6 : Vec F S32x2048 .f32) (kn : Vec F S16384x128 .bf16) (vx : Vec F S32x144x512 .bf16) (km : Vec F S1 .f32) (E : Set ℕ) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)  ∗ owns (c : Thread nD τ) arg15 fullShare kn ∗ owns (c : Thread nD τ) arg16 fullShare vx ∗ owns (c : Thread nD τ) arg17 fullShare km) ∗ (iprop((owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare (k0_pay152 x3) ∗ owns (c : Thread nD τ) arg11 fullShare (k0_pay153 x4) ∗ owns (c : Thread nD τ) arg12 fullShare (k0_pay154 x5) ∗ owns (c : Thread nD τ) arg13 fullShare (k0_pay155 x6)) ∗ (arg2.view.loc (c : Thread nD τ) ↦[arg2.view.set]{fullShare} harg2.unread x0) ∗ (∃ f14, (arg14.view.loc (c : Thread nD τ) ↦[arg14.view.set]{fullShare} arg14.view.writes (Elt F) f14 [⟨Rect.unit (s := S128x2048) ![0, 512] S128x512.size inb_S128x2048_S128x512_0_512, k0_pay160 (View.ld x0 (Rect.unit (s := S512x512) ![128, 0] S128x512.size inb_S512x512_S128x512_128_0))⟩, ⟨Rect.unit (s := S128x2048) ![0, 0] S128x512.size inb_S128x2048_S128x512_0_0, k0_pay159 (View.ld x0 (Rect.unit (s := S512x512) ![0, 0] S128x512.size inb_S512x512_S128x512_0_0))⟩])) ∗ (arg15.view.loc (c : Thread nD τ) ↦[arg15.view.set]{fullShare} harg15.unread kn) ∗ (arg16.view.loc (c : Thread nD τ) ↦[arg16.view.set]{fullShare} harg16.unread vx) ∗ (arg17.view.loc (c : Thread nD τ) ↦[arg17.view.set]{fullShare} harg17.unread km)) -∗ K ⟨⟩))
        ⊢ wp frame (wpE (defs₀ (F := F)) Variants.none (c : Thread nD τ) none) E (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have e2 : ∀ r : Rect _, View.readAt (Elt F) arg2.view r.toLoadRect (harg2.unread x0) = View.ld x0 r := fun r => funext fun x => harg2.readAt_unread x0 _ x
  have e3 : ∀ r : Rect _, View.readAt (Elt F) arg3.view r.toLoadRect (harg3.unread x1) = View.ld x1 r := fun r => funext fun x => harg3.readAt_unread x1 _ x
  have e4 : ∀ r : Rect _, View.readAt (Elt F) arg4.view r.toLoadRect (harg4.unread x2) = View.ld x2 r := fun r => funext fun x => harg4.readAt_unread x2 _ x
  have e5 : View.readAt (Elt F) arg5.view (Rect.unit (s := S32x2048) ![0, 0] S32x2048.size inb_S32x2048_S32x2048_0_0).toLoadRect (harg5.unread x3) = x3 := (View.readAt_full _ _ _).trans (harg5.read_unread _)
  have e6 : View.readAt (Elt F) arg6.view (Rect.unit (s := S32x8192) ![0, 0] S32x8192.size inb_S32x8192_S32x8192_0_0).toLoadRect (harg6.unread x4) = x4 := (View.readAt_full _ _ _).trans (harg6.read_unread _)
  have e7 : View.readAt (Elt F) arg7.view (Rect.unit (s := S128x2048) ![0, 0] S128x2048.size inb_S128x2048_S128x2048_0_0).toLoadRect (harg7.unread x5) = x5 := (View.readAt_full _ _ _).trans (harg7.read_unread _)
  have e8 : View.readAt (Elt F) arg8.view (Rect.unit (s := S32x2048) ![0, 0] S32x2048.size inb_S32x2048_S32x2048_0_0).toLoadRect (harg8.unread x6) = x6 := (View.readAt_full _ _ _).trans (harg8.read_unread _)
  simp only [k0_part20_eq_skeleton]; unfold k0_part20_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%f17, %hf17, H17⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg15.eq_unread hf15; obtain rfl := harg16.eq_unread hf16; obtain rfl := harg17.eq_unread hf17
  sl_exec (disch := first | sl_exact hc)
  · sl_step
    iapply Hk
    isplitl [H3 H4 H5 H6 H7 H8 H10 H11 H12 H13]
    · isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H10]
      · iexists _; isplitr; swap; · iexact H10
        ipureintro; exact View.read_writes_full _ _ _ _ _
      isplitl [H11]
      · iexists _; isplitr; swap; · iexact H11
        ipureintro; exact View.read_writes_full _ _ _ _ _
      isplitl [H12]
      · iexists _; isplitr; swap; · iexact H12
        ipureintro; exact View.read_writes_full _ _ _ _ _
      iexists _; isplitr; swap; · iexact H13
      ipureintro; exact View.read_writes_full _ _ _ _ _
    isplitl [H2]; · iexact H2
    isplitl [H14]
    · iexists _; rw [← e2, ← e2]; iexact H14
    isplitl [H15]; · iexact H15
    isplitl [H16]; · iexact H16
    iexact H17

end Cert.KernelIdeal.Attn

end
-- ==== Proof.AttnFrame.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.Pipeline.Value
public import Idealize.ShloMosaic.Lib.WholeRead
public import proofs.«01_k».proof.Proof.AttnHead
public import proofs.«01_k».proof.Proof.AttnRest
public import Idealize.ShloMosaic.Lib.Claim

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A scratch buffer of the kernel. -/
abbrev sc0 : Memref sig .tc .vmem S128x2048 .bf16 := Memref.whole cc0_scratch0
/-- A scratch buffer of the kernel. -/
abbrev sc1 : Memref sig .tc .vmem S16384x128 .bf16 := Memref.whole cc0_scratch1
/-- A scratch buffer of the kernel. -/
abbrev sc2 : Memref sig .tc .vmem S32x144x512 .bf16 := Memref.whole cc0_scratch2
/-- A scratch buffer of the kernel. -/
abbrev sc3 : Memref sig .tc .smem S1 .f32 := Memref.whole cc0_scratch3
/-- A scratch buffer of the kernel. -/
abbrev sc4 : Memref sig .tc .vmem S1x2048 .f32 := Memref.whole cc0_scratch4
/-- A scratch buffer of the kernel. -/
abbrev sc5 : Memref sig .tc .vmem S144x2048 .f32 := Memref.whole cc0_scratch5

/-- What the launch hands the region: the scratch buffers at anything and the generator register. -/
theorem PhiA_eq (c : Dev nD) : (Pipeline.ΦA spec0 c : sProp 𝕄)
    = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc4 fullShare d) ∗ (∃ d, owns (c : Thread nD τ) sc5 fullShare d) ∗ (∃ d, owns (c : Thread nD τ) sc3 fullShare d)) ∗ (∃ r, prngReg c r)) := by
  unfold Pipeline.ΦA; rw [scopedRest0_eq]; simp only [sc0, sc1, sc2, sc3, sc4, sc5, owns_whole]; try rfl

/-- Before a point: at the first anything, later the group's keys, values and bound in scratch. -/
def PhiS (c : Dev nD) : (n : ℕ) → n ≤ cfg0.N → sProp 𝕄
  | 0, _ => Pipeline.ΦA spec0 c
  | n + 1, hn => iprop(((∃ d, owns (c : Thread nD τ) sc0 fullShare d) ∗ owns (c : Thread nD τ) sc1 fullShare (knF (iblk m c 1 ⟨n, hn⟩)) ∗ owns (c : Thread nD τ) sc2 fullShare (vxF (iblk m c 2 ⟨n, hn⟩)) ∗ (∃ d, owns (c : Thread nD τ) sc4 fullShare d) ∗ (∃ d, owns (c : Thread nD τ) sc5 fullShare d) ∗ owns (c : Thread nD τ) sc3 fullShare (kmF (iblk m c 1 ⟨n, hn⟩))) ∗ (∃ r, prngReg c r))

theorem PhiS_pos (c : Dev nD) (n : ℕ) (h : n ≤ cfg0.N) (hz : n ≠ 0) :
    PhiS m c n h = iprop(((∃ d, owns (c : Thread nD τ) sc0 fullShare d) ∗ owns (c : Thread nD τ) sc1 fullShare (knF (iblk m c 1 ⟨n - 1, by omega⟩)) ∗ owns (c : Thread nD τ) sc2 fullShare (vxF (iblk m c 2 ⟨n - 1, by omega⟩)) ∗ (∃ d, owns (c : Thread nD τ) sc4 fullShare d) ∗ (∃ d, owns (c : Thread nD τ) sc5 fullShare d) ∗ owns (c : Thread nD τ) sc3 fullShare (kmF (iblk m c 1 ⟨n - 1, by omega⟩))) ∗ (∃ r, prngReg c r)) := by
  cases n with
  | zero => exact absurd rfl hz
  | succ n => rfl

/-- Whatever the point, the scratch buffers hold something. -/
theorem PhiS_any (c : Dev nD) (n : ℕ) (h : n ≤ cfg0.N) : PhiS m c n h ⊢ Pipeline.ΦA spec0 c := by
  rcases n with _ | n
  · exact Idealize.SL.BI.Entails.refl _
  rw [PhiS_pos m c _ _ (Nat.succ_ne_zero n), PhiA_eq]
  iintro ⟨⟨H0, H1, H2, H4, H5, H3⟩, Hg⟩
  isplitl [H0 H1 H2 H3 H4 H5]
  · isplitl [H0]; · iexact H0
    isplitl [H1]; · iexists _; iexact H1
    isplitl [H2]; · iexists _; iexact H2
    isplitl [H4]; · iexact H4
    isplitl [H5]; · iexact H5
    iexists _; iexact H3
  iexact Hg

/-- The pipeline's proof data: the inputs stay, the outputs are the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => attnOut (iblk m c 0 t) (knF (iblk m c 1 t)) (vxF (iblk m c 2 t)) (kmF (iblk m c 1 t))
    | ⟨8, _⟩ => k0_pay152 (iblk m c 3 t)
    | ⟨9, _⟩ => k0_pay153 (iblk m c 4 t)
    | ⟨10, _⟩ => k0_pay154 (iblk m c 5 t)
    | ⟨11, _⟩ => k0_pay155 (iblk m c 6 t)
  Φ t := PhiS m c t.val (Nat.le_of_lt_succ t.isLt)
  q w := Pipeline.shareOf spec0 w
  owed _ := 0

/-- The arrays are as the region finds them. -/
theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = attnOut (iblk m c 0 t) (knF (iblk m c 1 t)) (vxF (iblk m c 2 t)) (kmF (iblk m c 1 t)) := by dsimp only [dats]
theorem after0_8 (c : Dev nD) (t : Fin cfg0.N) : (dats m 0 c).after 8 t = k0_pay152 (iblk m c 3 t) := by dsimp only [dats]
theorem after0_9 (c : Dev nD) (t : Fin cfg0.N) : (dats m 0 c).after 9 t = k0_pay153 (iblk m c 4 t) := by dsimp only [dats]
theorem after0_10 (c : Dev nD) (t : Fin cfg0.N) : (dats m 0 c).after 10 t = k0_pay154 (iblk m c 5 t) := by dsimp only [dats]
theorem after0_11 (c : Dev nD) (t : Fin cfg0.N) : (dats m 0 c).after 11 t = k0_pay155 (iblk m c 6 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- Within a group the block stays. -/
theorem stay1 (c : Dev nD) (t : Fin cfg0.N) (ht : ¬ t.val % 32 = 0) : iblk m c 1 ⟨t.val - 1, Nat.lt_of_le_of_lt (Nat.sub_le _ _) t.isLt⟩ = iblk m c 1 t := by
  have hf : (cfg0.win 1).fetch t = false := by
    cases h : (cfg0.win 1).fetch t with
    | false => rfl
    | true => exact absurd ((fetch0_1 t).1 h) ht
  have d : (cfg0.win 1).block.Idx → Elt F (cfg0.win 1).elt := iblk m c 1 t
  have a := (dats m 0 c).before_unfetched_in 1 rfl t hf (fun _ => rfl) d
  rw [before0_1] at a
  rw [a, ← after0_1 m c ⟨t.val - 1, Nat.lt_of_le_of_lt (Nat.sub_le _ _) t.isLt⟩]
  exact (show (dats m 0 c).kept 1 ⟨t.val - 1, Nat.lt_of_le_of_lt (Nat.sub_le _ _) t.isLt⟩ d = _ from rfl).symm
/-- Within a group the block stays. -/
theorem stay2 (c : Dev nD) (t : Fin cfg0.N) (ht : ¬ t.val % 32 = 0) : iblk m c 2 ⟨t.val - 1, Nat.lt_of_le_of_lt (Nat.sub_le _ _) t.isLt⟩ = iblk m c 2 t := by
  have hf : (cfg0.win 2).fetch t = false := by
    cases h : (cfg0.win 2).fetch t with
    | false => rfl
    | true => exact absurd ((fetch0_2 t).1 h) ht
  have d : (cfg0.win 2).block.Idx → Elt F (cfg0.win 2).elt := iblk m c 2 t
  have a := (dats m 0 c).before_unfetched_in 2 rfl t hf (fun _ => rfl) d
  rw [before0_2] at a
  rw [a, ← after0_2 m c ⟨t.val - 1, Nat.lt_of_le_of_lt (Nat.sub_le _ _) t.isLt⟩]
  exact (show (dats m 0 c).kept 2 ⟨t.val - 1, Nat.lt_of_le_of_lt (Nat.sub_le _ _) t.isLt⟩ d = _ from rfl).symm

/-- The first inner step, by the point's number. -/
theorem first_iff : ∀ t : Fin cfg0.N, first (grid0.coords t) ↔ t.val % 32 = 0 :=
  (by decide +kernel : ∀ t : Fin grid0.N, (Scalar.cmpi .ne (Scalar.extui (Scalar.cmpi .eq (BitVec.ofNat 32 (grid0.coords t 1).val) 0#32) : BitVec 32) 0#32 = 1#1) ↔ t.val % 32 = 0)

/-- What the body is called with at a point, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (st0_0 t) fullShare ((dats m 0 c).after 0 t) from by
    unfold Dat.leavesExact; rw [show cfg0.idle 0 (grid0.coords t) = false from rfl], after0_0]
  rw [show (dats m 0 c).leavesExact 1 t = owns (c : Thread nD τ) (st0_1 t) fullShare ((dats m 0 c).after 1 t) from by
    unfold Dat.leavesExact; rw [show cfg0.idle 1 (grid0.coords t) = false from rfl], after0_1]
  rw [show (dats m 0 c).leavesExact 2 t = owns (c : Thread nD τ) (st0_2 t) fullShare ((dats m 0 c).after 2 t) from by
    unfold Dat.leavesExact; rw [show cfg0.idle 2 (grid0.coords t) = false from rfl], after0_2]
  rw [show (dats m 0 c).leavesExact 3 t = owns (c : Thread nD τ) (st0_3 t) fullShare ((dats m 0 c).after 3 t) from by
    unfold Dat.leavesExact; rw [show cfg0.idle 3 (grid0.coords t) = false from rfl], after0_3]
  rw [show (dats m 0 c).leavesExact 4 t = owns (c : Thread nD τ) (st0_4 t) fullShare ((dats m 0 c).after 4 t) from by
    unfold Dat.leavesExact; rw [show cfg0.idle 4 (grid0.coords t) = false from rfl], after0_4]
  rw [show (dats m 0 c).leavesExact 5 t = owns (c : Thread nD τ) (st0_5 t) fullShare ((dats m 0 c).after 5 t) from by
    unfold Dat.leavesExact; rw [show cfg0.idle 5 (grid0.coords t) = false from rfl], after0_5]
  rw [show (dats m 0 c).leavesExact 6 t = owns (c : Thread nD τ) (st0_6 t) fullShare ((dats m 0 c).after 6 t) from by
    unfold Dat.leavesExact; rw [show cfg0.idle 6 (grid0.coords t) = false from rfl], after0_6]
  rw [show (dats m 0 c).leavesExact 7 t = owns (c : Thread nD τ) (st0_7 t) fullShare ((dats m 0 c).after 7 t) from by
    unfold Dat.leavesExact; rw [show cfg0.idle 7 (grid0.coords t) = false from rfl], after0_7]
  rw [show (dats m 0 c).leavesExact 8 t = owns (c : Thread nD τ) (st0_8 t) fullShare ((dats m 0 c).after 8 t) from by
    unfold Dat.leavesExact; rw [show cfg0.idle 8 (grid0.coords t) = false from rfl], after0_8]
  rw [show (dats m 0 c).leavesExact 9 t = owns (c : Thread nD τ) (st0_9 t) fullShare ((dats m 0 c).after 9 t) from by
    unfold Dat.leavesExact; rw [show cfg0.idle 9 (grid0.coords t) = false from rfl], after0_9]
  rw [show (dats m 0 c).leavesExact 10 t = owns (c : Thread nD τ) (st0_10 t) fullShare ((dats m 0 c).after 10 t) from by
    unfold Dat.leavesExact; rw [show cfg0.idle 10 (grid0.coords t) = false from rfl], after0_10]
  rw [show (dats m 0 c).leavesExact 11 t = owns (c : Thread nD τ) (st0_11 t) fullShare ((dats m 0 c).after 11 t) from by
    unfold Dat.leavesExact; rw [show cfg0.idle 11 (grid0.coords t) = false from rfl], after0_11]
  rw [Phi_castSucc m c t]
  by_cases h0 : t.val % 32 = 0
  · refine (show _ ⊢ _ from sep_mono (PhiS_any m c _ _) (Idealize.SL.BI.Entails.refl _)).trans ?_
    rw [PhiA_eq]
    iintro ⟨⟨⟨S0, S1, S2, S4, S5, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_run c (grid0.coords t) _ _ _ _ _ _ _ _ _ _ _ _ _ _ _ _ _ _ _ _ _ _ _ _ _ _ _ _ _ _ _ _ _ _ _ _  (iblk m c 0 t) (knF (iblk m c 1 t)) (vxF (iblk m c 2 t)) (kmF (iblk m c 1 t)) Set.univ _ _ _
      (fun K' => head_first c (grid0.coords t) _ _ _ _ _ _ _ _ _ _ _ _ _ _ _ _ _ _ _ _ _ _ _ _ _ _ _ _ _ _ _ _ _ _ _ _  ((first_iff t).2 h0) (iblk m c 0 t) (iblk m c 1 t) (iblk m c 2 t) (iblk m c 3 t) (iblk m c 4 t) (iblk m c 5 t) (iblk m c 6 t) Set.univ K'))
    isplitl [H0 H1 H2 H3 H4 H5 H6 H8 H9 H10 H11 S0 S1 S2 S3]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H8]; · iexists _; iexact H8
      isplitl [H9]; · iexists _; iexact H9
      isplitl [H10]; · iexists _; iexact H10
      isplitl [H11]; · iexists _; iexact H11
      isplitl [S0]; · iexact S0
      isplitl [S1]; · iexact S1
      isplitl [S2]; · iexact S2
      iexact S3
    isplitl [H7]; · iexists _; iexact H7
    isplitl [S4]; · iexact S4
    isplitl [S5]; · iexact S5
    iintro ⟨⟨H1, H2, H3, H4, H5, H6, H8, H9, H10, H11⟩, H0, H7, S0, S1, S2, S3, S4, S5⟩
    isplitl [S0 S1 S2 S3 S4 S5 Hg]
    · isplitl [S0 S1 S2 S3 S4 S5]
      · isplitl [S0]; · iexact S0
        isplitl [S1]; · iexact S1
        isplitl [S2]; · iexact S2
        isplitl [S4]; · iexact S4
        isplitl [S5]; · iexact S5
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

  · have hz : t.val ≠ 0 := fun h => h0 (by rw [h])
    rw [PhiS_pos m c _ _ hz, stay1 m c t h0, stay2 m c t h0]
    iintro ⟨⟨⟨S0, S1, S2, S4, S5, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_run c (grid0.coords t) _ _ _ _ _ _ _ _ _ _ _ _ _ _ _ _ _ _ _ _ _ _ _ _ _ _ _ _ _ _ _ _ _ _ _ _  (iblk m c 0 t) (knF (iblk m c 1 t)) (vxF (iblk m c 2 t)) (kmF (iblk m c 1 t)) Set.univ _ _ _
      (fun K' => head_rest c (grid0.coords t) _ _ _ _ _ _ _ _ _ _ _ _ _ _ _ _ _ _ _ _ _ _ _ _ _ _ _ _ _ _ _ _ _ _ _ _  (fun h => h0 ((first_iff t).1 h)) (iblk m c 0 t) (iblk m c 1 t) (iblk m c 2 t) (iblk m c 3 t) (iblk m c 4 t) (iblk m c 5 t) (iblk m c 6 t) (knF (iblk m c 1 t)) (vxF (iblk m c 2 t)) (kmF (iblk m c 1 t)) Set.univ K'))
    isplitl [H0 H1 H2 H3 H4 H5 H6 H8 H9 H10 H11 S0 S1 S2 S3]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H8]; · iexists _; iexact H8
      isplitl [H9]; · iexists _; iexact H9
      isplitl [H10]; · iexists _; iexact H10
      isplitl [H11]; · iexists _; iexact H11
      isplitl [S0]; · iexact S0
      isplitl [S1]; · iexact S1
      isplitl [S2]; · iexact S2
      iexact S3
    isplitl [H7]; · iexists _; iexact H7
    isplitl [S4]; · iexact S4
    isplitl [S5]; · iexact S5
    iintro ⟨⟨H1, H2, H3, H4, H5, H6, H8, H9, H10, H11⟩, H0, H7, S0, S1, S2, S3, S4, S5⟩
    isplitl [S0 S1 S2 S3 S4 S5 Hg]
    · isplitl [S0 S1 S2 S3 S4 S5]
      · isplitl [S0]; · iexact S0
        isplitl [S1]; · iexact S1
        isplitl [S2]; · iexact S2
        isplitl [S4]; · iexact S4
        isplitl [S5]; · iexact S5
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c :=
  (show (dats m 0 c).Φ (Fin.last cfg0.N) ⊢ _ from by
    rw [show (dats m 0 c).Φ (Fin.last cfg0.N) = PhiS m c (Fin.last cfg0.N).val (Nat.le_of_lt_succ (Fin.last cfg0.N).isLt) from rfl]; exact PhiS_any m c _ _)

set_option backward.isDefEq.respectTransparency.types false in
/-- The launch: every run ends with the arrays at the proof data's contents and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the argument arrays unchanged and every counter at zero. -/
theorem frame_at : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Frames.lean ====
module

public import proofs.«01_k».proof.Defs
public import proofs.«01_k».proof.Proof.Gen.Kernel
public import proofs.«01_k».proof.Proof.AttnFrame
public import proofs.«01_k».proof.Proof.Gen.Mlp.Frame
public import proofs.«01_k».proof.Proof.Gen.MlpIdeal.Frame
public import proofs.«01_k».proof.Proof.Gen.Ple.Frame
public import proofs.«01_k».proof.Proof.Gen.PleIdeal.Frame
public import proofs.«01_k».proof.Proof.Gen.Oproj.Frame
public import proofs.«01_k».proof.Proof.Gen.OprojIdeal.Frame
public import proofs.«01_k».proof.Proof.Gen.InB.Frame
public import proofs.«01_k».proof.Proof.Gen.InBIdeal.Frame
public import proofs.«01_k».proof.Proof.Gen.InA.Frame
public import proofs.«01_k».proof.Proof.Gen.InAIdeal.Frame
public import proofs.«01_k».proof.Proof.Gen.ReferenceIdeal.Run
public import proofs.«01_k».proof.Proof.Gen.MlpRefIdeal.Run
public import proofs.«01_k».proof.Proof.Gen.PleRefIdeal.Run
public import proofs.«01_k».proof.Proof.Gen.OprojRefIdeal.Run
public import proofs.«01_k».proof.Proof.Gen.InBRefIdeal.Run
public import proofs.«01_k».proof.Proof.Gen.InARefIdeal.Run
public import proofs.«01_k».proof.Proof.Gen.ReferenceIdeal
public import Idealize.ShloMosaic.Adequacy
public import Idealize.ShloMosaic.Lib.Quiescent

@[expose] public section

set_option maxRecDepth 16384
set_option maxHeartbeats 1000000

noncomputable section

namespace Cert.Proof

open Idealize.ShloMosaic Idealize.ShloMosaic.TcCoe Idealize.SL.Sem

/-- The two programs have one text: their body tables are equal, -/
theorem defs₀_eq {F : FTy → Type} [FloatOps F] [Cert.Kernel.Facts] [Cert.KernelIdeal.Facts] :
    Cert.Kernel.defs₀ (F := F) = Cert.KernelIdeal.defs₀ (F := F) := by
  unfold Cert.Kernel.defs₀ Cert.KernelIdeal.defs₀
  refine congrArg Defs.onTc ?_
  funext l a
  match l, a with
  | 0, (t, s) => exact rfl

/-- with the pipelines', -/
theorem defs_eq {F : FTy → Type} [FloatOps F] [Cert.Kernel.Facts] [Cert.KernelIdeal.Facts] :
    Cert.Kernel.defs (F := F) = Cert.KernelIdeal.defs (F := F) :=
  congrArg (Pipeline.defs (Cert.KernelIdeal.pcfgs (F := F))) defs₀_eq

/-- and the programs. -/
theorem main_eq {F : FTy → Type} [FloatOps F] [Cert.Kernel.Facts] [Cert.KernelIdeal.Facts] :
    Cert.Kernel.main (F := F) = Cert.KernelIdeal.main (F := F) := rfl

/-- The attention's frame: the idealization's run, whose text is the program's, at the program's values. -/
theorem frame_kernel : Cert.quiescent_Kernel (hKernel := Cert.Kernel.Gen.facts) := by
  letI := Cert.Kernel.Gen.facts
  letI := Cert.KernelIdeal.Gen.facts
  intro m ρ _
  have h := Cert.KernelIdeal.Attn.frame_at (F := Bits) m ρ
  rw [← defs_eq, ← main_eq] at h
  exact h

/-- The frame of the attention's idealization. -/
theorem frame_kernelIdeal : Cert.quiescent_KernelIdeal (hKernelIdeal := Cert.KernelIdeal.Gen.facts) := fun m ρ _ =>
  Cert.KernelIdeal.Attn.frame_at (F := Ideal) m ρ

/-- The frame of the attention's reference: host operations only, no semaphores. -/
theorem frame_ref : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems rfl r.2⟩)
    (Cert.ReferenceIdeal.Value.run (F := Ideal) m ρ)

/-- The frame of Mlp. -/
theorem frame_Mlp : Cert.quiescent_Mlp (hMlp := Cert.Mlp.Gen.facts) := fun m ρ _ =>
  Cert.Mlp.Gen.frame (F := Bits) m ρ

/-- The frame of Mlp's idealization. -/
theorem frame_MlpIdeal : Cert.quiescent_MlpIdeal (hMlpIdeal := Cert.MlpIdeal.Gen.facts) := fun m ρ _ =>
  Cert.MlpIdeal.Gen.frame (F := Ideal) m ρ

/-- The frame of Mlp's reference. -/
theorem frame_MlpRef : Cert.quiescent_MlpRefIdeal (hMlpRefIdeal := Cert.MlpRefIdeal.Gen.facts) := fun m ρ _ =>
  (θ_run Cert.MlpRefIdeal.defs _ _).mono (fun r h => ⟨fun c => (h c).2, sem_eq_zero_of_no_sems rfl r.2⟩)
    (Cert.MlpRefIdeal.Value.run (F := Ideal) m ρ)

/-- The frame of Ple. -/
theorem frame_Ple : Cert.quiescent_Ple (hPle := Cert.Ple.Gen.facts) := fun m ρ _ =>
  Cert.Ple.Gen.frame (F := Bits) m ρ

/-- The frame of Ple's idealization. -/
theorem frame_PleIdeal : Cert.quiescent_PleIdeal (hPleIdeal := Cert.PleIdeal.Gen.facts) := fun m ρ _ =>
  Cert.PleIdeal.Gen.frame (F := Ideal) m ρ

/-- The frame of Ple's reference. -/
theorem frame_PleRef : Cert.quiescent_PleRefIdeal (hPleRefIdeal := Cert.PleRefIdeal.Gen.facts) := fun m ρ _ =>
  (θ_run Cert.PleRefIdeal.defs _ _).mono (fun r h => ⟨fun c => (h c).2, sem_eq_zero_of_no_sems rfl r.2⟩)
    (Cert.PleRefIdeal.Value.run (F := Ideal) m ρ)

/-- The frame of Oproj. -/
theorem frame_Oproj : Cert.quiescent_Oproj (hOproj := Cert.Oproj.Gen.facts) := fun m ρ _ =>
  Cert.Oproj.Gen.frame (F := Bits) m ρ

/-- The frame of Oproj's idealization. -/
theorem frame_OprojIdeal : Cert.quiescent_OprojIdeal (hOprojIdeal := Cert.OprojIdeal.Gen.facts) := fun m ρ _ =>
  Cert.OprojIdeal.Gen.frame (F := Ideal) m ρ

/-- The frame of Oproj's reference. -/
theorem frame_OprojRef : Cert.quiescent_OprojRefIdeal (hOprojRefIdeal := Cert.OprojRefIdeal.Gen.facts) := fun m ρ _ =>
  (θ_run Cert.OprojRefIdeal.defs _ _).mono (fun r h => ⟨fun c => (h c).2, sem_eq_zero_of_no_sems rfl r.2⟩)
    (Cert.OprojRefIdeal.Value.run (F := Ideal) m ρ)

/-- The frame of InB. -/
theorem frame_InB : Cert.quiescent_InB (hInB := Cert.InB.Gen.facts) := fun m ρ _ =>
  Cert.InB.Gen.frame (F := Bits) m ρ

/-- The frame of InB's idealization. -/
theorem frame_InBIdeal : Cert.quiescent_InBIdeal (hInBIdeal := Cert.InBIdeal.Gen.facts) := fun m ρ _ =>
  Cert.InBIdeal.Gen.frame (F := Ideal) m ρ

/-- The frame of InB's reference. -/
theorem frame_InBRef : Cert.quiescent_InBRefIdeal (hInBRefIdeal := Cert.InBRefIdeal.Gen.facts) := fun m ρ _ =>
  (θ_run Cert.InBRefIdeal.defs _ _).mono (fun r h => ⟨fun c => (h c).2, sem_eq_zero_of_no_sems rfl r.2⟩)
    (Cert.InBRefIdeal.Value.run (F := Ideal) m ρ)

/-- The frame of InA. -/
theorem frame_InA : Cert.quiescent_InA (hInA := Cert.InA.Gen.facts) := fun m ρ _ =>
  Cert.InA.Gen.frame (F := Bits) m ρ

/-- The frame of InA's idealization. -/
theorem frame_InAIdeal : Cert.quiescent_InAIdeal (hInAIdeal := Cert.InAIdeal.Gen.facts) := fun m ρ _ =>
  Cert.InAIdeal.Gen.frame (F := Ideal) m ρ

/-- The frame of InA's reference. -/
theorem frame_InARef : Cert.quiescent_InARefIdeal (hInARefIdeal := Cert.InARefIdeal.Gen.facts) := fun m ρ _ =>
  (θ_run Cert.InARefIdeal.defs _ _).mono (fun r h => ⟨fun c => (h c).2.2, sem_eq_zero_of_no_sems rfl r.2⟩)
    (Cert.InARefIdeal.Value.run (F := Ideal) m ρ)

end Cert.Proof

end
-- ==== Proof.AttnRows.lean ====
module

public import proofs.«01_k».proof.Proof.AttnTail
public import Idealize.ShloMosaic.Lib.Pointwise

@[expose] public section

set_option maxRecDepth 16384
set_option maxHeartbeats 4000000

noncomputable section

namespace Cert.KernelIdeal.Attn

open Cert.KernelIdeal Cert.KernelIdeal.Gen
open Idealize.ShloMosaic

/-- The score of key row `j` of a tile with query column `c`. -/
def sc (kt : Vec Ideal S512x128 .bf16) (qt : Vec Ideal S128x2048 .bf16) (j : Fin 512) (c : Fin 2048) : EReal :=
  ∑ d : Fin 128, (kt (ix2 j d) : EReal) * (qt (ix2 d c) : EReal)

/-- One plain step at an element of the accumulator. -/
theorem pay165_apply (kt : Vec Ideal S512x128 .bf16) (qt : Vec Ideal S128x2048 .bf16) (a : Vec Ideal S144x2048 .f32) (vx : Vec Ideal S1x144x512 .bf16) (r : Fin 144) (c : Fin 2048) :
    k0_pay165 kt qt a vx (ix2 r c) = (a (ix2 r c) : EReal) + ∑ j : Fin 512, (vx (ix3 0 r j) : EReal) * Ideal.exp2 (sc kt qt j c) := by
  unfold k0_pay165
  pointwise
  rfl

/-- The new running maximum at a query column. -/
theorem pay168_apply (kt : Vec Ideal S512x128 .bf16) (qt : Vec Ideal S128x2048 .bf16) (mm : Vec Ideal S1x2048 .f32) (c : Fin 2048) :
    k0_pay168 kt qt mm (ix2 0 c) = max (mm (ix2 0 c) : EReal) (Finset.univ.fold max (Ideal.ofBits .f32 0xFF800000#32) fun j : Fin 512 => sc kt qt j c) := by
  unfold k0_pay168 k0_pay167
  pointwise
  rfl

theorem pay170_apply (kt : Vec Ideal S512x128 .bf16) (qt : Vec Ideal S128x2048 .bf16) (mm : Vec Ideal S1x2048 .f32) (c : Fin 2048) :
    k0_pay170 kt qt mm (ix2 0 c) = k0_pay168 kt qt mm (ix2 0 c) := by
  unfold k0_pay170
  pointwise

/-- One step with a running maximum at an element of the accumulator. -/
theorem pay169_apply (kt : Vec Ideal S512x128 .bf16) (qt : Vec Ideal S128x2048 .bf16) (mm : Vec Ideal S1x2048 .f32) (a : Vec Ideal S144x2048 .f32) (vx : Vec Ideal S1x144x512 .bf16) (r : Fin 144) (c : Fin 2048) :
    k0_pay169 kt qt mm a vx (ix2 r c)
      = Ideal.exp2 ((mm (ix2 0 c) : EReal) - k0_pay168 kt qt mm (ix2 0 c)) * (a (ix2 r c) : EReal)
        + ∑ j : Fin 512, (vx (ix3 0 r j) : EReal) * Ideal.exp2 (sc kt qt j c - k0_pay168 kt qt mm (ix2 0 c)) := by
  rw [pay168_apply]
  unfold k0_pay169 k0_pay168 k0_pay167
  pointwise
  rfl

theorem pay163_apply (r : Fin 144) (c : Fin 2048) : (k0_pay163 (F := Ideal)) (ix2 r c) = (0 : EReal) := by
  unfold k0_pay163
  pointwise

theorem pay166_apply (c : Fin 2048) : (k0_pay166 (F := Ideal)) (ix2 0 c) = Ideal.ofBits .f32 0xFF800000#32 := by
  unfold k0_pay166
  pointwise

theorem ofBits_negInf : Ideal.ofBits .f32 0xFF800000#32 = ⊥ := by
  simp [Ideal.ofBits, Ideal.ieee]

/-- The division by the sum of weights, at an element. -/
theorem pay1_apply (a : Vec Ideal S128x2048 .f32) (l : Vec Ideal S1x2048 .f32) (r : Fin 128) (c : Fin 2048) :
    k0_pay1 a l (ix2 r c) = Ideal.div (a (ix2 r c)) (l (ix2 0 c)) := by
  unfold k0_pay1
  pointwise

theorem pay2_apply (a : Vec Ideal S128x2048 .f32) (l : Vec Ideal S1x2048 .f32) (y : Fin 512) (d : Fin 128) :
    k0_pay2 a l (ix2 y d) = Ideal.div (a (ix2 d ⟨y, by omega⟩)) (l (ix2 0 ⟨y, by omega⟩)) := by
  unfold k0_pay2 k0_pay1
  pointwise

theorem pay3_apply (a : Vec Ideal S128x2048 .f32) (l : Vec Ideal S1x2048 .f32) (y : Fin 512) (d : Fin 128) :
    k0_pay3 a l (ix2 y d) = Ideal.div (a (ix2 d ⟨512 + y, by omega⟩)) (l (ix2 0 ⟨512 + y, by omega⟩)) := by
  unfold k0_pay3 k0_pay1
  pointwise

theorem pay4_apply (a : Vec Ideal S128x2048 .f32) (l : Vec Ideal S1x2048 .f32) (y : Fin 512) (d : Fin 128) :
    k0_pay4 a l (ix2 y d) = Ideal.div (a (ix2 d ⟨1024 + y, by omega⟩)) (l (ix2 0 ⟨1024 + y, by omega⟩)) := by
  unfold k0_pay4 k0_pay1
  pointwise

theorem pay5_apply (a : Vec Ideal S128x2048 .f32) (l : Vec Ideal S1x2048 .f32) (y : Fin 512) (d : Fin 128) :
    k0_pay5 a l (ix2 y d) = Ideal.div (a (ix2 d ⟨1536 + y, by omega⟩)) (l (ix2 0 ⟨1536 + y, by omega⟩)) := by
  unfold k0_pay5 k0_pay1
  pointwise

end Cert.KernelIdeal.Attn
-- ==== Proof.AttnRead.lean ====
module

public import proofs.«01_k».proof.Proof.AttnData
public import proofs.«01_k».proof.Proof.AttnRows
public import Idealize.ShloMosaic.Lib.Pointwise

@[expose] public section

set_option maxRecDepth 16384
set_option maxHeartbeats 4000000

noncomputable section

namespace Cert.KernelIdeal.Attn

open Cert.KernelIdeal Cert.KernelIdeal.Gen
open Idealize.ShloMosaic Idealize.ShloMosaic.Tactic

/-- The keys as rows. -/
def knG (x1 : Vec Ideal S128x16384 .bf16) : Vec Ideal S16384x128 .bf16 := fun i => x1 (ix2 (i 1) (i 0))

theorem kn_piece (x1 : Vec Ideal S128x16384 .bf16) (o : ℕ) (h1 : ∀ a, (![0, o] : Fin 2 → ℕ) a + S128x512.size a ≤ S128x16384.size a)
    (h2 : ∀ a, (![o, 0] : Fin 2 → ℕ) a + S512x128.size a ≤ S16384x128.size a) (x : S512x128.Idx) :
    k0_pay8 (View.ld x1 (Rect.unit (s := S128x16384) ![0, o] S128x512.size h1)) x = knG x1 ((Rect.unit (s := S16384x128) ![o, 0] S512x128.size h2).emb x) := by
  obtain ⟨a, b, rfl⟩ : ∃ a b, x = ix2 a b := ⟨_, _, eq_ix2 x⟩
  unfold k0_pay8 k0_pay7
  pointwise
  unfold knG
  refine congrArg x1 (funext fun k => Fin.ext ?_)
  fin_cases k
  · show b.val = 0 + 1 * b.val; omega
  · show o + a.val = o + 1 * a.val; omega

theorem knF_eq (x1 : Vec Ideal S128x16384 .bf16) : knF x1 = knG x1 := by
  have hp := kn_piece x1
  unfold knF
  refine funext fun y => View.canon_apply_of_pieces (knG x1) (knL x1) ?_ y (View.cover_of_tiledL (knL x1) S512x128.size (by sl_kernel_rfl) y)
  unfold knL
  simp only [List.forall_mem_cons]
  refine ⟨hp _ _ _, hp _ _ _, hp _ _ _, hp _ _ _, hp _ _ _, hp _ _ _, hp _ _ _, hp _ _ _, hp _ _ _, hp _ _ _, hp _ _ _, hp _ _ _, hp _ _ _, hp _ _ _, hp _ _ _, hp _ _ _,
    hp _ _ _, hp _ _ _, hp _ _ _, hp _ _ _, hp _ _ _, hp _ _ _, hp _ _ _, hp _ _ _, hp _ _ _, hp _ _ _, hp _ _ _, hp _ _ _, hp _ _ _, hp _ _ _, hp _ _ _, hp _ _ _, ?_⟩
  exact fun p hp => absurd hp List.not_mem_nil

/-- The values a tile at a time, over a row of ones and rows of zeros. -/
def vxG (x2 : Vec Ideal S128x16384 .bf16) : Vec Ideal S32x144x512 .bf16 := fun i =>
  if h : (i 1).val < 128 then x2 (ix2 ⟨(i 1).val, h⟩ ⟨512 * (i 0).val + (i 2).val, by have h0 : (i 0).val < 32 := (i 0).isLt; have h2 : (i 2).val < 512 := (i 2).isLt; omega⟩)
  else if (i 1).val = 128 then (1 : EReal) else (0 : EReal)

theorem vx_piece (x2 : Vec Ideal S128x16384 .bf16) (t o : ℕ) (e : o = 512 * t) (h1 : ∀ a, (![0, o] : Fin 2 → ℕ) a + S128x512.size a ≤ S128x16384.size a)
    (h2 : ∀ a, (![t, 0, 0] : Fin 3 → ℕ) a + S1x128x512.size a ≤ S32x144x512.size a) (x : S1x128x512.Idx) :
    k0_pay9 (View.ld x2 (Rect.unit (s := S128x16384) ![0, o] S128x512.size h1)) x = vxG x2 ((Rect.unit (s := S32x144x512) ![t, 0, 0] S1x128x512.size h2).emb x) := by
  obtain ⟨a, b, c, rfl⟩ : ∃ a b c, x = ix3 a b c := ⟨_, _, _, eq_ix3 x⟩
  subst e
  unfold k0_pay9
  pointwise
  have hb : (((Rect.unit (s := S32x144x512) ![t, 0, 0] S1x128x512.size h2).emb (ix3 a b c)) 1).val = b.val := by
    show 0 + 1 * b.val = b.val; omega
  have ha : (((Rect.unit (s := S32x144x512) ![t, 0, 0] S1x128x512.size h2).emb (ix3 a b c)) 0).val = t := by
    show t + 1 * a.val = t; omega
  have hc : (((Rect.unit (s := S32x144x512) ![t, 0, 0] S1x128x512.size h2).emb (ix3 a b c)) 2).val = c.val := by
    show 0 + 1 * c.val = c.val; omega
  unfold vxG
  rw [dif_pos (by rw [hb]; exact b.isLt)]
  refine congrArg x2 (funext fun k => Fin.ext ?_)
  fin_cases k
  · exact hb.symm
  · show 512 * t + c.val = 512 * _ + _; rw [ha, hc]

theorem one_piece (x2 : Vec Ideal S128x16384 .bf16) (t : ℕ)
    (h2 : ∀ a, (![t, 128, 0] : Fin 3 → ℕ) a + S1x16x512.size a ≤ S32x144x512.size a) (x : S1x16x512.Idx) :
    (k0_pay10 (F := Ideal)) x = vxG x2 ((Rect.unit (s := S32x144x512) ![t, 128, 0] S1x16x512.size h2).emb x) := by
  obtain ⟨a, b, c, rfl⟩ : ∃ a b c, x = ix3 a b c := ⟨_, _, _, eq_ix3 x⟩
  have hb : (((Rect.unit (s := S32x144x512) ![t, 128, 0] S1x16x512.size h2).emb (ix3 a b c)) 1).val = 128 + b.val := by
    show 128 + 1 * b.val = 128 + b.val; omega
  unfold vxG
  rw [dif_neg (by rw [hb]; omega), hb]
  unfold k0_pay10 k0_pay6
  pointwise
  have e : IntOp.cmpi CmpIPredicate.eq (BitVec.ofNat 32 b.val) 0#32 = if 128 + b.val = 128 then 1#1 else 0#1 := by
    clear hb; revert b; decide
  rw [e]
  split <;> rfl

theorem vxF_eq (x2 : Vec Ideal S128x16384 .bf16) : vxF x2 = vxG x2 := by
  have hv := fun t o e => vx_piece x2 t o e
  have ho := one_piece x2
  unfold vxF
  refine funext fun y => View.canon_apply_of_pieces (vxG x2) (vxL x2) ?_ y (View.cover_of_tiledBy (vxL x2) ![1, 16, 512] (by sl_kernel_rfl) y)
  unfold vxL
  simp only [List.forall_mem_cons]
  refine ⟨ho _ _, hv 31 _ (by norm_num) _ _,
    ho _ _, hv 30 _ (by norm_num) _ _,
    ho _ _, hv 29 _ (by norm_num) _ _,
    ho _ _, hv 28 _ (by norm_num) _ _,
    ho _ _, hv 27 _ (by norm_num) _ _,
    ho _ _, hv 26 _ (by norm_num) _ _,
    ho _ _, hv 25 _ (by norm_num) _ _,
    ho _ _, hv 24 _ (by norm_num) _ _,
    ho _ _, hv 23 _ (by norm_num) _ _,
    ho _ _, hv 22 _ (by norm_num) _ _,
    ho _ _, hv 21 _ (by norm_num) _ _,
    ho _ _, hv 20 _ (by norm_num) _ _,
    ho _ _, hv 19 _ (by norm_num) _ _,
    ho _ _, hv 18 _ (by norm_num) _ _,
    ho _ _, hv 17 _ (by norm_num) _ _,
    ho _ _, hv 16 _ (by norm_num) _ _,
    ho _ _, hv 15 _ (by norm_num) _ _,
    ho _ _, hv 14 _ (by norm_num) _ _,
    ho _ _, hv 13 _ (by norm_num) _ _,
    ho _ _, hv 12 _ (by norm_num) _ _,
    ho _ _, hv 11 _ (by norm_num) _ _,
    ho _ _, hv 10 _ (by norm_num) _ _,
    ho _ _, hv 9 _ (by norm_num) _ _,
    ho _ _, hv 8 _ (by norm_num) _ _,
    ho _ _, hv 7 _ (by norm_num) _ _,
    ho _ _, hv 6 _ (by norm_num) _ _,
    ho _ _, hv 5 _ (by norm_num) _ _,
    ho _ _, hv 4 _ (by norm_num) _ _,
    ho _ _, hv 3 _ (by norm_num) _ _,
    ho _ _, hv 2 _ (by norm_num) _ _,
    ho _ _, hv 1 _ (by norm_num) _ _,
    ho _ _, hv 0 _ (by norm_num) _ _, ?_⟩
  exact fun p hp => absurd hp List.not_mem_nil

/-- The four query heads of a block side by side, at an element. -/
def qtG (x0 : Vec Ideal S512x512 .bf16) : Vec Ideal S128x2048 .bf16 := fun i =>
  x0 (ix2 ⟨128 * ((i 1).val / 512) + (i 0).val, by have h0 : (i 0).val < 128 := (i 0).isLt; have h1 : (i 1).val < 2048 := (i 1).isLt; omega⟩ ⟨(i 1).val % 512, Nat.mod_lt _ (by norm_num)⟩)

theorem qt_piece (x0 : Vec Ideal S512x512 .bf16) (g o p : ℕ) (e : o = 512 * g) (e' : p = 128 * g) (h1 : ∀ a, (![p, 0] : Fin 2 → ℕ) a + S128x512.size a ≤ S512x512.size a)
    (h2 : ∀ a, (![0, o] : Fin 2 → ℕ) a + S128x512.size a ≤ S128x2048.size a) (x : S128x512.Idx) :
    k0_pay159 (View.ld x0 (Rect.unit (s := S512x512) ![p, 0] S128x512.size h1)) x = qtG x0 ((Rect.unit (s := S128x2048) ![0, o] S128x512.size h2).emb x) := by
  obtain ⟨a, b, rfl⟩ : ∃ a b, x = ix2 a b := ⟨_, _, eq_ix2 x⟩
  subst e e'
  unfold k0_pay159
  pointwise
  unfold qtG
  have ha : a.val < 128 := a.isLt
  have hb : b.val < 512 := b.isLt
  refine congrArg x0 (funext fun k => Fin.ext ?_)
  fin_cases k
  · show 128 * g + a.val = 128 * ((512 * g + 1 * b.val) / 512) + (0 + 1 * a.val); omega
  · show b.val = (512 * g + 1 * b.val) % 512; omega

theorem qtF_eq (x0 : Vec Ideal S512x512 .bf16) : qtF x0 = qtG x0 := by
  have hp := fun g o p e e' => qt_piece x0 g o p e e'
  unfold qtF
  refine funext fun y => View.canon_apply_of_pieces (qtG x0) (qtL x0) ?_ y (View.cover_of_tiledL (qtL x0) S128x512.size (by sl_kernel_rfl) y)
  unfold qtL
  simp only [List.forall_mem_cons]
  exact ⟨hp 3 _ _ (by norm_num) (by norm_num) _ _, hp 2 _ _ (by norm_num) (by norm_num) _ _, hp 1 _ _ (by norm_num) (by norm_num) _ _, hp 0 _ _ (by norm_num) (by norm_num) _ _,
    fun p hp => absurd hp List.not_mem_nil⟩

/-- The block of the result from the accumulator, at an element. -/
def outG (a : Vec Ideal S144x2048 .f32) : Vec Ideal S512x512 .bf16 := fun i =>
  Ideal.div (a (ix2 ⟨(i 1).val % 128, by omega⟩ ⟨512 * ((i 1).val / 128) + (i 0).val, by have h0 : (i 0).val < 512 := (i 0).isLt; have h1 : (i 1).val < 512 := (i 1).isLt; omega⟩))
    (a (ix2 128 ⟨512 * ((i 1).val / 128) + (i 0).val, by have h0 : (i 0).val < 512 := (i 0).isLt; have h1 : (i 1).val < 512 := (i 1).isLt; omega⟩))

theorem out_piece (a : Vec Ideal S144x2048 .f32) (g o : ℕ) (hg : g < 4) (e : o = 128 * g) (P : Vec Ideal S128x2048 .f32 → Vec Ideal S1x2048 .f32 → FVec Ideal S512x128 .bf16)
    (hP : ∀ (a : Vec Ideal S128x2048 .f32) (l : Vec Ideal S1x2048 .f32) (y : Fin 512) (d : Fin 128), P a l (ix2 y d) = Ideal.div (a (ix2 d ⟨512 * g + y, by omega⟩)) (l (ix2 0 ⟨512 * g + y, by omega⟩)))
    (h0 : ∀ k, (![0, 0] : Fin 2 → ℕ) k + S128x2048.size k ≤ S144x2048.size k) (h1 : ∀ k, (![128, 0] : Fin 2 → ℕ) k + S1x2048.size k ≤ S144x2048.size k)
    (h2 : ∀ k, (![0, o] : Fin 2 → ℕ) k + S512x128.size k ≤ S512x512.size k) (x : S512x128.Idx) :
    P (View.ld a (Rect.unit (s := S144x2048) ![0, 0] S128x2048.size h0)) (View.ld a (Rect.unit (s := S144x2048) ![128, 0] S1x2048.size h1)) x
      = outG a ((Rect.unit (s := S512x512) ![0, o] S512x128.size h2).emb x) := by
  obtain ⟨y, d, rfl⟩ : ∃ a b, x = ix2 a b := ⟨_, _, eq_ix2 x⟩
  subst e
  rw [hP]
  unfold outG View.ld
  have hd : d.val < 128 := d.isLt
  have hy : y.val < 512 := y.isLt
  refine congr (congrArg Ideal.div (congrArg a (funext fun k => Fin.ext ?_))) (congrArg a (funext fun k => Fin.ext ?_))
  · fin_cases k
    · show 0 + 1 * d.val = (128 * g + 1 * d.val) % 128; omega
    · show 0 + 1 * (512 * g + y.val) = 512 * ((128 * g + 1 * d.val) / 128) + (0 + 1 * y.val); omega
  · fin_cases k
    · rfl
    · show 0 + 1 * (512 * g + y.val) = 512 * ((128 * g + 1 * d.val) / 128) + (0 + 1 * y.val); omega

theorem outL_eq (a : Vec Ideal S144x2048 .f32) : View.canon (outL a) = outG a := by
  refine funext fun y => View.canon_apply_of_pieces (outG a) (outL a) ?_ y (View.cover_of_tiledL (outL a) S512x128.size (by sl_kernel_rfl) y)
  unfold outL
  simp only [List.forall_mem_cons]
  refine ⟨out_piece a 3 _ (by norm_num) (by norm_num) _ (fun a l y d => pay5_apply a l y d) _ _ _, out_piece a 2 _ (by norm_num) (by norm_num) _ (fun a l y d => pay4_apply a l y d) _ _ _,
    out_piece a 1 _ (by norm_num) (by norm_num) _ (fun a l y d => pay3_apply a l y d) _ _ _, out_piece a 0 _ (by norm_num) (by norm_num) _ (fun a l y d => (pay2_apply a l y d).trans ?_) _ _ _,
    fun p hp => absurd hp List.not_mem_nil⟩
  simp only [Nat.mul_zero, Nat.zero_add]

end Cert.KernelIdeal.Attn
-- ==== Proof.AttnMath.lean ====
module

public import Idealize.ShloMosaic.PureOps.Ideal
public import Mathlib.Analysis.SpecialFunctions.Pow.Real
public import Mathlib.Data.EReal.Operations

@[expose] public section

noncomputable section

namespace Cert.KernelIdeal.Attn

open Idealize.ShloMosaic

/-- A sum of extended reals times a nonnegative real is the sum of the products. -/
theorem sum_mul_coe {ι : Type} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- The coercion of a finite sum of reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A weighted sum divided by the sum of its weights takes each weight's share. -/
theorem div_weighted {ι : Type} (s : Finset ι) (v : ι → EReal) (w : ι → ℝ) (hw : ∀ j, 0 ≤ w j) (hs : 0 < ∑ j ∈ s, w j) :
    Ideal.div (∑ j ∈ s, v j * (w j : EReal)) (∑ j ∈ s, (w j : EReal))
      = ∑ j ∈ s, v j * ((w j / ∑ i ∈ s, w i : ℝ) : EReal) := by
  rw [← coe_sum, Ideal.div_coe hs.ne', sum_mul_coe _ _ _ (by positivity)]
  refine Finset.sum_congr rfl fun j _ => ?_
  rw [mul_assoc, ← EReal.coe_mul]
  congr 2; ring

/-- Scaling all weights by one positive number changes no share. -/
theorem share_scale {ι : Type} (s : Finset ι) (u : ι → ℝ) (c : ℝ) (hc : c ≠ 0) (j : ι) :
    (u j * c) / (∑ i ∈ s, u i * c) = u j / ∑ i ∈ s, u i := by
  rw [← Finset.sum_mul]; exact mul_div_mul_right _ _ hc

/-- The maximum over a nonempty finite family of reals, taken from below everything, is a real. -/
theorem fold_max_coe {ι : Type} (s : Finset ι) (hs : s.Nonempty) (f : ι → ℝ) :
    ∃ M : ℝ, Finset.fold max (⊥ : EReal) (fun j => (f j : EReal)) s = (M : EReal) := by
  classical
  have h : ∀ t : Finset ι, (t.fold max (⊥ : EReal) (fun j => (f j : EReal)) = ⊥ ∧ t = ∅) ∨ ∃ M : ℝ, t.fold max (⊥ : EReal) (fun j => (f j : EReal)) = (M : EReal) := by
    intro t
    induction t using Finset.induction_on with
    | empty => left; simp
    | insert a t ha ih =>
      right
      rw [Finset.fold_insert ha]
      rcases ih with ⟨h, -⟩ | ⟨M, h⟩
      · exact ⟨f a, by rw [h]; simp⟩
      · exact ⟨max (f a) M, by rw [h]; exact (EReal.coe_strictMono.monotone.map_max).symm⟩
  rcases h s with ⟨-, h⟩ | h
  · exact absurd h hs.ne_empty
  · exact h

/-- The plain loop: each step adds a tile's weighted sum. -/
theorem plain_steps (n : ℕ) (T : ℕ → EReal) (a : ℕ → EReal) (h0 : a 0 = 0) (hs : ∀ k < n, a (k + 1) = a k + T k) :
    ∀ k ≤ n, a k = ∑ i ∈ Finset.range k, T i := by
  intro k
  induction k with
  | zero => intro _; simpa using h0
  | succ k ih => intro hk; rw [hs k (by omega), ih (by omega), Finset.sum_range_succ]

theorem exp2_real (t : ℝ) : Ideal.exp2 (t : EReal) = ((Real.exp (Real.log 2 * t) : ℝ) : EReal) := by
  rw [Ideal.exp2_coe]
  show ((((2:ℝ) ^ t : ℝ)) : EReal) = _
  rw [Real.rpow_def_of_pos (by norm_num : (0:ℝ) < 2)]

theorem exp2_sub (t M : ℝ) : Ideal.exp2 ((t : EReal) - (M : EReal)) = ((Real.exp (Real.log 2 * t) * Real.exp (-(Real.log 2 * M)) : ℝ) : EReal) := by
  rw [← EReal.coe_sub, exp2_real, ← Real.exp_add]; congr 2; ring

/-- The loop with a running maximum: after at least one tile the maximum is a real `M`, and every row of the
accumulator is the weighted sum of the tiles so far, its weights taken relative to `M`. -/
theorem online_steps {R : Type} (n : ℕ) (t : ℕ → Fin 512 → ℝ) (v : R → ℕ → Fin 512 → EReal) (m : ℕ → EReal) (a : R → ℕ → EReal)
    (m0 : m 0 = ⊥) (a0 : ∀ r, a r 0 = 0)
    (hm : ∀ k < n, m (k + 1) = max (m k) (Finset.univ.fold max ⊥ fun j => (t k j : EReal)))
    (ha : ∀ r, ∀ k < n, a r (k + 1) = Ideal.exp2 (m k - m (k + 1)) * a r k + ∑ j, v r k j * Ideal.exp2 ((t k j : EReal) - m (k + 1))) :
    ∀ k < n, ∃ M : ℝ, m (k + 1) = (M : EReal) ∧ ∀ r, a r (k + 1)
      = (∑ i ∈ Finset.range (k + 1), ∑ j, v r i j * ((Real.exp (Real.log 2 * t i j) : ℝ) : EReal)) * ((Real.exp (-(Real.log 2 * M)) : ℝ) : EReal) := by
  have tile : ∀ r k (M : ℝ), (∑ j, v r k j * Ideal.exp2 ((t k j : EReal) - (M : EReal)))
      = (∑ j, v r k j * ((Real.exp (Real.log 2 * t k j) : ℝ) : EReal)) * ((Real.exp (-(Real.log 2 * M)) : ℝ) : EReal) := by
    intro r k M
    rw [sum_mul_coe _ _ _ (Real.exp_pos _).le]
    refine Finset.sum_congr rfl fun j _ => ?_
    rw [exp2_sub, EReal.coe_mul, mul_assoc]
  intro k
  induction k with
  | zero =>
    intro hk
    obtain ⟨M, hM⟩ := fold_max_coe Finset.univ ⟨(0 : Fin 512), Finset.mem_univ _⟩ (t 0)
    have e : m (0 + 1) = (M : EReal) := by rw [hm 0 hk, m0, hM]; simp
    refine ⟨M, e, fun r => ?_⟩
    rw [ha r 0 hk, e, a0, mul_zero, zero_add, tile, Finset.sum_range_one]
  | succ k ih =>
    intro hk
    obtain ⟨M, hM, hA⟩ := ih (by omega)
    obtain ⟨M', hM'⟩ := fold_max_coe Finset.univ ⟨(0 : Fin 512), Finset.mem_univ _⟩ (t (k + 1))
    have e : m (k + 1 + 1) = ((max M M' : ℝ) : EReal) := by
      rw [hm _ hk, hM, hM']; exact (EReal.coe_strictMono.monotone.map_max).symm
    refine ⟨_, e, fun r => ?_⟩
    rw [ha r _ hk, e, hM, hA, tile, Finset.sum_range_succ _ (k + 1),
      EReal.right_distrib_of_nonneg_of_ne_top (EReal.coe_nonneg.2 (Real.exp_pos _).le) (EReal.coe_ne_top _)]
    congr 1
    rw [mul_comm, mul_assoc, exp2_sub, ← EReal.coe_mul]
    congr 2
    rw [mul_left_comm, ← Real.exp_add (-(Real.log 2 * M))]
    rw [← Real.exp_add]; congr 1; ring

end Cert.KernelIdeal.Attn
-- ==== Proof.AttnAcc.lean ====
module

public import proofs.«01_k».proof.Proof.AttnRead
public import proofs.«01_k».proof.Proof.AttnMath
public import Idealize.ShloMosaic.Lib.Pipeline.ValueKit.Acc

@[expose] public section

set_option maxRecDepth 16384
set_option maxHeartbeats 400000

noncomputable section

namespace Cert.KernelIdeal.Attn

open Cert.KernelIdeal Cert.KernelIdeal.Gen
open Idealize.ShloMosaic Idealize.ShloMosaic.Tactic

/-- Key `j` of tile `i`, as a key of the whole sequence. -/
def key (i : ℕ) (j : Fin 512) : Fin 16384 := ⟨(i * 512 + j.val) % 16384, Nat.mod_lt _ (by norm_num)⟩

theorem key_val (i : ℕ) (hi : i < 32) (j : Fin 512) : (key i j).val = i * 512 + j.val := Nat.mod_eq_of_lt (by omega)

/-- Row `r` of the values with the row of ones below them, at key `J`. -/
def vrow (x2 : Vec Ideal S128x16384 .bf16) (r : Fin 144) (J : Fin 16384) : EReal :=
  if h : r.val < 128 then x2 (ix2 ⟨r.val, h⟩ J) else if r.val = 128 then 1 else 0

theorem ld_rows (x1 : Vec Ideal S128x16384 .bf16) (k : ℕ) (hk : k < 32) (off : Fin 2 → ℕ) (e : off = ![512 * k, 0])
    (inb : ∀ a, off a + S512x128.size a ≤ S16384x128.size a) (j : Fin 512) (d : Fin 128) :
    View.ld (knG x1) (Rect.unit (s := S16384x128) off S512x128.size inb) (ix2 j d) = x1 (ix2 d (key k j)) := by
  subst e
  refine congrArg x1 (funext fun a => Fin.ext ?_)
  fin_cases a
  · show 0 + 1 * d.val = d.val; omega
  · show 512 * k + 1 * j.val = (key k j).val; rw [key_val _ hk]; omega

theorem knSl_apply (x1 : Vec Ideal S128x16384 .bf16) (k : Fin k0_t1_loop.trips) (hk : k.val < 32) (j : Fin 512) (d : Fin 128) :
    knSl (knG x1) k (ix2 j d) = x1 (ix2 d (key k.val j)) := by
  exact ld_rows x1 k.val hk _ (k0_off1_eq k) _ j d

theorem knSl2_apply (x1 : Vec Ideal S128x16384 .bf16) (k : Fin k0_t2_loop.trips) (hk : k.val < 32) (j : Fin 512) (d : Fin 128) :
    knSl2 (knG x1) k (ix2 j d) = x1 (ix2 d (key k.val j)) := by
  exact ld_rows x1 k.val hk _ (k0_off3_eq k) _ j d

theorem vxG_at (x2 : Vec Ideal S128x16384 .bf16) (i : S32x144x512.Idx) (k : ℕ) (hk : k < 32) (r : Fin 144) (j : Fin 512)
    (h0 : (i 0).val = k) (h1 : (i 1).val = r.val) (h2 : (i 2).val = j.val) : vxG x2 i = vrow x2 r (key k j) := by
  unfold vxG vrow
  by_cases h : r.val < 128
  · rw [dif_pos (by omega), dif_pos h]
    refine congrArg x2 (funext fun a => Fin.ext ?_)
    fin_cases a
    · exact h1
    · show 512 * (i 0).val + (i 2).val = (key k j).val; rw [key_val _ hk, h0, h2]; omega
  · rw [dif_neg (by omega), dif_neg h, h1]

theorem ld_vals (x2 : Vec Ideal S128x16384 .bf16) (k : ℕ) (hk : k < 32) (off : Fin 3 → ℕ) (e : off = ![k, 0, 0])
    (inb : ∀ a, off a + S1x144x512.size a ≤ S32x144x512.size a) (r : Fin 144) (j : Fin 512) :
    View.ld (vxG x2) (Rect.unit (s := S32x144x512) off S1x144x512.size inb) (ix3 0 r j) = vrow x2 r (key k j) := by
  subst e
  refine vxG_at x2 _ _ hk r j ?_ ?_ ?_
  · show k + 1 * 0 = k; omega
  · show 0 + 1 * r.val = r.val; omega
  · show 0 + 1 * j.val = j.val; omega

theorem vxSl_apply (x2 : Vec Ideal S128x16384 .bf16) (k : Fin k0_t1_loop.trips) (hk : k.val < 32) (r : Fin 144) (j : Fin 512) :
    vxSl (vxG x2) k (ix3 0 r j) = vrow x2 r (key k.val j) := by
  exact ld_vals x2 k.val hk _ (k0_off2_eq k) _ r j

theorem vxSl2_apply (x2 : Vec Ideal S128x16384 .bf16) (k : Fin k0_t2_loop.trips) (hk : k.val < 32) (r : Fin 144) (j : Fin 512) :
    vxSl2 (vxG x2) k (ix3 0 r j) = vrow x2 r (key k.val j) := by
  exact ld_vals x2 k.val hk _ (k0_off4_eq k) _ r j

theorem trips1 : k0_t1_loop.trips = 32 := by decide
theorem trips2 : k0_t2_loop.trips = 32 := by decide

/-- The plain loop at an element: the sum over the tiles of the values weighted by the exponentials of the scores. -/
theorem accP_apply (qt : Vec Ideal S128x2048 .bf16) (kn : Vec Ideal S16384x128 .bf16) (vx : Vec Ideal S32x144x512 .bf16) (a0 : Vec Ideal S144x2048 .f32)
    (r : Fin 144) (c : Fin 2048) (t : ℕ → Fin 512 → ℝ) (v : ℕ → Fin 512 → EReal) (h0 : a0 (ix2 r c) = (0 : EReal))
    (ht : ∀ (k : Fin k0_t1_loop.trips) j, sc (knSl kn k) qt j c = (t k.val j : EReal)) (hv : ∀ (k : Fin k0_t1_loop.trips) j, vxSl vx k (ix3 0 r j) = v k.val j) :
    accP qt kn vx a0 32 (ix2 r c) = ∑ i ∈ Finset.range 32, ∑ j : Fin 512, v i j * ((Real.exp (Real.log 2 * t i j) : ℝ) : EReal) := by
  refine plain_steps 32 (fun i => ∑ j : Fin 512, v i j * ((Real.exp (Real.log 2 * t i j) : ℝ) : EReal)) (fun k => accP qt kn vx a0 k (ix2 r c)) h0 (fun k hk => ?_) 32 le_rfl
  have hk' : k < k0_t1_loop.trips := by rw [trips1]; exact hk
  have e := accP_succ qt kn vx a0 ⟨k, hk'⟩
  show accP qt kn vx a0 (k + 1) (ix2 r c) = _
  rw [show accP qt kn vx a0 (k + 1) = _ from e, pay165_apply]
  refine congrArg _ (Finset.sum_congr rfl fun j _ => ?_)
  rw [hv ⟨k, hk'⟩ j, ht ⟨k, hk'⟩ j, exp2_real]

/-- The loop with a running maximum at an element: the same sum, times one positive number. -/
theorem accO_apply (qt : Vec Ideal S128x2048 .bf16) (kn : Vec Ideal S16384x128 .bf16) (vx : Vec Ideal S32x144x512 .bf16) (m0 : Vec Ideal S1x2048 .f32) (a0 : Vec Ideal S144x2048 .f32)
    (c : Fin 2048) (t : ℕ → Fin 512 → ℝ) (v : Fin 144 → ℕ → Fin 512 → EReal) (h0 : ∀ r, a0 (ix2 r c) = (0 : EReal)) (hm0 : m0 (ix2 0 c) = (⊥ : EReal))
    (ht : ∀ (k : Fin k0_t2_loop.trips) j, sc (knSl2 kn k) qt j c = (t k.val j : EReal)) (hv : ∀ (k : Fin k0_t2_loop.trips) r j, vxSl2 vx k (ix3 0 r j) = v r k.val j) :
    ∃ C : ℝ, 0 < C ∧ ∀ r, (accO qt kn vx m0 a0 32).2 (ix2 r c) = (∑ i ∈ Finset.range 32, ∑ j : Fin 512, v r i j * ((Real.exp (Real.log 2 * t i j) : ℝ) : EReal)) * (C : EReal) := by
  have e : ∀ (k : ℕ) (hk : k < 32), accO qt kn vx m0 a0 (k + 1) = _ := fun k hk => accO_succ qt kn vx m0 a0 ⟨k, by rw [trips2]; exact hk⟩
  have hm : ∀ (k : ℕ) (hk : k < 32), (accO qt kn vx m0 a0 (k + 1)).1 (ix2 0 c)
      = k0_pay168 (knSl2 kn ⟨k, by rw [trips2]; exact hk⟩) qt (accO qt kn vx m0 a0 k).1 (ix2 0 c) := fun k hk => by
    rw [e k hk]; exact pay170_apply _ _ _ c
  obtain ⟨M, -, h⟩ := online_steps 32 t v (fun k => (accO qt kn vx m0 a0 k).1 (ix2 0 c)) (fun r k => (accO qt kn vx m0 a0 k).2 (ix2 r c))
    hm0 h0
    (fun k hk => by
      show (accO qt kn vx m0 a0 (k + 1)).1 (ix2 0 c) = _
      rw [hm k hk, pay168_apply, ofBits_negInf]
      simp only [ht])
    (fun r k hk => by
      show (accO qt kn vx m0 a0 (k + 1)).2 (ix2 r c) = Ideal.exp2 ((accO qt kn vx m0 a0 k).1 (ix2 0 c) - (accO qt kn vx m0 a0 (k + 1)).1 (ix2 0 c)) * (accO qt kn vx m0 a0 k).2 (ix2 r c)
        + ∑ j, v r k j * Ideal.exp2 ((t k j : EReal) - (accO qt kn vx m0 a0 (k + 1)).1 (ix2 0 c))
      rw [hm k hk, e k hk]
      refine (pay169_apply _ _ _ _ _ r c).trans (congrArg _ (Finset.sum_congr rfl fun j _ => ?_))
      rw [hv, ht]) 31 (by norm_num)
  exact ⟨_, Real.exp_pos _, h⟩

/-- What every accumulator row holds after all tiles, for a query column `c` whose scores are the reals `S`: the sum of
the values weighted by the exponentials, times one positive number. -/
theorem accF_apply (x0 : Vec Ideal S512x512 .bf16) (x1 x2 : Vec Ideal S128x16384 .bf16) (km : Vec Ideal S1 .f32) (c : Fin 2048) (S : Fin 16384 → ℝ)
    (hS : ∀ J, (∑ d : Fin 128, (x1 (ix2 d J) : EReal) * (qtF x0 (ix2 d c) : EReal)) = (S J : EReal)) :
    ∃ C : ℝ, 0 < C ∧ ∀ r : Fin 144, accF x0 (knF x1) (vxF x2) km (ix2 r c)
      = (∑ i ∈ Finset.range 32, ∑ j : Fin 512, vrow x2 r (key i j) * ((Real.exp (Real.log 2 * S (key i j)) : ℝ) : EReal)) * (C : EReal) := by
  rw [knF_eq, vxF_eq]
  unfold accF
  split
  · refine ⟨1, one_pos, fun r => ?_⟩
    rw [EReal.coe_one, mul_one]
    refine accP_apply _ _ _ _ r c (fun i j => S (key i j)) (fun i j => vrow x2 r (key i j)) (pay163_apply r c) (fun k j => ?_) (fun k j => ?_)
    · have hk : k.val < 32 := Nat.lt_of_lt_of_le k.isLt k0_t1_abs.2.1
      rw [← hS]; unfold sc
      simp only [knSl_apply _ _ hk]
    · exact vxSl_apply _ _ (Nat.lt_of_lt_of_le k.isLt k0_t1_abs.2.1) _ _
  · refine accO_apply _ _ _ _ _ c (fun i j => S (key i j)) (fun r i j => vrow x2 r (key i j)) (fun r => pay163_apply r c) ((pay166_apply c).trans ofBits_negInf) (fun k j => ?_) (fun k r j => ?_)
    · have hk : k.val < 32 := Nat.lt_of_lt_of_le k.isLt k0_t2_abs.2.1
      rw [← hS]; unfold sc
      simp only [knSl2_apply _ _ hk]
    · exact vxSl2_apply _ _ (Nat.lt_of_lt_of_le k.isLt k0_t2_abs.2.1) _ _

/-- The block of the result at an element: the values of head feature `d` weighted by each key's share. -/
theorem attnOut_apply (x0 : Vec Ideal S512x512 .bf16) (x1 x2 : Vec Ideal S128x16384 .bf16) (km : Vec Ideal S1 .f32) (y : Fin 512) (h : Fin 4) (d : Fin 128) (S : Fin 16384 → ℝ)
    (hS : ∀ J, (∑ e : Fin 128, (x1 (ix2 e J) : EReal) * (x0 (ix2 ⟨128 * h.val + e.val, by omega⟩ y) : EReal)) = (S J : EReal)) :
    attnOut x0 (knF x1) (vxF x2) km (ix2 y ⟨128 * h.val + d.val, by omega⟩)
      = ∑ J : Fin 16384, (x2 (ix2 d J) : EReal) * ((Real.exp (Real.log 2 * S J) / ∑ I : Fin 16384, Real.exp (Real.log 2 * S I) : ℝ) : EReal) := by
  have hd := d.isLt
  have hh := h.isLt
  have hy := y.isLt
  unfold attnOut
  rw [outL_eq]
  obtain ⟨C, hC, hA⟩ := accF_apply x0 x1 x2 km ⟨512 * h.val + y.val, by omega⟩ S (fun J => by
    rw [← hS J, qtF_eq]
    refine Finset.sum_congr rfl fun e _ => congrArg _ (congrArg x0 (funext fun a => Fin.ext ?_))
    have he := e.isLt
    fin_cases a
    · show 128 * ((512 * h.val + y.val) / 512) + e.val = 128 * h.val + e.val; omega
    · show (512 * h.val + y.val) % 512 = y.val; omega)
  have hW : ∀ r : Fin 144, accF x0 (knF x1) (vxF x2) km (ix2 r ⟨512 * h.val + y.val, by omega⟩)
      = ∑ J : Fin 16384, vrow x2 r J * ((Real.exp (Real.log 2 * S J) * C : ℝ) : EReal) := by
    intro r
    rw [hA r, ← Fin.sum_univ_eq_sum_range (fun i => ∑ j : Fin 512, vrow x2 r (key i j) * ((Real.exp (Real.log 2 * S (key i j)) : ℝ) : EReal)) 32,
      Fin.sum_mul_add_congr (f := fun J => vrow x2 r J * ((Real.exp (Real.log 2 * S J) : ℝ) : EReal)) (fun s k hl => by
        have e : key s.val k = ⟨s.val * 512 + k.val, hl⟩ := Fin.ext (key_val _ s.isLt _)
        rw [e]), sum_mul_coe _ _ _ hC.le]
    refine Finset.sum_congr rfl fun J _ => ?_
    rw [mul_assoc, EReal.coe_mul]
  have hidx : outG (accF x0 (knF x1) (vxF x2) km) (ix2 y ⟨128 * h.val + d.val, by omega⟩)
      = Ideal.div (accF x0 (knF x1) (vxF x2) km (ix2 ⟨d.val, by omega⟩ ⟨512 * h.val + y.val, by omega⟩))
        (accF x0 (knF x1) (vxF x2) km (ix2 128 ⟨512 * h.val + y.val, by omega⟩)) := by
    unfold outG
    have e1 : (128 * h.val + d.val) % 128 = d.val := by omega
    have e2 : (128 * h.val + d.val) / 128 = h.val := by omega
    refine congr (congrArg Ideal.div (congrArg _ (funext fun a => Fin.ext ?_))) (congrArg _ (funext fun a => Fin.ext ?_))
    · fin_cases a
      · exact e1
      · show 512 * ((128 * h.val + d.val) / 128) + y.val = 512 * h.val + y.val; rw [e2]
    · fin_cases a
      · rfl
      · show 512 * ((128 * h.val + d.val) / 128) + y.val = 512 * h.val + y.val; rw [e2]
  rw [hidx, hW, hW]
  have e1 : ∀ J, vrow x2 ⟨d.val, by omega⟩ J = x2 (ix2 d J) := fun J => by unfold vrow; rw [dif_pos hd]
  have e2 : ∀ J, vrow x2 128 J = 1 := fun J => by unfold vrow; rw [dif_neg (by decide), if_pos (by decide)]
  simp only [e1, e2, one_mul]
  rw [div_weighted _ _ _ (fun J => by positivity) (Finset.sum_pos (fun J _ => by positivity) ⟨0, Finset.mem_univ _⟩)]
  refine Finset.sum_congr rfl fun J _ => ?_
  rw [share_scale Finset.univ (fun J => Real.exp (Real.log 2 * S J)) C hC.ne' J]

end Cert.KernelIdeal.Attn
-- ==== Proof.AttnRef.lean ====
module

public import proofs.«01_k».proof.Proof.Gen.ReferenceIdeal.Run
public import proofs.«01_k».proof.Proof.AttnMath
public import Idealize.ShloMosaic.Lib.Pointwise

@[expose] public section

set_option maxRecDepth 16384
set_option maxHeartbeats 1000000

noncomputable section

namespace Cert.ReferenceIdeal.Attn

open Cert.ReferenceIdeal Cert.ReferenceIdeal.Gen
open Idealize.ShloMosaic

/-- The scaled scores of the reference. -/
def refS (q : FVec Ideal S1x16384x2x4x128 .f32) (k : FVec Ideal S1x16384x2x128 .f32) : FVec Ideal S1x2x4x16384x16384 .f32 :=
  (mulf (transpose S1x2x4x16384x16384 [0, 1, 4, 3, 2] (Host.dotGeneral dot_S1x16384x2x128_S1x16384x2x4x128_S1x2x16384x16384x4_3_4_1_13_02_02 none k q) transposes_S1x2x16384x16384x4_S1x2x4x16384x16384_0_1_4_3_2) (broadcastInDim S1x2x4x16384x16384 ![] bcast_S_S1x2x4x16384x16384 (Host.divf (constant S_ .f32 0x3F800000#32) (Host.sqrt (constant S_ .f32 0x43000000#32)))))

/-- The largest score of each query. -/
def refM (S : FVec Ideal S1x2x4x16384x16384 .f32) : FVec Ideal S1x2x4x16384 .f32 :=
  (maximumf (broadcastInDim S1x2x4x16384 ![] bcast_S_S1x2x4x16384 (constant S_ .f32 0xFF800000#32)) (Host.reduce FloatOps.maximumf S (constant S_ .f32 0xFF800000#32) reducesTo_S1x2x4x16384x16384_S1x2x4x16384_d4 h_S_))

/-- The exponentials of the scores against the largest. -/
def refE (S : FVec Ideal S1x2x4x16384x16384 .f32) (M : FVec Ideal S1x2x4x16384 .f32) : FVec Ideal S1x2x4x16384x16384 .f32 :=
  (Host.exp (subf S (broadcastInDim S1x2x4x16384x16384 ![0, 1, 2, 3, 4] bcast_S1x2x4x16384x1_S1x2x4x16384x16384_0_1_2_3_4 (broadcastInDim S1x2x4x16384x1 ![0, 1, 2, 3] bcast_S1x2x4x16384_S1x2x4x16384x1_0_1_2_3 M))))

/-- Each key's share. -/
def refP (E : FVec Ideal S1x2x4x16384x16384 .f32) : FVec Ideal S1x2x4x16384x16384 .f32 :=
  (Host.divf E (broadcastInDim S1x2x4x16384x16384 ![0, 1, 2, 3, 4] bcast_S1x2x4x16384x1_S1x2x4x16384x16384_0_1_2_3_4 (broadcastInDim S1x2x4x16384x1 ![0, 1, 2, 3] bcast_S1x2x4x16384_S1x2x4x16384x1_0_1_2_3 (Host.reduceAdd E (constant S_ .f32 0x00000000#32) reducesTo_S1x2x4x16384x16384_S1x2x4x16384_d4 h_S_))))

/-- The values weighted by the shares, in the result's layout. -/
def refO (v : FVec Ideal S1x16384x2x128 .f32) (P : FVec Ideal S1x2x4x16384x16384 .f32) : FVec Ideal S16384x1024 .bf16 :=
  truncf .bf16 (shapeCast _ (transpose S1x16384x2x4x128 [0, 4, 1, 3, 2] (Host.dotGeneral dot_S1x16384x2x128_S1x2x4x16384x16384_S1x2x128x4x16384_1_4_3_23_02_01 none v P) transposes_S1x2x128x4x16384_S1x16384x2x4x128_0_4_1_3_2) shapeCasts_S1x16384x2x4x128_S16384x1024) bitsLt_bf16_f32

theorem refS_apply (q : FVec Ideal S1x16384x2x4x128 .f32) (k : FVec Ideal S1x16384x2x128 .f32) (g : Fin 2) (h : Fin 4) (i j : Fin 16384) :
    refS q k (ix5 0 g h i j) = (∑ x : Fin 128, (k (ix4 0 j g x) : EReal) * (q (ix5 0 i g h x) : EReal)) * Ideal.div 1 (Ideal.sqrt (Ideal.ofBits FTy.f32 0x43000000#32)) := by
  unfold refS
  pointwise

theorem red4 : S1x2x4x16384x16384.Reduces [4] S1x2x4x16384 := by decide

/-- Real scores have a real maximum. -/
theorem refM_real (s : FVec Ideal S1x2x4x16384x16384 .f32) (hs : ∀ i, ∃ r : ℝ, s i = (r : EReal)) (j : S1x2x4x16384.Idx) :
    ∃ M : ℝ, refM s j = (M : EReal) := by
  choose f hf using hs
  obtain ⟨M, hM⟩ := Cert.KernelIdeal.Attn.fold_max_coe Finset.univ ⟨(0 : Fin 16384), Finset.mem_univ _⟩ (fun l => f (red4.lift j l))
  have hb : Ideal.ofBits .f32 0xFF800000#32 = ⊥ := by simp [Ideal.ofBits, Ideal.ieee]
  have e : Host.reduce FloatOps.maximumf s (constant S_ .f32 0xFF800000#32) reducesTo_S1x2x4x16384x16384_S1x2x4x16384_d4 h_S_ j = (M : EReal) := by
    rw [Host.reduce_eq_fold_single FloatOps.maximumf s _ _ red4 h_S_ j, ← hM]
    have e2 : Finset.fold FloatOps.maximumf (constant (F := Ideal) S_ .f32 0xFF800000#32 (Shape.Idx.first h_S_)) (s ∘ red4.lift j) Finset.univ
        = Finset.fold max (Ideal.ofBits .f32 0xFF800000#32) (fun l : Fin 16384 => (s (red4.lift j l) : EReal)) Finset.univ := rfl
    refine e2.trans ?_
    rw [hb]
    exact Finset.fold_congr fun l _ => hf _
  refine ⟨M, ?_⟩
  unfold refM
  rw [maximumf_apply, e]
  have e0 : broadcastInDim S1x2x4x16384 ![] bcast_S_S1x2x4x16384 (constant (F := Ideal) S_ .f32 0xFF800000#32) j = (⊥ : EReal) := hb
  rw [e0]
  exact max_eq_right bot_le

theorem refE_apply (s : FVec Ideal S1x2x4x16384x16384 .f32) (M : FVec Ideal S1x2x4x16384 .f32) (g : Fin 2) (h : Fin 4) (i j : Fin 16384) :
    refE s M (ix5 0 g h i j) = Ideal.exp (s (ix5 0 g h i j) - M (ix4 0 g h i)) := by
  unfold refE
  pointwise

theorem refP_apply (E : FVec Ideal S1x2x4x16384x16384 .f32) (g : Fin 2) (h : Fin 4) (i j : Fin 16384) :
    refP E (ix5 0 g h i j) = Ideal.div (E (ix5 0 g h i j)) (∑ l : Fin 16384, (E (ix5 0 g h i l) : EReal)) := by
  unfold refP
  pointwise

theorem refO_apply (v : FVec Ideal S1x16384x2x128 .f32) (P : FVec Ideal S1x2x4x16384x16384 .f32) (i : Fin 16384) (g : Fin 2) (h : Fin 4) (d : Fin 128) :
    refO v P (ix2 i ⟨512 * g.val + 128 * h.val + d.val, by omega⟩) = ∑ j : Fin 16384, (v (ix4 0 j g d) : EReal) * (P (ix5 0 g h i j) : EReal) := by
  unfold refO
  pointwise

theorem sqrt128 : Ideal.div 1 (Ideal.sqrt (Ideal.ofBits FTy.f32 0x43000000#32)) = ((1 / Real.sqrt 128 : ℝ) : EReal) := by
  have e : Ideal.ofBits FTy.f32 0x43000000#32 = ((128 : ℝ) : EReal) := by
    simp [Ideal.ofBits, Ideal.ieee]
    rw [← EReal.coe_mul]; norm_num
  rw [e, Ideal.sqrt_coe, if_neg (by norm_num), Ideal.div_coe (by positivity), one_mul]

end Cert.ReferenceIdeal.Attn
-- ==== Proof.AttnHost.lean ====
module

public import proofs.«01_k».proof.Proof.Gen.KernelIdeal.Frame
public import Idealize.ShloMosaic.Lib.StableHlo.Run
public import Idealize.ShloMosaic.Lib.Pointwise

@[expose] public section

set_option maxRecDepth 16384
set_option maxHeartbeats 1000000

noncomputable section

namespace Cert.KernelIdeal.Attn

open Cert.KernelIdeal Cert.KernelIdeal.Gen
open Idealize.ShloMosaic Idealize.ShloMosaic.TcCoe Idealize.SL.Sem Idealize.ShloMosaic.StableHlo

/-- The projections the host lays out for the kernel: scaled queries, keys and values, a feature a row. -/
def hostX (q : FVec Ideal S1x16384x2x4x128 .f32) (k v : FVec Ideal S1x16384x2x128 .f32) : FVec Ideal S1536x16384 .bf16 :=
  transpose S1536x16384 [1, 0] (truncf .bf16 (concatenate S16384x1536 1
    [⟨S16384x1024, shapeCast S16384x1024 (mulf q (broadcastInDim S1x16384x2x4x128 ![] bcast_S_S1x16384x2x4x128 (Host.divf (constant S_ .f32 0x3F800000#32) (mulf (Host.sqrt (constant S_ .f32 0x43000000#32)) (Host.log (constant S_ .f32 0x40000000#32)))))) shapeCasts_S1x16384x2x4x128_S16384x1024⟩,
      ⟨S16384x256, shapeCast S16384x256 k shapeCasts_S1x16384x2x128_S16384x256⟩, ⟨S16384x256, shapeCast S16384x256 v shapeCasts_S1x16384x2x128_S16384x256⟩]
    concatenates_S16384x1024_S16384x256_S16384x256_S16384x1536_d1) bitsLt_bf16_f32) transposes_S16384x1536_S1536x16384_1_0

theorem V_v11 (m : (ℓ : Loc nD τ sig) → Buf (Elt Ideal) ℓ) (c : Dev nD) : V m c main_v11
    = hostX (m ((c.tc : Thread nD τ).loc main_arg0)) (m ((c.tc : Thread nD τ).loc main_arg1)) (m ((c.tc : Thread nD τ).loc main_arg2)) := by
  unfold hostX
  show StableHlo.after hostOps0 (fun b => m (c, b)) _ = _
  after_results <;> rfl

theorem hostX_q (q : FVec Ideal S1x16384x2x4x128 .f32) (k v : FVec Ideal S1x16384x2x128 .f32) (g : Fin 2) (h : Fin 4) (e : Fin 128) (i : Fin 16384) :
    hostX q k v (ix2 ⟨512 * g.val + 128 * h.val + e.val, by omega⟩ i) = (q (ix5 0 i g h e) : EReal) * Ideal.div 1 (Ideal.sqrt (Ideal.ofBits FTy.f32 0x43000000#32) * Ideal.log (Ideal.ofBits FTy.f32 0x40000000#32)) := by
  unfold hostX
  pointwise
  rw [dif_pos (by omega)]

theorem hostX_k (q : FVec Ideal S1x16384x2x4x128 .f32) (k v : FVec Ideal S1x16384x2x128 .f32) (g : Fin 2) (e : Fin 128) (i : Fin 16384) :
    hostX q k v (ix2 ⟨1024 + 128 * g.val + e.val, by omega⟩ i) = k (ix4 0 i g e) := by
  unfold hostX
  pointwise
  rw [dif_neg (by omega), dif_pos (by omega)]
  refine congrArg k (funext fun a => Fin.ext ?_)
  fin_cases a
  · rfl
  · rfl
  · show (1024 + 128 * g.val + e.val - 1024) / 128 = g.val; omega
  · show (1024 + 128 * g.val + e.val - 1024) % 128 = e.val; omega

theorem hostX_v (q : FVec Ideal S1x16384x2x4x128 .f32) (k v : FVec Ideal S1x16384x2x128 .f32) (g : Fin 2) (e : Fin 128) (i : Fin 16384) :
    hostX q k v (ix2 ⟨1280 + 128 * g.val + e.val, by omega⟩ i) = v (ix4 0 i g e) := by
  unfold hostX
  pointwise
  rw [dif_neg (by omega), dif_neg (by omega)]
  refine congrArg v (funext fun a => Fin.ext ?_)
  fin_cases a
  · rfl
  · rfl
  · show (1280 + 128 * g.val + e.val - 1024 - 256) / 128 = g.val; omega
  · show (1280 + 128 * g.val + e.val - 1024 - 256) % 128 = e.val; omega

theorem scale2 : Ideal.div 1 (Ideal.sqrt (Ideal.ofBits FTy.f32 0x43000000#32) * Ideal.log (Ideal.ofBits FTy.f32 0x40000000#32)) = ((1 / (Real.sqrt 128 * Real.log 2) : ℝ) : EReal) := by
  have e : Ideal.ofBits FTy.f32 0x43000000#32 = ((128 : ℝ) : EReal) := by
    simp [Ideal.ofBits, Ideal.ieee]
    rw [← EReal.coe_mul]; norm_num
  have e2 : Ideal.ofBits FTy.f32 0x40000000#32 = ((2 : ℝ) : EReal) := by
    simp [Ideal.ofBits, Ideal.ieee]
    rw [← EReal.coe_mul]; norm_num
  rw [e, e2, Ideal.sqrt_coe, if_neg (by norm_num), Ideal.log_coe, if_neg (by norm_num), ← EReal.coe_mul,
    Ideal.div_coe (mul_ne_zero (by positivity) (Real.log_pos (by norm_num)).ne'), one_mul]

/-- The words of the rotation's and the head norms' constants. -/
theorem word128 : Ideal.ofBits FTy.f32 0x43000000#32 = ((128 : ℝ) : EReal) := by
  simp [Ideal.ofBits, Ideal.ieee]
  rw [← EReal.coe_mul]; norm_num
@[inherit_doc word128]
theorem word128inv : Ideal.ofBits FTy.f32 0x3C000000#32 = ((1 / 128 : ℝ) : EReal) := by
  simp [Ideal.ofBits, Ideal.ieee]
  rw [← EReal.coe_mul]; norm_num
@[inherit_doc word128]
theorem word32 : Ideal.ofBits FTy.f32 0x42000000#32 = ((32 : ℝ) : EReal) := by
  simp [Ideal.ofBits, Ideal.ieee]
  rw [← EReal.coe_mul]; norm_num
@[inherit_doc word128]
theorem word10000 : Ideal.ofBits FTy.f32 0x461C4000#32 = ((10000 : ℝ) : EReal) := by
  simp [Ideal.ofBits, Ideal.ieee]
  rw [← EReal.coe_mul]; norm_num

end Cert.KernelIdeal.Attn
-- ==== Proof.AttnVal.lean ====
module

public import proofs.«01_k».proof.Proof.AttnFrame
public import proofs.«01_k».proof.Proof.AttnAcc
public import proofs.«01_k».proof.Proof.AttnRef
public import proofs.«01_k».proof.Proof.AttnHost
public import Idealize.ShloMosaic.Lib.Pipeline.ValueKit

@[expose] public section

set_option maxRecDepth 16384
set_option maxHeartbeats 1000000

noncomputable section

namespace Cert.KernelIdeal.Attn

open Cert.KernelIdeal Cert.KernelIdeal.Gen
open Idealize.ShloMosaic Idealize.ShloMosaic.TcCoe Idealize.SL.Sem
open Cert.ReferenceIdeal.Attn (refS refM refE refP refO refS_apply refM_real refE_apply refP_apply refO_apply sqrt128)

/-- The reference at an element, for real queries and keys: the values weighted by each key's share. -/
theorem ref_apply (q : Vec Ideal S1x16384x2x4x128 .f32) (k v : Vec Ideal S1x16384x2x128 .f32) (qr : S1x16384x2x4x128.Idx → ℝ) (kr : S1x16384x2x128.Idx → ℝ)
    (hq : ∀ i, q i = (qr i : EReal)) (hk : ∀ i, k i = (kr i : EReal)) (i : Fin 16384) (g : Fin 2) (h : Fin 4) (d : Fin 128) (T : Fin 16384 → ℝ)
    (hT : ∀ J, T J = (∑ x : Fin 128, kr (ix4 0 J g x) * qr (ix5 0 i g h x)) * (1 / Real.sqrt 128)) :
    refO v (refP (refE (refS q k) (refM (refS q k)))) (ix2 i ⟨512 * g.val + 128 * h.val + d.val, by omega⟩)
      = ∑ J : Fin 16384, (v (ix4 0 J g d) : EReal) * ((Real.exp (T J) / ∑ I : Fin 16384, Real.exp (T I) : ℝ) : EReal) := by
  have hs : ∀ (g : Fin 2) (h : Fin 4) (i j : Fin 16384), refS q k (ix5 0 g h i j) = (((∑ x : Fin 128, kr (ix4 0 j g x) * qr (ix5 0 i g h x)) * (1 / Real.sqrt 128) : ℝ) : EReal) := by
    intro g h i j
    rw [refS_apply, sqrt128, EReal.coe_mul, coe_sum]
    simp only [hq, hk, EReal.coe_mul]
  obtain ⟨M, hM⟩ := refM_real (refS q k) (fun i => by
    obtain ⟨a, g, h, i, j, rfl⟩ : ∃ a g h x j, i = ix5 a g h x j := ⟨_, _, _, _, _, eq_ix5 i⟩
    rw [Subsingleton.elim a 0]; exact ⟨_, hs g h i j⟩) (ix4 0 g h i)
  have hE : ∀ j, refE (refS q k) (refM (refS q k)) (ix5 0 g h i j) = ((Real.exp (T j) * Real.exp (-M) : ℝ) : EReal) := by
    intro j
    rw [refE_apply, hM, hs, ← hT, ← EReal.coe_sub, Ideal.exp_coe, ← Real.exp_add]; rfl
  rw [refO_apply]
  refine Finset.sum_congr rfl fun J _ => congrArg _ ?_
  rw [refP_apply, hE]
  simp only [hE]
  have hpos : 0 < ∑ l : Fin 16384, Real.exp (T l) * Real.exp (-M) := Finset.sum_pos (fun l _ => by positivity) ⟨0, Finset.mem_univ _⟩
  rw [← coe_sum, Ideal.div_coe hpos.ne', ← EReal.coe_mul, mul_one_div, share_scale Finset.univ (fun J => Real.exp (T J)) _ (Real.exp_pos _).ne' J]

theorem ix0_eq : ∀ t : Fin cfg0.N, win0_0.index t = ![(grid0.coords t 0).val, (grid0.coords t 1).val] := by decide +kernel
theorem ix1_eq : ∀ t : Fin cfg0.N, win0_1.index t = ![8 + (grid0.coords t 0).val, 0] := by decide +kernel
theorem ix2_eq : ∀ t : Fin cfg0.N, win0_2.index t = ![10 + (grid0.coords t 0).val, 0] := by decide +kernel
theorem ix7_eq : ∀ t : Fin cfg0.N, win0_7.index t = ![(grid0.coords t 1).val, (grid0.coords t 0).val] := by decide +kernel

variable (m : (ℓ : Loc nD τ sig) → Buf (Elt Ideal) ℓ) (c : Dev nD)

theorem final7 (G : Vec Ideal S16384x1024 .bf16)
    (hG : ∀ (t : Fin cfg0.N) (y b : Fin 512), attnOut (iblk m c 0 t) (knF (iblk m c 1 t)) (vxF (iblk m c 2 t)) (kmF (iblk m c 1 t)) (ix2 y b)
      = G (ix2 ⟨512 * (grid0.coords t 1).val + y.val, by have := (grid0.coords t 1).isLt; have e : (grid0.coords t 1).val < 32 := this; omega⟩
        ⟨512 * (grid0.coords t 0).val + b.val, by have := (grid0.coords t 0).isLt; have e : (grid0.coords t 0).val < 2 := this; omega⟩)) :
    (dats m 0 c).arrAt 7 cfg0.N = G := by
  refine (dats m 0 c).arrAt_eq_of_covers 7 G (by decide +kernel) fun t hf y => ?_
  blk_simp
  rw [after0_7]
  have hy : y = ix2 (y 0 : Fin 512) (y 1 : Fin 512) := by funext a; fin_cases a <;> rfl
  refine (congrArg _ hy).trans ((hG t (y 0) (y 1)).trans (congrArg G ?_))
  blk_ext [ix7_eq]

/-- A query block at an element: the host's array at the block's place. -/
theorem iblk0_apply (t : Fin cfg0.N) (a b : Fin 512) (ha : 512 * (grid0.coords t 0).val + a.val < 1536) (hb : 512 * (grid0.coords t 1).val + b.val < 16384) :
    (iblk m c 0 t : Vec Ideal S512x512 .bf16) (ix2 a b)
      = (V m c main_v11 : Vec Ideal S1536x16384 .bf16) (ix2 ⟨512 * (grid0.coords t 0).val + a.val, ha⟩ ⟨512 * (grid0.coords t 1).val + b.val, hb⟩) := by
  blk_simp [iblk]
  refine congrArg (V m c main_v11) ?_
  blk_ext [ix0_eq]
/-- The key block at an element. -/
theorem iblk1_apply (t : Fin cfg0.N) (a : Fin 128) (b : Fin 16384) (ha : 1024 + 128 * (grid0.coords t 0).val + a.val < 1536) :
    (iblk m c 1 t : Vec Ideal S128x16384 .bf16) (ix2 a b)
      = (V m c main_v11 : Vec Ideal S1536x16384 .bf16) (ix2 ⟨1024 + 128 * (grid0.coords t 0).val + a.val, ha⟩ b) := by
  blk_simp [iblk]
  refine congrArg (V m c main_v11) ?_
  blk_ext [ix1_eq]
/-- The value block at an element. -/
theorem iblk2_apply (t : Fin cfg0.N) (a : Fin 128) (b : Fin 16384) (ha : 1280 + 128 * (grid0.coords t 0).val + a.val < 1536) :
    (iblk m c 2 t : Vec Ideal S128x16384 .bf16) (ix2 a b)
      = (V m c main_v11 : Vec Ideal S1536x16384 .bf16) (ix2 ⟨1280 + 128 * (grid0.coords t 0).val + a.val, ha⟩ b) := by
  blk_simp [iblk]
  refine congrArg (V m c main_v11) ?_
  blk_ext [ix2_eq]

/-- One grid point's block, for real queries and keys, is the reference's at its place. -/
theorem block7 (qr : S1x16384x2x4x128.Idx → ℝ) (kr : S1x16384x2x128.Idx → ℝ)
    (hq : ∀ i, (m ((c.tc : Thread nD τ).loc main_arg0) : Vec Ideal S1x16384x2x4x128 .f32) i = (qr i : EReal))
    (hk : ∀ i, (m ((c.tc : Thread nD τ).loc main_arg1) : Vec Ideal S1x16384x2x128 .f32) i = (kr i : EReal))
    (t : Fin cfg0.N) (i : Fin 16384) (g : Fin 2) (y : Fin 512) (h : Fin 4) (d : Fin 128)
    (hg : (grid0.coords t 0).val = g.val) (hi : 512 * (grid0.coords t 1).val + y.val = i.val) :
    attnOut (iblk m c 0 t) (knF (iblk m c 1 t)) (vxF (iblk m c 2 t)) (kmF (iblk m c 1 t)) (ix2 y ⟨128 * h.val + d.val, by omega⟩)
      = refO (m ((c.tc : Thread nD τ).loc main_arg2)) (refP (refE (refS (m ((c.tc : Thread nD τ).loc main_arg0)) (m ((c.tc : Thread nD τ).loc main_arg1))) (refM (refS (m ((c.tc : Thread nD τ).loc main_arg0)) (m ((c.tc : Thread nD τ).loc main_arg1))))))
        (ix2 i ⟨512 * g.val + 128 * h.val + d.val, by omega⟩) := by
  have hl : Real.log 2 ≠ 0 := (Real.log_pos (by norm_num)).ne'
  have hs : Real.sqrt 128 ≠ 0 := by positivity
  rw [attnOut_apply (iblk m c 0 t) (iblk m c 1 t) (iblk m c 2 t) (kmF (iblk m c 1 t)) y h d
      (fun J => ∑ x : Fin 128, kr (ix4 0 J g x) * (qr (ix5 0 i g h x) * (1 / (Real.sqrt 128 * Real.log 2)))),
    ref_apply _ _ _ qr kr hq hk i g h d
      (fun J => Real.log 2 * ∑ x : Fin 128, kr (ix4 0 J g x) * (qr (ix5 0 i g h x) * (1 / (Real.sqrt 128 * Real.log 2))))]
  · refine Finset.sum_congr rfl fun J _ => congrArg (· * _) ?_
    rw [iblk2_apply m c t d J (by omega), V_v11]
    refine Eq.trans (congrArg (fun z => hostX _ _ _ (ix2 z J)) ?_) (hostX_v _ _ _ g d J)
    exact Fin.ext (by show 1280 + 128 * (grid0.coords t 0).val + d.val = _; rw [hg])
  · intro J
    rw [Finset.mul_sum, Finset.sum_mul]
    refine Finset.sum_congr rfl fun x _ => ?_
    field_simp
  · intro J
    rw [coe_sum]
    refine Finset.sum_congr rfl fun e _ => ?_
    rw [EReal.coe_mul, EReal.coe_mul]
    refine congrArg₂ (· * ·) ?_ ?_
    · rw [iblk1_apply m c t e J (by omega), V_v11]
      refine (Eq.trans (congrArg (fun z => hostX _ _ _ (ix2 z J)) ?_) (hostX_k _ _ _ g e J)).trans (hk _)
      exact Fin.ext (by show 1024 + 128 * (grid0.coords t 0).val + e.val = _; rw [hg])
    · rw [iblk0_apply m c t ⟨128 * h.val + e.val, by omega⟩ y (by show 512 * (grid0.coords t 0).val + (128 * h.val + e.val) < 1536; omega) (by omega), V_v11]
      refine (Eq.trans (congrArg₂ (fun z w => hostX _ _ _ (ix2 z w)) ?_ ?_) (hostX_q _ _ _ g h e i)).trans ?_
      · exact Fin.ext (by show 512 * (grid0.coords t 0).val + (128 * h.val + e.val) = 512 * g.val + 128 * h.val + e.val; omega)
      · exact Fin.ext hi
      · rw [hq, scale2]

/-- The attention's output array, for real queries and keys, is the reference's. -/
theorem out7 (qr : S1x16384x2x4x128.Idx → ℝ) (kr : S1x16384x2x128.Idx → ℝ)
    (hq : ∀ i, (m ((c.tc : Thread nD τ).loc main_arg0) : Vec Ideal S1x16384x2x4x128 .f32) i = (qr i : EReal))
    (hk : ∀ i, (m ((c.tc : Thread nD τ).loc main_arg1) : Vec Ideal S1x16384x2x128 .f32) i = (kr i : EReal)) :
    (dats m 0 c).arrAt 7 cfg0.N = refO (m ((c.tc : Thread nD τ).loc main_arg2)) (refP (refE (refS (m ((c.tc : Thread nD τ).loc main_arg0)) (m ((c.tc : Thread nD τ).loc main_arg1))) (refM (refS (m ((c.tc : Thread nD τ).loc main_arg0)) (m ((c.tc : Thread nD τ).loc main_arg1)))))) := by
  refine final7 m c _ fun t y b => ?_
  have h0 : (grid0.coords t 0).val < 2 := (grid0.coords t 0).isLt
  have h1 : (grid0.coords t 1).val < 32 := (grid0.coords t 1).isLt
  have e : b = ⟨128 * (⟨b.val / 128, by omega⟩ : Fin 4).val + (⟨b.val % 128, by omega⟩ : Fin 128).val, by show 128 * (b.val / 128) + b.val % 128 < 512; omega⟩ := Fin.ext (by show b.val = 128 * (b.val / 128) + b.val % 128; omega)
  refine (congrArg (fun z => attnOut (iblk m c 0 t) (knF (iblk m c 1 t)) (vxF (iblk m c 2 t)) (kmF (iblk m c 1 t)) (ix2 y z)) e).trans
    ((block7 m c qr kr hq hk t ⟨512 * (grid0.coords t 1).val + y.val, by omega⟩ ⟨_, h0⟩ y ⟨b.val / 128, by omega⟩ ⟨b.val % 128, by omega⟩ rfl rfl).trans ?_)
  refine congrArg _ (congrArg (ix2 _) (Fin.ext ?_))
  show 512 * (grid0.coords t 0).val + 128 * (b.val / 128) + b.val % 128 = 512 * (grid0.coords t 0).val + b.val
  omega

theorem ix8_eq : ∀ t : Fin cfg0.N, win0_8.index t = win0_3.index t := by decide +kernel
theorem ix9_eq : ∀ t : Fin cfg0.N, win0_9.index t = win0_4.index t := by decide +kernel
theorem ix10_eq : ∀ t : Fin cfg0.N, win0_10.index t = win0_5.index t := by decide +kernel
theorem ix11_eq : ∀ t : Fin cfg0.N, win0_11.index t = win0_6.index t := by decide +kernel

/-- The first weight's cast, block by block, is the whole weight's. -/
theorem out8 : (dats m 0 c).arrAt 8 cfg0.N = (truncf .bf16 (m ((c.tc : Thread nD τ).loc main_arg3) : Vec Ideal S2048x2048 .f32) bitsLt_bf16_f32 : FVec Ideal S2048x2048 .bf16) := by
  refine (dats m 0 c).arrAt_eq_of_covers 8 _ (by decide +kernel) fun t hf y => ?_
  blk_simp
  rw [after0_8]
  unfold k0_pay152
  show iblk m c 3 t y = (m ((c.tc : Thread nD τ).loc main_arg3)) _
  blk_simp [iblk]
  refine (congrFun (V_main_arg3 m c) _).trans (congrArg (m ((c.tc : Thread nD τ).loc main_arg3)) ?_)
  blk_ext [ix8_eq]

/-- The second weight's cast, block by block, is the whole weight's. -/
theorem out9 : (dats m 0 c).arrAt 9 cfg0.N = (truncf .bf16 (m ((c.tc : Thread nD τ).loc main_arg4) : Vec Ideal S2048x8192 .f32) bitsLt_bf16_f32 : FVec Ideal S2048x8192 .bf16) := by
  refine (dats m 0 c).arrAt_eq_of_covers 9 _ (by decide +kernel) fun t hf y => ?_
  blk_simp
  rw [after0_9]
  unfold k0_pay153
  show iblk m c 4 t y = (m ((c.tc : Thread nD τ).loc main_arg4)) _
  blk_simp [iblk]
  refine (congrFun (V_main_arg4 m c) _).trans (congrArg (m ((c.tc : Thread nD τ).loc main_arg4)) ?_)
  blk_ext [ix9_eq]

/-- The third weight's cast, block by block, is the whole weight's. -/
theorem out10 : (dats m 0 c).arrAt 10 cfg0.N = (truncf .bf16 (m ((c.tc : Thread nD τ).loc main_arg5) : Vec Ideal S8192x2048 .f32) bitsLt_bf16_f32 : FVec Ideal S8192x2048 .bf16) := by
  refine (dats m 0 c).arrAt_eq_of_covers 10 _ (by decide +kernel) fun t hf y => ?_
  blk_simp
  rw [after0_10]
  unfold k0_pay154
  show iblk m c 5 t y = (m ((c.tc : Thread nD τ).loc main_arg5)) _
  blk_simp [iblk]
  refine (congrFun (V_main_arg5 m c) _).trans (congrArg (m ((c.tc : Thread nD τ).loc main_arg5)) ?_)
  blk_ext [ix10_eq]

/-- The fourth weight's cast, block by block, is the whole weight's. -/
theorem out11 : (dats m 0 c).arrAt 11 cfg0.N = (truncf .bf16 (m ((c.tc : Thread nD τ).loc main_arg6) : Vec Ideal S2048x2048 .f32) bitsLt_bf16_f32 : FVec Ideal S2048x2048 .bf16) := by
  refine (dats m 0 c).arrAt_eq_of_covers 11 _ (by decide +kernel) fun t hf y => ?_
  blk_simp
  rw [after0_11]
  unfold k0_pay155
  show iblk m c 6 t y = (m ((c.tc : Thread nD τ).loc main_arg6)) _
  blk_simp [iblk]
  refine (congrFun (V_main_arg6 m c) _).trans (congrArg (m ((c.tc : Thread nD τ).loc main_arg6)) ?_)
  blk_ext [ix11_eq]

end Cert.KernelIdeal.Attn
-- ==== Proof.AttnClaim.lean ====
module

public import proofs.«01_k».proof.Defs
public import proofs.«01_k».proof.Proof.AttnVal
public import proofs.«01_k».proof.Proof.Gen.ReferenceIdeal.Run
public import Idealize.ShloMosaic.Lib.Claim
public import Idealize.ShloMosaic.Lib.ReduceAll

@[expose] public section

set_option maxRecDepth 16384
set_option maxHeartbeats 1000000

noncomputable section

namespace Cert.Proof

open Idealize.ShloMosaic Idealize.ShloMosaic.TcCoe Idealize.SL.Sem

/-- What the precondition's operations state of their shapes. -/
theorem finite_facts : Cert.Pre_finite_qk.Facts := ⟨by decide, by decide, by decide, by decide, by decide⟩

/-- An extended real of which the size compares below infinity is a real. -/
theorem real_of_abs_lt (x : EReal) (h : FloatOps.cmpf (F := Ideal) (φ := FTy.f32) .olt (FloatOps.hostAbsf (F := Ideal) (φ := FTy.f32) x) (FloatOps.ofBits (F := Ideal) .f32 0x7F800000#32) = 1#1) : ∃ r : ℝ, x = (r : EReal) := by
  have h' : Ideal.cmp .olt (max x (-x)) ⊤ = 1#1 := by
    have e : (FloatOps.ofBits (F := Ideal) .f32 0x7F800000#32 : EReal) = ⊤ := by show Ideal.ofBits FTy.f32 0x7F800000#32 = _; simp [Ideal.ofBits, Ideal.ieee]
    rw [← e]; exact h
  induction x using EReal.rec with
  | bot => simp [Ideal.cmp] at h'
  | coe r => exact ⟨r, rfl⟩
  | top => simp [Ideal.cmp] at h'

/-- Under the precondition every query and every key is a real. -/
theorem real_qk (q : FVec Ideal Cert.Pre_finite_qk.S1x16384x2x4x128 .f32) (k v : FVec Ideal Cert.Pre_finite_qk.S1x16384x2x128 .f32) (w₀ w₁ w₂ w₃)
    (h : letI := finite_facts; Cert.Pre_finite_qk.fn (F := Ideal) q k v w₀ w₁ w₂ w₃ = (fun _ => 1#1)) :
    (∀ i, ∃ r : ℝ, q i = (r : EReal)) ∧ (∀ i, ∃ r : ℝ, k i = (r : EReal)) := by
  letI := finite_facts
  dsimp only [Cert.Pre_finite_qk.fn] at h
  have h0 := congrFun h (fun a => a.elim0)
  obtain ⟨h1, h2⟩ := IntOp.andi_eq_one.1 h0
  exact ⟨fun i => real_of_abs_lt _ (Host.reduce_andi_all _ _ _ _ _ h1 i), fun i => real_of_abs_lt _ (Host.reduce_andi_all _ _ _ _ _ h2 i)⟩

open Cert.KernelIdeal Cert.KernelIdeal.Gen Cert.KernelIdeal.Attn in
/-- The attention and its reference, from real queries and keys, end with the same results. -/
theorem algebraic_kernel : letI := Cert.KernelIdeal.Gen.facts; letI := Cert.ReferenceIdeal.Gen.facts; letI := finite_facts
    Cert.algebraic_KernelIdeal_ReferenceIdeal_pre_finite_qk := by
  letI := Cert.KernelIdeal.Gen.facts
  letI := Cert.ReferenceIdeal.Gen.facts
  letI := finite_facts
  intro m g m' g' hp he
  have hr := fun c => real_qk _ _ _ _ _ _ _ (hp c)
  refine ⟨fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, ?_, ?_⟩
  · exact (θ_run _ _ _).mono (fun _ h c => ⟨(h c).1 7, (h c).1 8, (h c).1 9, (h c).1 10, (h c).1 11,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩) (run_main (F := Ideal) m g)
  · refine (θ_run _ _ _).mono (fun _ h c => ?_) (Cert.ReferenceIdeal.Value.run (F := Ideal) m' g')
    obtain ⟨h0, h1, h2, h3, h4, ha⟩ := h c
    obtain ⟨e0, e1, e2, e3, e4, e5, e6⟩ := he c
    choose qr hq using (hr c).1
    choose kr hk using (hr c).2
    refine ⟨h0.trans ?_, h1.trans ?_, h2.trans ?_, h3.trans ?_, h4.trans ?_, ha⟩
    · rw [e0, e1, e2]; exact (out7 m c qr kr hq hk).symm
    · rw [e3]; exact (out8 m c).symm
    · rw [e4]; exact (out9 m c).symm
    · rw [e5]; exact (out10 m c).symm
    · rw [e6]; exact (out11 m c).symm

end Cert.Proof
-- ==== Proof.MlpRef.lean ====
module

public import proofs.«01_k».proof.Proof.Gen.MlpRefIdeal.Run
public import Idealize.ShloMosaic.Lib.Pointwise

@[expose] public section

set_option maxRecDepth 16384
set_option maxHeartbeats 1000000

noncomputable section

namespace Cert.Rows

open Idealize.ShloMosaic

/-- A row over its root mean square, times a gain. -/
def rmsRow (x g : Fin 2048 → EReal) (k : Fin 2048) : EReal :=
  x k * Ideal.rsqrt (Ideal.div (∑ j, x j * x j) (Ideal.ofBits FTy.f32 0x45000000#32) + Ideal.ofBits FTy.f32 0x358637BD#32) * g k

/-- One hidden unit: the row's product with its column, cut at zero. -/
def hid (x : Fin 2048 → EReal) (u : Vec Ideal (⟨3, ![1, 2048, 8192]⟩ : Shape) .f32) (l : Fin 8192) : EReal :=
  max (∑ k : Fin 2048, x k * u (ix3 0 k l)) 0

/-- The feed-forward part at one element. -/
def mlpAt (h : Vec Ideal (⟨2, ![16384, 2048]⟩ : Shape) .f32) (g₁ : Vec Ideal (⟨2, ![1, 2048]⟩ : Shape) .f32) (u : Vec Ideal (⟨3, ![1, 2048, 8192]⟩ : Shape) .f32) (w : Vec Ideal (⟨3, ![1, 8192, 2048]⟩ : Shape) .f32)
    (g₂ : Vec Ideal (⟨2, ![1, 2048]⟩ : Shape) .f32) (r : Fin 16384) (d : Fin 2048) : EReal :=
  h (ix2 r d) + rmsRow (fun d => ∑ l : Fin 8192, hid (rmsRow (fun k => h (ix2 r k)) fun k => g₁ (ix2 0 k)) u l
    * hid (rmsRow (fun k => h (ix2 r k)) fun k => g₁ (ix2 0 k)) u l * w (ix3 0 l d)) (fun k => g₂ (ix2 0 k)) d

end Cert.Rows

namespace Cert.MlpRefIdeal.Val

open Cert.MlpRefIdeal Cert.MlpRefIdeal.Gen Cert.Rows
open Idealize.ShloMosaic Idealize.ShloMosaic.TcCoe Idealize.SL.Sem

/-- The reference's normalisation. -/
def refRms (x : FVec Ideal S16384x2048 .f32) (g : FVec Ideal S1x2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ g shapeCasts_S1x2048_S2048)))

/-- The reference's hidden units. -/
def refHid (x : FVec Ideal S16384x2048 .f32) (u : FVec Ideal S1x2048x8192 .f32) : FVec Ideal S16384x8192 .f32 :=
  maximumf (Host.dotGeneral dot_S16384x2048_S2048x8192_S16384x8192_1_0_0_1_n_n none x (shapeCast _ u shapeCasts_S1x2048x8192_S2048x8192)) (broadcastInDim S16384x8192 ![] bcast_S_S16384x8192 (constant S_ .f32 0x00000000#32))

/-- The reference's product of the squared hidden units. -/
def refDown (a : FVec Ideal S16384x8192 .f32) (w : FVec Ideal S1x8192x2048 .f32) : FVec Ideal S16384x2048 .f32 :=
  Host.dotGeneral dot_S16384x8192_S8192x2048_S16384x2048_1_0_0_1_n_n none (mulf a a) (shapeCast _ w shapeCasts_S1x8192x2048_S8192x2048)

/-- The normalisation at an element. -/
theorem refRms_apply (x : FVec Ideal S16384x2048 .f32) (g : FVec Ideal S1x2048 .f32) (r : Fin 16384) (k : Fin 2048) :
    refRms x g (ix2 r k) = rmsRow (fun k => x (ix2 r k)) (fun k => g (ix2 0 k)) k := by
  unfold refRms
  pointwise
  rfl

/-- A hidden unit at an element. -/
theorem refHid_apply (x : FVec Ideal S16384x2048 .f32) (u : FVec Ideal S1x2048x8192 .f32) (r : Fin 16384) (l : Fin 8192) :
    refHid x u (ix2 r l) = hid (fun k => x (ix2 r k)) u l := by
  unfold refHid
  pointwise
  rfl

/-- The second product at an element. -/
theorem refDown_apply (a : FVec Ideal S16384x8192 .f32) (w : FVec Ideal S1x8192x2048 .f32) (r : Fin 16384) (d : Fin 2048) :
    refDown a w (ix2 r d) = ∑ l : Fin 8192, (a (ix2 r l) : EReal) * a (ix2 r l) * w (ix3 0 l d) := by
  unfold refDown
  pointwise

/-- A sum at an element. -/
theorem add_at (x y : FVec Ideal S16384x2048 .f32) (i : S16384x2048.Idx) : addf x y i = (x i + y i : EReal) := rfl

/-- The reference's result at an element. -/
theorem ref_apply (m : (ℓ : Loc nD τ sig) → Buf (Elt Ideal) ℓ) (c : Dev nD) (r : Fin 16384) (d : Fin 2048) :
    Value.res_main_v34 (F := Ideal) m c (ix2 r d)
      = mlpAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r d := by
  rw [show Value.res_main_v34 (F := Ideal) m c = addf (m ((c.tc : Thread nD τ).loc main_arg0))
    (refRms (refDown (refHid (refRms (m ((c.tc : Thread nD τ).loc main_arg0)) (m ((c.tc : Thread nD τ).loc main_arg1))) (m ((c.tc : Thread nD τ).loc main_arg2))) (m ((c.tc : Thread nD τ).loc main_arg3))) (m ((c.tc : Thread nD τ).loc main_arg4))) from rfl, add_at]
  rw [refRms_apply]
  simp only [refDown_apply, refHid_apply, refRms_apply]
  rfl

end Cert.MlpRefIdeal.Val
-- ==== Proof.MlpVal.lean ====
module

public import proofs.«01_k».proof.Proof.Gen.MlpIdeal.Value
public import proofs.«01_k».proof.Proof.MlpRef
public import Idealize.ShloMosaic.Lib.Pointwise
public import Idealize.ShloMosaic.Lib.Pipeline.ValueKit
public import Idealize.ShloMosaic.Lib.Pipeline.ReadBack

@[expose] public section

set_option maxRecDepth 16384
set_option maxHeartbeats 1000000

noncomputable section

namespace Cert.MlpIdeal.Val

open Cert.MlpIdeal Cert.MlpIdeal.Gen Cert.Rows
open Idealize.ShloMosaic Idealize.ShloMosaic.TcCoe Idealize.SL.Sem

/-- One chunk of 1024 hidden units' share of an output column; chunks count from 0 to 7. -/
def chunk (x : Fin 2048 → EReal) (u : Vec Ideal S1x2048x8192 .f32) (w : Vec Ideal S1x8192x2048 .f32) (d : Fin 2048) (s : ℕ) : EReal :=
  ∑ e : Fin 1024, hid x u ⟨(s * 1024 + e.val) % 8192, Nat.mod_lt _ (by decide)⟩ * hid x u ⟨(s * 1024 + e.val) % 8192, Nat.mod_lt _ (by decide)⟩
    * w (ix3 0 ⟨(s * 1024 + e.val) % 8192, Nat.mod_lt _ (by decide)⟩ d)

/-- The eight chunks together are the whole column. -/
theorem chunks_eq (x : Fin 2048 → EReal) (u : Vec Ideal S1x2048x8192 .f32) (w : Vec Ideal S1x8192x2048 .f32) (d : Fin 2048) :
    ∑ s ∈ Finset.range 8, chunk x u w d s = ∑ l : Fin 8192, hid x u l * hid x u l * w (ix3 0 l d) := by
  rw [Finset.sum_range]
  unfold chunk
  refine Fin.sum_mul_add_congr fun s e hl => ?_
  have e1 : (⟨(s.val * 1024 + e.val) % 8192, Nat.mod_lt _ (by decide)⟩ : Fin 8192) = ⟨s.val * 1024 + e.val, hl⟩ := Fin.ext (Nat.mod_eq_of_lt hl)
  rw [e1]

/-- The first normalisation's payload at an element. -/
theorem pay1_apply (x : Vec Ideal S512x2048 .f32) (g : Vec Ideal S1x2048 .f32) (r : Fin 512) (k : Fin 2048) :
    k0_pay1 x g (ix2 r k) = rmsRow (fun j => x (ix2 r j)) (fun j => g (ix2 0 j)) k := by
  unfold k0_pay1
  pointwise
  rfl

/-- One chunk's product with its weights, over a point's blocks. -/
def part (x : Fin 2048 → EReal) (u : Vec Ideal S2048x1024 .bf16) (w : Vec Ideal S1024x2048 .bf16) (d : Fin 2048) : EReal :=
  ∑ e : Fin 1024, max (∑ k : Fin 2048, x k * u (ix2 k e)) 0 * max (∑ k : Fin 2048, x k * u (ix2 k e)) 0 * w (ix2 e d)

/-- The first chunk's payload at an element. -/
theorem pay2_apply (x : Vec Ideal S512x2048 .bf16) (u : Vec Ideal S2048x1024 .bf16) (w : Vec Ideal S1024x2048 .bf16) (r : Fin 512) (d : Fin 2048) :
    k0_pay2 x u w (ix2 r d) = part (fun k => x (ix2 r k)) u w d := by
  unfold k0_pay2
  pointwise
  rfl

/-- A middle chunk's payload at an element. -/
theorem pay3_apply (a : Vec Ideal S512x2048 .f32) (x : Vec Ideal S512x2048 .bf16) (u : Vec Ideal S2048x1024 .bf16) (w : Vec Ideal S1024x2048 .bf16) (r : Fin 512) (d : Fin 2048) :
    k0_pay3 a x u w (ix2 r d) = (a (ix2 r d) : EReal) + part (fun k => x (ix2 r k)) u w d := by
  unfold k0_pay3
  pointwise
  rfl

/-- The last chunk's payload at an element. -/
theorem pay4_apply (h a : Vec Ideal S512x2048 .f32) (x : Vec Ideal S512x2048 .bf16) (u : Vec Ideal S2048x1024 .bf16) (w : Vec Ideal S1024x2048 .bf16) (g : Vec Ideal S1x2048 .f32) (r : Fin 512) (d : Fin 2048) :
    k0_pay4 h a x u w g (ix2 r d) = (h (ix2 r d) : EReal) + rmsRow (fun d => (a (ix2 r d) : EReal) + part (fun k => x (ix2 r k)) u w d) (fun k => g (ix2 0 k)) d := by
  unfold k0_pay4
  pointwise
  rfl

theorem jx_eq : ∀ t : Fin cfg0.N, win0_0.index t = ![t.val / 8, 0] := by decide +kernel
theorem j1_eq : ∀ t : Fin cfg0.N, win0_1.index t = ![0, 0] := by decide +kernel
theorem j2_eq : ∀ t : Fin cfg0.N, win0_2.index t = ![0, t.val % 8] := by decide +kernel
theorem j3_eq : ∀ t : Fin cfg0.N, win0_3.index t = ![t.val % 8, 0] := by decide +kernel
theorem j4_eq : ∀ t : Fin cfg0.N, win0_4.index t = ![0, 0] := by decide +kernel
theorem j5_eq : ∀ t : Fin cfg0.N, win0_5.index t = ![t.val / 8, 0] := by decide +kernel

variable (m : (ℓ : Loc nD τ sig) → Buf (Elt Ideal) ℓ) (c : Dev nD)

/-- The first weight as the call reads it: cast, without its leading axis. -/
def hostUp (u : FVec Ideal S1x2048x8192 .f32) : FVec Ideal S2048x8192 .bf16 := truncf .bf16 (shapeCast S2048x8192 u shapeCasts_S1x2048x8192_S2048x8192) bitsLt_bf16_f32
/-- The second weight as the call reads it. -/
def hostDown (w : FVec Ideal S1x8192x2048 .f32) : FVec Ideal S8192x2048 .bf16 := truncf .bf16 (shapeCast S8192x2048 w shapeCasts_S1x8192x2048_S8192x2048) bitsLt_bf16_f32
/-- The call's first weight is that. -/
theorem V_up : V m c main_v1 = hostUp (m ((c.tc : Thread nD τ).loc main_arg2)) := by
  unfold hostUp
  show StableHlo.after hostOps0 (fun b => m (c, b)) _ = _
  after_results <;> rfl
/-- The call's second weight is that. -/
theorem V_down : V m c main_v3 = hostDown (m ((c.tc : Thread nD τ).loc main_arg3)) := by
  unfold hostDown
  show StableHlo.after hostOps0 (fun b => m (c, b)) _ = _
  after_results <;> rfl
/-- The first weight at an element. -/
theorem hostUp_apply (u : FVec Ideal S1x2048x8192 .f32) (k : Fin 2048) (l : Fin 8192) : hostUp u (ix2 k l) = u (ix3 0 k l) := by
  unfold hostUp
  pointwise
/-- The second weight at an element. -/
theorem hostDown_apply (w : FVec Ideal S1x8192x2048 .f32) (l : Fin 8192) (d : Fin 2048) : hostDown w (ix2 l d) = w (ix3 0 l d) := by
  unfold hostDown
  pointwise

/-- The row a point's block's row is. -/
def row (t : Fin cfg0.N) (y : Fin 512) : Fin 16384 := ⟨t.val / 8 * 512 + y.val, by have h : t.val < 256 := t.isLt; omega⟩

/-- A block of the input at an element. -/
theorem b0_apply (t : Fin cfg0.N) (y : Fin 512) (k : Fin 2048) : (iblk m c 0 t : Vec Ideal S512x2048 .f32) (ix2 y k) = (m ((c.tc : Thread nD τ).loc main_arg0) : Vec Ideal S16384x2048 .f32) (ix2 (row t y) k) := by
  blk_simp [iblk]
  refine (congrFun (V_main_arg0 m c) _).trans (congrArg (m ((c.tc : Thread nD τ).loc main_arg0)) ?_)
  unfold row
  blk_ext [jx_eq]
/-- The first gain's block. -/
theorem b1_apply (t : Fin cfg0.N) (k : Fin 2048) : (iblk m c 1 t : Vec Ideal S1x2048 .f32) (ix2 0 k) = (m ((c.tc : Thread nD τ).loc main_arg1) : Vec Ideal S1x2048 .f32) (ix2 0 k) := by
  blk_simp [iblk]
  refine (congrFun (V_main_arg1 m c) _).trans (congrArg (m ((c.tc : Thread nD τ).loc main_arg1)) ?_)
  blk_ext [j1_eq]
/-- The second gain's block. -/
theorem b4_apply (t : Fin cfg0.N) (k : Fin 2048) : (iblk m c 4 t : Vec Ideal S1x2048 .f32) (ix2 0 k) = (m ((c.tc : Thread nD τ).loc main_arg4) : Vec Ideal S1x2048 .f32) (ix2 0 k) := by
  blk_simp [iblk]
  refine (congrFun (V_main_arg4 m c) _).trans (congrArg (m ((c.tc : Thread nD τ).loc main_arg4)) ?_)
  blk_ext [j4_eq]
/-- The first weight's block at an element. -/
theorem b2_apply (t : Fin cfg0.N) (k : Fin 2048) (e : Fin 1024) : (iblk m c 2 t : Vec Ideal S2048x1024 .bf16) (ix2 k e)
    = (m ((c.tc : Thread nD τ).loc main_arg2) : Vec Ideal S1x2048x8192 .f32) (ix3 0 k ⟨(t.val % 8 * 1024 + e.val) % 8192, Nat.mod_lt _ (by decide)⟩) := by
  refine Eq.trans ?_ ((congrFun (V_up m c) _).trans (hostUp_apply _ _ _))
  blk_simp [iblk]
  refine congrArg (V m c main_v1) ?_
  blk_ext [j2_eq]
/-- The second weight's block at an element. -/
theorem b3_apply (t : Fin cfg0.N) (e : Fin 1024) (d : Fin 2048) : (iblk m c 3 t : Vec Ideal S1024x2048 .bf16) (ix2 e d)
    = (m ((c.tc : Thread nD τ).loc main_arg3) : Vec Ideal S1x8192x2048 .f32) (ix3 0 ⟨(t.val % 8 * 1024 + e.val) % 8192, Nat.mod_lt _ (by decide)⟩ d) := by
  refine Eq.trans ?_ ((congrFun (V_down m c) _).trans (hostDown_apply _ _ _))
  blk_simp [iblk]
  refine congrArg (V m c main_v3) ?_
  blk_ext [j3_eq]
/-- A point's chunk, over the arrays. -/
theorem part_eq (t : Fin cfg0.N) (x : Fin 2048 → EReal) (d : Fin 2048) :
    part x (iblk m c 2 t) (iblk m c 3 t) d = chunk x (m ((c.tc : Thread nD τ).loc main_arg2)) (m ((c.tc : Thread nD τ).loc main_arg3)) d (t.val % 8) := by
  unfold part chunk hid
  refine Finset.sum_congr rfl fun e _ => ?_
  rw [b3_apply]
  simp only [b2_apply]

/-- The normalised row a point reads. -/
def xrow (t : Fin cfg0.N) (y : Fin 512) : Fin 2048 → EReal :=
  rmsRow (fun k => (m ((c.tc : Thread nD τ).loc main_arg0) : Vec Ideal S16384x2048 .f32) (ix2 (row t y) k)) (fun k => (m ((c.tc : Thread nD τ).loc main_arg1) : Vec Ideal S1x2048 .f32) (ix2 0 k))

/-- The first point of a row block leaves the normalised rows, -/
theorem stepA_x (t : Fin cfg0.N) (h : t.val % 8 = 0) : (outsAt0 m c t.val t.isLt).2.1 = k0_pay1 (iblk m c 0 t) (iblk m c 1 t) := by
  rw [outsAt0_A m c t h (by omega) (by omega)]; frame_out
/-- and the first chunk. -/
theorem stepA_a (t : Fin cfg0.N) (h : t.val % 8 = 0) : (outsAt0 m c t.val t.isLt).2.2 = k0_pay2 (k0_pay1 (iblk m c 0 t) (iblk m c 1 t)) (iblk m c 2 t) (iblk m c 3 t) := by
  rw [outsAt0_A m c t h (by omega) (by omega)]; frame_out
/-- A middle point keeps the normalised rows, -/
theorem stepB_x (t : Fin cfg0.N) (h : ¬t.val % 8 = 0) (h' : t.val % 8 ≤ 6) : (outsAt0 m c t.val t.isLt).2.1 = (outsAt0 m c (t.val - 1) (Nat.lt_of_le_of_lt (Nat.sub_le _ _) t.isLt)).2.1 := by
  rw [outsAt0_B m c t h (by omega) (by omega)]; frame_out; rfl
/-- and adds a chunk. -/
theorem stepB_a (t : Fin cfg0.N) (h : ¬t.val % 8 = 0) (h' : t.val % 8 ≤ 6) : (outsAt0 m c t.val t.isLt).2.2
    = k0_pay3 (outsAt0 m c (t.val - 1) (Nat.lt_of_le_of_lt (Nat.sub_le _ _) t.isLt)).2.2 (outsAt0 m c (t.val - 1) (Nat.lt_of_le_of_lt (Nat.sub_le _ _) t.isLt)).2.1 (iblk m c 2 t) (iblk m c 3 t) := by
  rw [outsAt0_B m c t h (by omega) (by omega)]; frame_out; simp only [read_unread_whole]
/-- The last point of a row block writes the output's block. -/
theorem stepC (t : Fin cfg0.N) (h' : t.val % 8 = 7) : (outsAt0 m c t.val t.isLt).1
    = k0_pay4 (iblk m c 0 t) (outsAt0 m c (t.val - 1) (Nat.lt_of_le_of_lt (Nat.sub_le _ _) t.isLt)).2.2 (outsAt0 m c (t.val - 1) (Nat.lt_of_le_of_lt (Nat.sub_le _ _) t.isLt)).2.1 (iblk m c 2 t) (iblk m c 3 t) (iblk m c 4 t) := by
  rw [outsAt0_C m c t (by omega) (by omega) h']; frame_out; simp only [read_unread_whole]

/-- The normalised row, over a point's blocks. -/
theorem pay1_blk (t : Fin cfg0.N) (y : Fin 512) : (fun k => k0_pay1 (iblk m c 0 t) (iblk m c 1 t) (ix2 y k)) = xrow m c t y := by
  funext k
  rw [pay1_apply]
  simp only [b0_apply, b1_apply]
  rfl

/-- What the carried buffers hold after a point that is not its row block's last: the normalised rows, and the chunks so far. -/
theorem carried (n : ℕ) : ∀ (h : n < cfg0.N), n % 8 ≤ 6 → ∀ y : Fin 512,
    (∀ k : Fin 2048, ((outsAt0 m c n h).2.1 : Vec Ideal S512x2048 .bf16) (ix2 y k) = xrow m c ⟨n, h⟩ y k)
    ∧ (∀ d : Fin 2048, ((outsAt0 m c n h).2.2 : Vec Ideal S512x2048 .f32) (ix2 y d)
        = ∑ s ∈ Finset.range (n % 8 + 1), chunk (xrow m c ⟨n, h⟩ y) (m ((c.tc : Thread nD τ).loc main_arg2)) (m ((c.tc : Thread nD τ).loc main_arg3)) d s) := by
  have hA : ∀ (n : ℕ) (h : n < cfg0.N), n % 8 = 0 → ∀ y : Fin 512,
      (∀ k : Fin 2048, ((outsAt0 m c n h).2.1 : Vec Ideal S512x2048 .bf16) (ix2 y k) = xrow m c ⟨n, h⟩ y k)
      ∧ (∀ d : Fin 2048, ((outsAt0 m c n h).2.2 : Vec Ideal S512x2048 .f32) (ix2 y d)
          = ∑ s ∈ Finset.range (n % 8 + 1), chunk (xrow m c ⟨n, h⟩ y) (m ((c.tc : Thread nD τ).loc main_arg2)) (m ((c.tc : Thread nD τ).loc main_arg3)) d s) := by
    intro n h h0 y
    refine ⟨fun k => ?_, fun d => ?_⟩
    · rw [stepA_x m c ⟨n, h⟩ h0]; exact congrFun (pay1_blk m c ⟨n, h⟩ y) k
    · rw [stepA_a m c ⟨n, h⟩ h0, pay2_apply, pay1_blk, part_eq, h0, Finset.sum_range_one]
  induction n with
  | zero => exact fun h _ => hA 0 h rfl
  | succ n ih =>
    intro h h6 y
    by_cases h0 : (n + 1) % 8 = 0
    · exact hA _ h h0 y
    obtain ⟨ix, ia⟩ := ih (by omega) (by omega) y
    have hx : xrow m c ⟨n + 1, h⟩ y = xrow m c ⟨n, by omega⟩ y := by
      have e : row ⟨n + 1, h⟩ y = row ⟨n, by omega⟩ y := Fin.ext (by show (n + 1) / 8 * 512 + y.val = n / 8 * 512 + y.val; omega)
      unfold xrow; rw [e]
    refine ⟨fun k => ?_, fun d => ?_⟩
    · rw [stepB_x m c ⟨n + 1, h⟩ h0 h6, hx]; exact ix k
    · rw [stepB_a m c ⟨n + 1, h⟩ h0 h6, pay3_apply, part_eq, hx, Finset.sum_range_succ]
      refine congrArg₂ (· + ·) ?_ ?_
      · rw [show (n + 1) % 8 = n % 8 + 1 by omega]; exact ia d
      · exact congrArg (fun x => chunk x _ _ d _) (funext ix)

/-- The output array at an element. -/
theorem final5 : (dats m 0 c).arrAt 5 cfg0.N = fun i => mlpAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) := by
  refine (dats m 0 c).arrAt_eq_of_covers 5 _ (by decide +kernel) fun t hf y => ?_
  blk_simp
  rw [after0_5]
  have h7 : t.val % 8 = 7 := (flush0_5 t).mp hf
  have hN : t.val < 256 := t.isLt
  rw [stepC m c t h7]
  obtain ⟨y0, y1, rfl⟩ : ∃ (a : Fin 512) (b : Fin 2048), y = ix2 a b := ⟨y 0, y 1, by funext a; fin_cases a <;> rfl⟩
  obtain ⟨ix, ia⟩ := carried m c (t.val - 1) (Nat.lt_of_le_of_lt (Nat.sub_le _ _) t.isLt) (by omega) y0
  have hx : xrow m c ⟨t.val - 1, Nat.lt_of_le_of_lt (Nat.sub_le _ _) t.isLt⟩ y0 = xrow m c t y0 := by
    have e : row ⟨t.val - 1, Nat.lt_of_le_of_lt (Nat.sub_le _ _) t.isLt⟩ y0 = row t y0 := Fin.ext (by show (t.val - 1) / 8 * 512 + y0.val = t.val / 8 * 512 + y0.val; omega)
    unfold xrow; rw [e]
  have e0 : ((win0_5.blk t).view.emb (ix2 y0 y1)) 0 = row t y0 := Fin.ext (by blk_simp [j5_eq]; rfl)
  have e1 : ((win0_5.blk t).view.emb (ix2 y0 y1)) 1 = y1 := Fin.ext (by blk_simp [j5_eq])
  rw [e0, e1, pay4_apply, b0_apply]
  unfold mlpAt
  refine congrArg _ ?_
  simp only [b4_apply, part_eq, ia, h7, show (t.val - 1) % 8 + 1 = 7 by omega, ← chunks_eq, ix, hx, Finset.sum_range_succ _ 7]
  rfl

end Cert.MlpIdeal.Val
-- ==== Proof.MlpClaim.lean ====
module

public import proofs.«01_k».proof.Defs
public import proofs.«01_k».proof.Proof.MlpVal

@[expose] public section

set_option maxRecDepth 16384
set_option maxHeartbeats 1000000

noncomputable section

namespace Cert.Proof

open Idealize.ShloMosaic Idealize.ShloMosaic.TcCoe Idealize.SL.Sem
open Cert.MlpIdeal Cert.MlpIdeal.Gen in
/-- The feed-forward part and its reference end with the same result. -/
theorem algebraic_Mlp : letI := Cert.MlpIdeal.Gen.facts; letI := Cert.MlpRefIdeal.Gen.facts; Cert.algebraic_MlpIdeal_MlpRefIdeal := by
  letI := Cert.MlpIdeal.Gen.facts
  letI := Cert.MlpRefIdeal.Gen.facts
  intro m g m' g' _ he
  refine ⟨fun c => (dats m 0 c).arrAt 5 cfg0.N, Cert.MlpIdeal.Value.run_blocks (F := Ideal) m g, ?_⟩
  refine (θ_run _ _ _).mono (fun _ h c => ?_) (Cert.MlpRefIdeal.Value.run (F := Ideal) m' g')
  obtain ⟨h0, ha⟩ := h c
  obtain ⟨e0, e1, e2, e3, e4⟩ := he c
  refine ⟨h0.trans ?_, ha⟩
  refine Eq.trans ?_ (Cert.MlpIdeal.Val.final5 m c).symm
  funext i
  obtain ⟨r, d, rfl⟩ : ∃ (a : Fin 16384) (b : Fin 2048), i = ix2 a b := ⟨i 0, i 1, by funext a; fin_cases a <;> rfl⟩
  rw [Cert.MlpRefIdeal.Val.ref_apply, e0, e1, e2, e3, e4]
  rfl

end Cert.Proof
-- ==== Proof.PleRef.lean ====
module

public import proofs.«01_k».proof.Proof.Gen.PleRefIdeal.Run
public import proofs.«01_k».proof.Proof.MlpRef
public import Idealize.ShloMosaic.Lib.Pointwise

@[expose] public section

set_option maxRecDepth 16384
set_option maxHeartbeats 1000000

noncomputable section

namespace Cert.Rows

open Idealize.ShloMosaic

/-- One gated element: a row's product with a column, times the logistic function of the normalised state's product with the gate's column. -/
def gated (h p₁ : Fin 2048 → EReal) (p : Fin 256 → EReal) (w : Vec Ideal (⟨3, ![1, 2048, 2048]⟩ : Shape) .f32) (q : Vec Ideal (⟨3, ![1, 256, 2048]⟩ : Shape) .f32) (d : Fin 2048) : EReal :=
  (∑ x : Fin 256, p x * q (ix3 0 x d)) * Ideal.logistic (∑ x : Fin 2048, rmsRow h p₁ x * w (ix3 0 x d))

/-- The gated part at one element. -/
def pleAt (h : Vec Ideal (⟨2, ![16384, 2048]⟩ : Shape) .f32) (p : Vec Ideal (⟨2, ![16384, 256]⟩ : Shape) .f32) (g₁ : Vec Ideal (⟨2, ![1, 2048]⟩ : Shape) .f32) (w : Vec Ideal (⟨3, ![1, 2048, 2048]⟩ : Shape) .f32)
    (q : Vec Ideal (⟨3, ![1, 256, 2048]⟩ : Shape) .f32) (g₂ : Vec Ideal (⟨2, ![1, 2048]⟩ : Shape) .f32) (r : Fin 16384) (d : Fin 2048) : EReal :=
  h (ix2 r d) + rmsRow (gated (fun k => h (ix2 r k)) (fun k => g₁ (ix2 0 k)) (fun x => p (ix2 r x)) w q) (fun k => g₂ (ix2 0 k)) d

end Cert.Rows

namespace Cert.PleRefIdeal.Val

open Cert.PleRefIdeal Cert.PleRefIdeal.Gen Cert.Rows
open Idealize.ShloMosaic Idealize.ShloMosaic.TcCoe Idealize.SL.Sem

/-- The reference's normalisation. -/
def refRms (x : FVec Ideal S16384x2048 .f32) (g : FVec Ideal S1x2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ g shapeCasts_S1x2048_S2048)))

/-- The reference's product of the per-layer input. -/
def refProj (p : FVec Ideal S16384x256 .f32) (q : FVec Ideal S1x256x2048 .f32) : FVec Ideal S16384x2048 .f32 :=
  Host.dotGeneral dot_S16384x256_S256x2048_S16384x2048_1_0_0_1_n_n none p (shapeCast _ q shapeCasts_S1x256x2048_S256x2048)

/-- The reference's gate. -/
def refGate (x : FVec Ideal S16384x2048 .f32) (w : FVec Ideal S1x2048x2048 .f32) : FVec Ideal S16384x2048 .f32 :=
  Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral dot_S16384x2048_S2048x2048_S16384x2048_1_0_0_1_n_n none x (shapeCast _ w shapeCasts_S1x2048x2048_S2048x2048)))))

/-- The normalisation at an element. -/
theorem refRms_apply (x : FVec Ideal S16384x2048 .f32) (g : FVec Ideal S1x2048 .f32) (r : Fin 16384) (k : Fin 2048) :
    refRms x g (ix2 r k) = rmsRow (fun k => x (ix2 r k)) (fun k => g (ix2 0 k)) k := by
  unfold refRms
  pointwise
  rfl

/-- The per-layer input's product at an element. -/
theorem refProj_apply (p : FVec Ideal S16384x256 .f32) (q : FVec Ideal S1x256x2048 .f32) (r : Fin 16384) (d : Fin 2048) :
    refProj p q (ix2 r d) = ∑ x : Fin 256, (p (ix2 r x) : EReal) * q (ix3 0 x d) := by
  unfold refProj
  pointwise

/-- The gate at an element. -/
theorem refGate_apply (x : FVec Ideal S16384x2048 .f32) (w : FVec Ideal S1x2048x2048 .f32) (r : Fin 16384) (d : Fin 2048) :
    refGate x w (ix2 r d) = Ideal.logistic (∑ k : Fin 2048, (x (ix2 r k) : EReal) * w (ix3 0 k d)) := by
  unfold refGate
  pointwise
  rfl

/-- A sum at an element. -/
theorem add_at (x y : FVec Ideal S16384x2048 .f32) (i : S16384x2048.Idx) : addf x y i = (x i + y i : EReal) := rfl
/-- A product at an element. -/
theorem mul_at (x y : FVec Ideal S16384x2048 .f32) (i : S16384x2048.Idx) : mulf x y i = (x i * y i : EReal) := rfl

/-- The reference's result at an element. -/
theorem ref_apply (m : (ℓ : Loc nD τ sig) → Buf (Elt Ideal) ℓ) (c : Dev nD) (r : Fin 16384) (d : Fin 2048) :
    Value.res_main_v39 (F := Ideal) m c (ix2 r d)
      = pleAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r d := by
  rw [show Value.res_main_v39 (F := Ideal) m c = addf (m ((c.tc : Thread nD τ).loc main_arg0))
    (refRms (mulf (refProj (m ((c.tc : Thread nD τ).loc main_arg1)) (m ((c.tc : Thread nD τ).loc main_arg4))) (refGate (refRms (m ((c.tc : Thread nD τ).loc main_arg0)) (m ((c.tc : Thread nD τ).loc main_arg2))) (m ((c.tc : Thread nD τ).loc main_arg3)))) (m ((c.tc : Thread nD τ).loc main_arg5))) from rfl, add_at]
  rw [refRms_apply]
  simp only [mul_at, refProj_apply, refGate_apply, refRms_apply]
  rfl

end Cert.PleRefIdeal.Val
-- ==== Proof.PleVal.lean ====
module

public import proofs.«01_k».proof.Proof.Gen.PleIdeal.Value
public import proofs.«01_k».proof.Proof.PleRef
public import Idealize.ShloMosaic.Lib.Pointwise
public import Idealize.ShloMosaic.Lib.Pipeline.ValueKit
public import Idealize.ShloMosaic.Lib.Pipeline.ReadBack

@[expose] public section

set_option maxRecDepth 16384
set_option maxHeartbeats 1000000

noncomputable section

namespace Cert.PleIdeal.Val

open Cert.PleIdeal Cert.PleIdeal.Gen Cert.Rows
open Idealize.ShloMosaic Idealize.ShloMosaic.TcCoe Idealize.SL.Sem

/-- A gated element over a point's blocks. -/
def gatedBlk (h p₁ : Fin 2048 → EReal) (p : Fin 256 → EReal) (w : Vec Ideal S2048x2048 .bf16) (q : Vec Ideal S256x2048 .bf16) (d : Fin 2048) : EReal :=
  (∑ x : Fin 256, p x * q (ix2 x d)) * Ideal.logistic (∑ x : Fin 2048, rmsRow h p₁ x * w (ix2 x d))

/-- The first 256 rows' payload at an element. -/
theorem pay2_apply (h : Vec Ideal S256x2048 .f32) (g₁ : Vec Ideal S1x2048 .f32) (w : Vec Ideal S2048x2048 .bf16) (p : Vec Ideal S256x256 .f32) (q : Vec Ideal S256x2048 .bf16) (g₂ : Vec Ideal S1x2048 .f32) (r : Fin 256) (d : Fin 2048) :
    k0_pay2 h g₁ w p q g₂ (ix2 r d) = (h (ix2 r d) : EReal) + rmsRow (gatedBlk (fun k => h (ix2 r k)) (fun k => g₁ (ix2 0 k)) (fun x => p (ix2 r x)) w q) (fun k => g₂ (ix2 0 k)) d := by
  unfold k0_pay2
  pointwise
  rfl

/-- The last 256 rows' payload is the same. -/
theorem pay1_apply (h : Vec Ideal S256x2048 .f32) (g₁ : Vec Ideal S1x2048 .f32) (w : Vec Ideal S2048x2048 .bf16) (p : Vec Ideal S256x256 .f32) (q : Vec Ideal S256x2048 .bf16) (g₂ : Vec Ideal S1x2048 .f32) (r : Fin 256) (d : Fin 2048) :
    k0_pay1 h g₂ (k0_pay3 h g₁ w p q) (ix2 r d) = (h (ix2 r d) : EReal) + rmsRow (gatedBlk (fun k => h (ix2 r k)) (fun k => g₁ (ix2 0 k)) (fun x => p (ix2 r x)) w q) (fun k => g₂ (ix2 0 k)) d := by
  unfold k0_pay1 k0_pay3
  pointwise
  rfl

theorem j0_eq : ∀ t : Fin cfg0.N, win0_0.index t = ![t.val, 0] := by decide +kernel
theorem j1_eq : ∀ t : Fin cfg0.N, win0_1.index t = ![t.val, 0] := by decide +kernel
theorem j2_eq : ∀ t : Fin cfg0.N, win0_2.index t = ![0, 0] := by decide +kernel
theorem j3_eq : ∀ t : Fin cfg0.N, win0_3.index t = ![0, 0] := by decide +kernel
theorem j4_eq : ∀ t : Fin cfg0.N, win0_4.index t = ![0, 0] := by decide +kernel
theorem j5_eq : ∀ t : Fin cfg0.N, win0_5.index t = ![0, 0] := by decide +kernel
theorem j6_eq : ∀ t : Fin cfg0.N, win0_6.index t = ![t.val, 0] := by decide +kernel

variable (m : (ℓ : Loc nD τ sig) → Buf (Elt Ideal) ℓ) (c : Dev nD)

/-- The gate's weight as the call reads it: cast, without its leading axis. -/
def hostGate (u : FVec Ideal S1x2048x2048 .f32) : FVec Ideal S2048x2048 .bf16 := truncf .bf16 (shapeCast S2048x2048 u shapeCasts_S1x2048x2048_S2048x2048) bitsLt_bf16_f32
/-- The projection's weight as the call reads it. -/
def hostProj (w : FVec Ideal S1x256x2048 .f32) : FVec Ideal S256x2048 .bf16 := truncf .bf16 (shapeCast S256x2048 w shapeCasts_S1x256x2048_S256x2048) bitsLt_bf16_f32
/-- The call's gate weight is that. -/
theorem V_gate : V m c main_v1 = hostGate (m ((c.tc : Thread nD τ).loc main_arg3)) := by
  unfold hostGate
  show StableHlo.after hostOps0 (fun b => m (c, b)) _ = _
  after_results <;> rfl
/-- The call's projection weight is that. -/
theorem V_proj : V m c main_v3 = hostProj (m ((c.tc : Thread nD τ).loc main_arg4)) := by
  unfold hostProj
  show StableHlo.after hostOps0 (fun b => m (c, b)) _ = _
  after_results <;> rfl
/-- The gate's weight at an element. -/
theorem hostGate_apply (u : FVec Ideal S1x2048x2048 .f32) (k : Fin 2048) (l : Fin 2048) : hostGate u (ix2 k l) = u (ix3 0 k l) := by
  unfold hostGate
  pointwise
/-- The projection's weight at an element. -/
theorem hostProj_apply (w : FVec Ideal S1x256x2048 .f32) (l : Fin 256) (d : Fin 2048) : hostProj w (ix2 l d) = w (ix3 0 l d) := by
  unfold hostProj
  pointwise

/-- The row a point's block's row is. -/
def row (t : Fin cfg0.N) (y : Fin 512) : Fin 16384 := ⟨t.val * 512 + y.val, by have h : t.val < 32 := t.isLt; omega⟩

/-- A block of the state at an element. -/
theorem b0_apply (t : Fin cfg0.N) (y : Fin 512) (k : Fin 2048) : (iblk m c 0 t : Vec Ideal S512x2048 .f32) (ix2 y k) = (m ((c.tc : Thread nD τ).loc main_arg0) : Vec Ideal S16384x2048 .f32) (ix2 (row t y) k) := by
  blk_simp [iblk]
  refine (congrFun (V_main_arg0 m c) _).trans (congrArg (m ((c.tc : Thread nD τ).loc main_arg0)) ?_)
  unfold row
  blk_ext [j0_eq]
/-- A block of the per-layer input at an element. -/
theorem b1_apply (t : Fin cfg0.N) (y : Fin 512) (k : Fin 256) : (iblk m c 1 t : Vec Ideal S512x256 .f32) (ix2 y k) = (m ((c.tc : Thread nD τ).loc main_arg1) : Vec Ideal S16384x256 .f32) (ix2 (row t y) k) := by
  blk_simp [iblk]
  refine (congrFun (V_main_arg1 m c) _).trans (congrArg (m ((c.tc : Thread nD τ).loc main_arg1)) ?_)
  unfold row
  blk_ext [j1_eq]
/-- The first gain's block. -/
theorem b2_apply (t : Fin cfg0.N) (k : Fin 2048) : (iblk m c 2 t : Vec Ideal S1x2048 .f32) (ix2 0 k) = (m ((c.tc : Thread nD τ).loc main_arg2) : Vec Ideal S1x2048 .f32) (ix2 0 k) := by
  blk_simp [iblk]
  refine (congrFun (V_main_arg2 m c) _).trans (congrArg (m ((c.tc : Thread nD τ).loc main_arg2)) ?_)
  blk_ext [j2_eq]
/-- The second gain's block. -/
theorem b5_apply (t : Fin cfg0.N) (k : Fin 2048) : (iblk m c 5 t : Vec Ideal S1x2048 .f32) (ix2 0 k) = (m ((c.tc : Thread nD τ).loc main_arg5) : Vec Ideal S1x2048 .f32) (ix2 0 k) := by
  blk_simp [iblk]
  refine (congrFun (V_main_arg5 m c) _).trans (congrArg (m ((c.tc : Thread nD τ).loc main_arg5)) ?_)
  blk_ext [j5_eq]
/-- The gate's weight's block at an element. -/
theorem b3_apply (t : Fin cfg0.N) (k : Fin 2048) (e : Fin 2048) : (iblk m c 3 t : Vec Ideal S2048x2048 .bf16) (ix2 k e)
    = (m ((c.tc : Thread nD τ).loc main_arg3) : Vec Ideal S1x2048x2048 .f32) (ix3 0 k e) := by
  refine Eq.trans ?_ ((congrFun (V_gate m c) _).trans (hostGate_apply _ _ _))
  blk_simp [iblk]
  refine congrArg (V m c main_v1) ?_
  blk_ext [j3_eq]
/-- The projection's weight's block at an element. -/
theorem b4_apply (t : Fin cfg0.N) (e : Fin 256) (d : Fin 2048) : (iblk m c 4 t : Vec Ideal S256x2048 .bf16) (ix2 e d)
    = (m ((c.tc : Thread nD τ).loc main_arg4) : Vec Ideal S1x256x2048 .f32) (ix3 0 e d) := by
  refine Eq.trans ?_ ((congrFun (V_proj m c) _).trans (hostProj_apply _ _ _))
  blk_simp [iblk]
  refine congrArg (V m c main_v3) ?_
  blk_ext [j4_eq]

/-- The gated row a point computes, over the arrays. -/
theorem gatedBlk_eq (t : Fin cfg0.N) (h p₁ : Fin 2048 → EReal) (p : Fin 256 → EReal) :
    gatedBlk h p₁ p (iblk m c 3 t) (iblk m c 4 t) = gated h p₁ p (m ((c.tc : Thread nD τ).loc main_arg3)) (m ((c.tc : Thread nD τ).loc main_arg4)) := by
  funext d
  unfold gatedBlk gated
  simp only [b3_apply, b4_apply]

/-- What a point writes at an element of its block. -/
def outAt (t : Fin cfg0.N) (y : S512x2048.Idx) : EReal :=
  pleAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (row t (y 0)) (y 1)

/-- An element of the first 256 rows of a block, -/
theorem emb_lo (a : Fin 256) (k : Fin 2048) : r0_0.emb (ix2 a k) = ix2 (⟨a.val, by omega⟩ : Fin 512) k := by
  funext x
  fin_cases x
  · exact Fin.ext (by blk_simp; rfl)
  · exact Fin.ext (by blk_simp; rfl)
/-- and of its last 256; -/
theorem emb_hi (a : Fin 256) (k : Fin 2048) : r0_5.emb (ix2 a k) = ix2 (⟨256 + a.val, by omega⟩ : Fin 512) k := by
  funext x
  fin_cases x
  · exact Fin.ext (by blk_simp; rfl)
  · exact Fin.ext (by blk_simp; rfl)
/-- of the first 256 rows of a block of the per-layer input, -/
theorem embp_lo (a : Fin 256) (k : Fin 256) : r0_3.emb (ix2 a k) = ix2 (⟨a.val, by omega⟩ : Fin 512) k := by
  funext x
  fin_cases x
  · exact Fin.ext (by blk_simp; rfl)
  · exact Fin.ext (by blk_simp; rfl)
/-- and of its last 256. -/
theorem embp_hi (a : Fin 256) (k : Fin 256) : r0_6.emb (ix2 a k) = ix2 (⟨256 + a.val, by omega⟩ : Fin 512) k := by
  funext x
  fin_cases x
  · exact Fin.ext (by blk_simp; rfl)
  · exact Fin.ext (by blk_simp; rfl)

/-- The payload's element over the arrays, when the rows it reads are the block's row `y`. -/
theorem rows_eq (t : Fin cfg0.N) (y : Fin 512) (h : Vec Ideal S256x2048 .f32) (p : Vec Ideal S256x256 .f32) (a : Fin 256) (d : Fin 2048)
    (hh : ∀ k, h (ix2 a k) = (iblk m c 0 t : Vec Ideal S512x2048 .f32) (ix2 y k)) (hp : ∀ k, p (ix2 a k) = (iblk m c 1 t : Vec Ideal S512x256 .f32) (ix2 y k)) :
    (h (ix2 a d) : EReal) + rmsRow (gatedBlk (fun k => h (ix2 a k)) (fun k => (iblk m c 2 t : Vec Ideal S1x2048 .f32) (ix2 0 k)) (fun x => p (ix2 a x)) (iblk m c 3 t) (iblk m c 4 t))
        (fun k => (iblk m c 5 t : Vec Ideal S1x2048 .f32) (ix2 0 k)) d
      = outAt m c t (ix2 y d) := by
  unfold outAt pleAt
  simp only [hh, hp, b0_apply, b1_apply, b2_apply, b5_apply, gatedBlk_eq]
  rfl

/-- A point's block of the output, at an element. -/
theorem after6_apply (t : Fin cfg0.N) (y : S512x2048.Idx) : ((dats m 0 c).after 6 t : Vec Ideal S512x2048 .f32) y = outAt m c t y := by
  rw [after0_6]
  frame_out
  refine View.canon_apply_of_pieces (Val := Elt Ideal) (e := .f32) (outAt m c t) _ ?_ y ?_
  · intro p hp
    rcases List.mem_cons.mp hp with rfl | hp
    · intro x
      obtain ⟨a, b, rfl⟩ : ∃ (a : Fin 256) (b : Fin 2048), x = ix2 a b := ⟨x 0, x 1, by funext a; fin_cases a <;> rfl⟩
      rw [emb_hi]
      exact (pay1_apply _ _ _ _ _ _ a b).trans (rows_eq m c t ⟨256 + a.val, by omega⟩ _ _ a b
        (fun k => congrArg (iblk m c 0 t : Vec Ideal S512x2048 .f32) (emb_hi a k)) fun k => congrArg (iblk m c 1 t : Vec Ideal S512x256 .f32) (embp_hi a k))
    · obtain rfl := List.mem_singleton.mp hp
      intro x
      obtain ⟨a, b, rfl⟩ : ∃ (a : Fin 256) (b : Fin 2048), x = ix2 a b := ⟨x 0, x 1, by funext a; fin_cases a <;> rfl⟩
      rw [emb_lo]
      exact (pay2_apply _ _ _ _ _ _ a b).trans (rows_eq m c t ⟨a.val, by omega⟩ _ _ a b
        (fun k => congrArg (iblk m c 0 t : Vec Ideal S512x2048 .f32) (emb_lo a k)) fun k => congrArg (iblk m c 1 t : Vec Ideal S512x256 .f32) (embp_lo a k))
  · have h1 : (y 1).val < 2048 := (y 1).isLt
    have h0 : (y 0).val < 512 := (y 0).isLt
    by_cases h : (y 0).val < 256
    · refine ⟨_, List.mem_cons_of_mem _ (List.mem_singleton.mpr rfl), (Rect.mem_set_unit (inb := inb_S512x2048_S256x2048_0_0)).mpr fun a => ?_⟩
      fin_cases a
      · exact ⟨Nat.zero_le _, by show (y 0).val < 0 + 256; omega⟩
      · exact ⟨Nat.zero_le _, by show (y 1).val < 0 + 2048; omega⟩
    · refine ⟨_, List.mem_cons_self, (Rect.mem_set_unit (inb := inb_S512x2048_S256x2048_256_0)).mpr fun a => ?_⟩
      fin_cases a
      · exact ⟨by show 256 ≤ (y 0).val; omega, by show (y 0).val < 256 + 256; omega⟩
      · exact ⟨Nat.zero_le _, by show (y 1).val < 0 + 2048; omega⟩

/-- The output array at an element. -/
theorem final6 : (dats m 0 c).arrAt 6 cfg0.N = fun i => pleAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) := by
  refine (dats m 0 c).arrAt_eq_of_covers 6 _ (by decide +kernel) fun t hf y => ?_
  refine Eq.trans ?_ ((after6_apply m c t y).trans ?_)
  · blk_simp
  obtain ⟨y0, y1, rfl⟩ : ∃ (a : Fin 512) (b : Fin 2048), y = ix2 a b := ⟨y 0, y 1, by funext a; fin_cases a <;> rfl⟩
  have e0 : ((win0_6.blk t).view.emb (ix2 y0 y1)) 0 = row t y0 := Fin.ext (by blk_simp [j6_eq]; rfl)
  have e1 : ((win0_6.blk t).view.emb (ix2 y0 y1)) 1 = y1 := Fin.ext (by blk_simp [j6_eq])
  unfold outAt
  blk_simp
  rw [e0, e1]
  rfl

end Cert.PleIdeal.Val
-- ==== Proof.PleClaim.lean ====
module

public import proofs.«01_k».proof.Defs
public import proofs.«01_k».proof.Proof.PleVal

@[expose] public section

set_option maxRecDepth 16384
set_option maxHeartbeats 1000000

noncomputable section

namespace Cert.Proof

open Idealize.ShloMosaic Idealize.ShloMosaic.TcCoe Idealize.SL.Sem
open Cert.PleIdeal Cert.PleIdeal.Gen in
/-- The gated per-layer part and its reference end with the same result. -/
theorem algebraic_Ple : letI := Cert.PleIdeal.Gen.facts; letI := Cert.PleRefIdeal.Gen.facts; Cert.algebraic_PleIdeal_PleRefIdeal := by
  letI := Cert.PleIdeal.Gen.facts
  letI := Cert.PleRefIdeal.Gen.facts
  intro m g m' g' _ he
  refine ⟨fun c => (dats m 0 c).arrAt 6 cfg0.N, Cert.PleIdeal.Value.run_blocks (F := Ideal) m g, ?_⟩
  refine (θ_run _ _ _).mono (fun _ h c => ?_) (Cert.PleRefIdeal.Value.run (F := Ideal) m' g')
  obtain ⟨h0, ha⟩ := h c
  obtain ⟨e0, e1, e2, e3, e4, e5⟩ := he c
  refine ⟨h0.trans ?_, ha⟩
  refine Eq.trans ?_ (Cert.PleIdeal.Val.final6 m c).symm
  funext i
  obtain ⟨r, d, rfl⟩ : ∃ (a : Fin 16384) (b : Fin 2048), i = ix2 a b := ⟨i 0, i 1, by funext a; fin_cases a <;> rfl⟩
  rw [Cert.PleRefIdeal.Val.ref_apply, e0, e1, e2, e3, e4, e5]
  rfl

end Cert.Proof
-- ==== Proof.OprojRef.lean ====
module

public import proofs.«01_k».proof.Proof.Gen.OprojRefIdeal.Run
public import proofs.«01_k».proof.Proof.MlpRef
public import Idealize.ShloMosaic.Lib.Pointwise

@[expose] public section

set_option maxRecDepth 16384
set_option maxHeartbeats 1000000

noncomputable section

namespace Cert.Rows

open Idealize.ShloMosaic

/-- The two attention outputs' product with the halves of the projection's weight. -/
def mix (a b : Fin 1024 → EReal) (w : Vec Ideal (⟨3, ![1, 2048, 2048]⟩ : Shape) .f32) (d : Fin 2048) : EReal :=
  (∑ x : Fin 1024, a x * w (ix3 0 ⟨x.val, by omega⟩ d)) + ∑ x : Fin 1024, b x * w (ix3 0 ⟨1024 + x.val, by omega⟩ d)

/-- The output projection at one element. -/
def oprojAt (a b : Vec Ideal (⟨2, ![16384, 1024]⟩ : Shape) .f32) (w : Vec Ideal (⟨3, ![1, 2048, 2048]⟩ : Shape) .f32) (x : Vec Ideal (⟨2, ![16384, 2048]⟩ : Shape) .f32)
    (g : Vec Ideal (⟨2, ![1, 2048]⟩ : Shape) .f32) (r : Fin 16384) (d : Fin 2048) : EReal :=
  x (ix2 r d) + rmsRow (mix (fun k => a (ix2 r k)) (fun k => b (ix2 r k)) w) (fun k => g (ix2 0 k)) d

end Cert.Rows

namespace Cert.OprojRefIdeal.Val

open Cert.OprojRefIdeal Cert.OprojRefIdeal.Gen Cert.Rows
open Idealize.ShloMosaic Idealize.ShloMosaic.TcCoe Idealize.SL.Sem

/-- The reference's normalisation. -/
def refRms (x : FVec Ideal S16384x2048 .f32) (g : FVec Ideal S1x2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ g shapeCasts_S1x2048_S2048)))

/-- The reference's product of the joined attention outputs. -/
def refMix (a b : FVec Ideal S16384x1024 .f32) (w : FVec Ideal S1x2048x2048 .f32) : FVec Ideal S16384x2048 .f32 :=
  Host.dotGeneral dot_S16384x2048_S2048x2048_S16384x2048_1_0_0_1_n_n none (concatenate S16384x2048 1 [⟨S16384x1024, a⟩, ⟨S16384x1024, b⟩] concatenates_S16384x1024_S16384x1024_S16384x2048_d1) (shapeCast _ w shapeCasts_S1x2048x2048_S2048x2048)

/-- The reference's result. -/
def refOut (a b : FVec Ideal S16384x1024 .f32) (w : FVec Ideal S1x2048x2048 .f32) (x : FVec Ideal S16384x2048 .f32) (g : FVec Ideal S1x2048 .f32) : FVec Ideal S16384x2048 .f32 :=
  addf x (refRms (refMix a b w) g)

/-- The normalisation at an element. -/
theorem refRms_apply (x : FVec Ideal S16384x2048 .f32) (g : FVec Ideal S1x2048 .f32) (r : Fin 16384) (k : Fin 2048) :
    refRms x g (ix2 r k) = rmsRow (fun k => x (ix2 r k)) (fun k => g (ix2 0 k)) k := by
  unfold refRms
  pointwise
  rfl

/-- The joined outputs' product at an element: each output against its half of the weight. -/
theorem refMix_apply (a b : FVec Ideal S16384x1024 .f32) (w : FVec Ideal S1x2048x2048 .f32) (r : Fin 16384) (d : Fin 2048) :
    refMix a b w (ix2 r d) = mix (fun k => a (ix2 r k)) (fun k => b (ix2 r k)) w d := by
  unfold refMix
  pointwise
  rfl

/-- A sum at an element. -/
theorem add_at (x y : FVec Ideal S16384x2048 .f32) (i : S16384x2048.Idx) : addf x y i = (x i + y i : EReal) := rfl

/-- The reference's result at an element. -/
theorem refOut_apply (a b : FVec Ideal S16384x1024 .f32) (w : FVec Ideal S1x2048x2048 .f32) (x : FVec Ideal S16384x2048 .f32) (g : FVec Ideal S1x2048 .f32) (r : Fin 16384) (d : Fin 2048) :
    refOut a b w x g (ix2 r d) = oprojAt a b w x g r d := by
  unfold refOut
  rw [add_at, refRms_apply]
  simp only [refMix_apply]
  rfl

/-- The reference run ends with that result. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run (F := Ideal) m ρ

end Cert.OprojRefIdeal.Val
-- ==== Proof.OprojVal.lean ====
module

public import proofs.«01_k».proof.Proof.Gen.OprojIdeal.Value
public import proofs.«01_k».proof.Proof.OprojRef
public import Idealize.ShloMosaic.Lib.Pointwise
public import Idealize.ShloMosaic.Lib.Pipeline.ValueKit
public import Idealize.ShloMosaic.Lib.Pipeline.ReadBack

@[expose] public section

set_option maxRecDepth 16384
set_option maxHeartbeats 1000000

noncomputable section

namespace Cert.OprojIdeal.Val

open Cert.OprojIdeal Cert.OprojIdeal.Gen Cert.Rows
open Idealize.ShloMosaic Idealize.ShloMosaic.TcCoe Idealize.SL.Sem

/-- The two products over a point's blocks. -/
def mixBlk (a : Fin 1024 → EReal) (u : Vec Ideal S1024x2048 .bf16) (b : Fin 1024 → EReal) (w : Vec Ideal S1024x2048 .bf16) (d : Fin 2048) : EReal :=
  (∑ x : Fin 1024, a x * u (ix2 x d)) + ∑ x : Fin 1024, b x * w (ix2 x d)

/-- The first 256 rows' payload at an element. -/
theorem pay2_apply (a : Vec Ideal S256x1024 .bf16) (u : Vec Ideal S1024x2048 .bf16) (b : Vec Ideal S256x1024 .bf16) (w : Vec Ideal S1024x2048 .bf16) (x : Vec Ideal S256x2048 .f32) (g : Vec Ideal S1x2048 .f32) (r : Fin 256) (d : Fin 2048) :
    k0_pay2 a u b w x g (ix2 r d) = (x (ix2 r d) : EReal) + rmsRow (mixBlk (fun k => a (ix2 r k)) u (fun k => b (ix2 r k)) w) (fun k => g (ix2 0 k)) d := by
  unfold k0_pay2
  pointwise
  rfl

/-- The last 256 rows' payload is the same. -/
theorem pay1_apply (a : Vec Ideal S256x1024 .bf16) (u : Vec Ideal S1024x2048 .bf16) (b : Vec Ideal S256x1024 .bf16) (w : Vec Ideal S1024x2048 .bf16) (x : Vec Ideal S256x2048 .f32) (g : Vec Ideal S1x2048 .f32) (r : Fin 256) (d : Fin 2048) :
    k0_pay1 (k0_pay3 a u) b w x g (ix2 r d) = (x (ix2 r d) : EReal) + rmsRow (mixBlk (fun k => a (ix2 r k)) u (fun k => b (ix2 r k)) w) (fun k => g (ix2 0 k)) d := by
  unfold k0_pay1 k0_pay3
  pointwise
  rfl

theorem j0_eq : ∀ t : Fin cfg0.N, win0_0.index t = ![t.val, 0] := by decide +kernel
theorem j1_eq : ∀ t : Fin cfg0.N, win0_1.index t = ![t.val, 0] := by decide +kernel
theorem j2_eq : ∀ t : Fin cfg0.N, win0_2.index t = ![0, 0] := by decide +kernel
theorem j3_eq : ∀ t : Fin cfg0.N, win0_3.index t = ![t.val, 0] := by decide +kernel
theorem j4_eq : ∀ t : Fin cfg0.N, win0_4.index t = ![0, 0] := by decide +kernel
theorem j5_eq : ∀ t : Fin cfg0.N, win0_5.index t = ![t.val, 0] := by decide +kernel

variable (m : (ℓ : Loc nD τ sig) → Buf (Elt Ideal) ℓ) (c : Dev nD)

/-- An attention output as the call reads it: cast. -/
def hostA (u : FVec Ideal S16384x1024 .f32) : FVec Ideal S16384x1024 .bf16 := truncf .bf16 u bitsLt_bf16_f32
/-- The weight as the call reads it: cast, without its leading axis. -/
def hostW (w : FVec Ideal S1x2048x2048 .f32) : FVec Ideal S2048x2048 .bf16 := truncf .bf16 (shapeCast S2048x2048 w shapeCasts_S1x2048x2048_S2048x2048) bitsLt_bf16_f32
/-- The call's first attention output is that, -/
theorem V_a : V m c main_v0 = hostA (m ((c.tc : Thread nD τ).loc main_arg0)) := by
  unfold hostA
  show StableHlo.after hostOps0 (fun b => m (c, b)) _ = _
  after_results <;> rfl
/-- so is its second, -/
theorem V_b : V m c main_v1 = hostA (m ((c.tc : Thread nD τ).loc main_arg1)) := by
  unfold hostA
  show StableHlo.after hostOps0 (fun b => m (c, b)) _ = _
  after_results <;> rfl
/-- and its weight. -/
theorem V_w : V m c main_v3 = hostW (m ((c.tc : Thread nD τ).loc main_arg2)) := by
  unfold hostW
  show StableHlo.after hostOps0 (fun b => m (c, b)) _ = _
  after_results <;> rfl
/-- An attention output at an element. -/
theorem hostA_apply (u : FVec Ideal S16384x1024 .f32) (i : S16384x1024.Idx) : hostA u i = u i := rfl
/-- The weight at an element. -/
theorem hostW_apply (w : FVec Ideal S1x2048x2048 .f32) (l : Fin 2048) (d : Fin 2048) : hostW w (ix2 l d) = w (ix3 0 l d) := by
  unfold hostW
  pointwise

/-- The row a point's block's row is. -/
def row (t : Fin cfg0.N) (y : Fin 512) : Fin 16384 := ⟨t.val * 512 + y.val, by have h : t.val < 32 := t.isLt; omega⟩

/-- A block of the first attention output at an element. -/
theorem b0_apply (t : Fin cfg0.N) (y : Fin 512) (k : Fin 1024) : (iblk m c 0 t : Vec Ideal S512x1024 .bf16) (ix2 y k) = (m ((c.tc : Thread nD τ).loc main_arg0) : Vec Ideal S16384x1024 .f32) (ix2 (row t y) k) := by
  refine Eq.trans ?_ ((congrFun (V_a m c) _).trans (hostA_apply _ _))
  blk_simp [iblk]
  refine congrArg (V m c main_v0) ?_
  unfold row
  blk_ext [j0_eq]
/-- A block of the second attention output at an element. -/
theorem b1_apply (t : Fin cfg0.N) (y : Fin 512) (k : Fin 1024) : (iblk m c 1 t : Vec Ideal S512x1024 .bf16) (ix2 y k) = (m ((c.tc : Thread nD τ).loc main_arg1) : Vec Ideal S16384x1024 .f32) (ix2 (row t y) k) := by
  refine Eq.trans ?_ ((congrFun (V_b m c) _).trans (hostA_apply _ _))
  blk_simp [iblk]
  refine congrArg (V m c main_v1) ?_
  unfold row
  blk_ext [j1_eq]
/-- The weight's block at an element. -/
theorem b2_apply (t : Fin cfg0.N) (k : Fin 2048) (e : Fin 2048) : (iblk m c 2 t : Vec Ideal S2048x2048 .bf16) (ix2 k e)
    = (m ((c.tc : Thread nD τ).loc main_arg2) : Vec Ideal S1x2048x2048 .f32) (ix3 0 k e) := by
  refine Eq.trans ?_ ((congrFun (V_w m c) _).trans (hostW_apply _ _ _))
  blk_simp [iblk]
  refine congrArg (V m c main_v3) ?_
  blk_ext [j2_eq]
/-- A block of the layer's input at an element. -/
theorem b3_apply (t : Fin cfg0.N) (y : Fin 512) (k : Fin 2048) : (iblk m c 3 t : Vec Ideal S512x2048 .f32) (ix2 y k) = (m ((c.tc : Thread nD τ).loc main_arg3) : Vec Ideal S16384x2048 .f32) (ix2 (row t y) k) := by
  blk_simp [iblk]
  refine (congrFun (V_main_arg3 m c) _).trans (congrArg (m ((c.tc : Thread nD τ).loc main_arg3)) ?_)
  unfold row
  blk_ext [j3_eq]
/-- The gain's block. -/
theorem b4_apply (t : Fin cfg0.N) (k : Fin 2048) : (iblk m c 4 t : Vec Ideal S1x2048 .f32) (ix2 0 k) = (m ((c.tc : Thread nD τ).loc main_arg4) : Vec Ideal S1x2048 .f32) (ix2 0 k) := by
  blk_simp [iblk]
  refine (congrFun (V_main_arg4 m c) _).trans (congrArg (m ((c.tc : Thread nD τ).loc main_arg4)) ?_)
  blk_ext [j4_eq]

/-- What a point writes at an element of its block. -/
def outAt (t : Fin cfg0.N) (y : S512x2048.Idx) : EReal :=
  oprojAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (row t (y 0)) (y 1)

/-- An element of the first 256 rows of a block of the layer's input, or of the output, -/
theorem emb_lo (a : Fin 256) (k : Fin 2048) : r0_3.emb (ix2 a k) = ix2 (⟨a.val, by omega⟩ : Fin 512) k := by
  funext x
  fin_cases x
  · exact Fin.ext (by blk_simp; rfl)
  · exact Fin.ext (by blk_simp; rfl)
/-- and of its last 256; -/
theorem emb_hi (a : Fin 256) (k : Fin 2048) : r0_6.emb (ix2 a k) = ix2 (⟨256 + a.val, by omega⟩ : Fin 512) k := by
  funext x
  fin_cases x
  · exact Fin.ext (by blk_simp; rfl)
  · exact Fin.ext (by blk_simp; rfl)
/-- of the first 256 rows of a block of an attention output, -/
theorem emba_lo (a : Fin 256) (k : Fin 1024) : r0_0.emb (ix2 a k) = ix2 (⟨a.val, by omega⟩ : Fin 512) k := by
  funext x
  fin_cases x
  · exact Fin.ext (by blk_simp; rfl)
  · exact Fin.ext (by blk_simp; rfl)
/-- and of its last 256; -/
theorem emba_hi (a : Fin 256) (k : Fin 1024) : r0_5.emb (ix2 a k) = ix2 (⟨256 + a.val, by omega⟩ : Fin 512) k := by
  funext x
  fin_cases x
  · exact Fin.ext (by blk_simp; rfl)
  · exact Fin.ext (by blk_simp; rfl)
/-- of the first 1024 rows of the weight, -/
theorem embw_lo (a : Fin 1024) (k : Fin 2048) : r0_1.emb (ix2 a k) = ix2 (⟨a.val, by omega⟩ : Fin 2048) k := by
  funext x
  fin_cases x
  · exact Fin.ext (by blk_simp; rfl)
  · exact Fin.ext (by blk_simp; rfl)
/-- and of its last 1024. -/
theorem embw_hi (a : Fin 1024) (k : Fin 2048) : r0_2.emb (ix2 a k) = ix2 (⟨1024 + a.val, by omega⟩ : Fin 2048) k := by
  funext x
  fin_cases x
  · exact Fin.ext (by blk_simp; rfl)
  · exact Fin.ext (by blk_simp; rfl)

/-- The two products over the arrays. -/
theorem mixBlk_eq (t : Fin cfg0.N) (a b : Fin 1024 → EReal) (u w : Vec Ideal S1024x2048 .bf16)
    (hu : ∀ (k : Fin 1024) (d : Fin 2048), u (ix2 k d) = (iblk m c 2 t : Vec Ideal S2048x2048 .bf16) (ix2 ⟨k.val, by omega⟩ d))
    (hw : ∀ (k : Fin 1024) (d : Fin 2048), w (ix2 k d) = (iblk m c 2 t : Vec Ideal S2048x2048 .bf16) (ix2 ⟨1024 + k.val, by omega⟩ d)) :
    mixBlk a u b w = mix a b (m ((c.tc : Thread nD τ).loc main_arg2)) := by
  funext d
  unfold mixBlk mix
  simp only [hu, hw, b2_apply]

/-- The payload's element over the arrays, when the rows it reads are the block's row `y`. -/
theorem rows_eq (t : Fin cfg0.N) (y : Fin 512) (p q : Vec Ideal S256x1024 .bf16) (u w : Vec Ideal S1024x2048 .bf16) (x : Vec Ideal S256x2048 .f32) (a : Fin 256) (d : Fin 2048)
    (hp : ∀ k, p (ix2 a k) = (iblk m c 0 t : Vec Ideal S512x1024 .bf16) (ix2 y k)) (hq : ∀ k, q (ix2 a k) = (iblk m c 1 t : Vec Ideal S512x1024 .bf16) (ix2 y k))
    (hu : ∀ (k : Fin 1024) (d : Fin 2048), u (ix2 k d) = (iblk m c 2 t : Vec Ideal S2048x2048 .bf16) (ix2 ⟨k.val, by omega⟩ d))
    (hw : ∀ (k : Fin 1024) (d : Fin 2048), w (ix2 k d) = (iblk m c 2 t : Vec Ideal S2048x2048 .bf16) (ix2 ⟨1024 + k.val, by omega⟩ d))
    (hx : ∀ k, x (ix2 a k) = (iblk m c 3 t : Vec Ideal S512x2048 .f32) (ix2 y k)) :
    (x (ix2 a d) : EReal) + rmsRow (mixBlk (fun k => p (ix2 a k)) u (fun k => q (ix2 a k)) w) (fun k => (iblk m c 4 t : Vec Ideal S1x2048 .f32) (ix2 0 k)) d
      = outAt m c t (ix2 y d) := by
  unfold outAt oprojAt
  rw [mixBlk_eq m c t _ _ u w hu hw]
  simp only [hp, hq, hx, b0_apply, b1_apply, b3_apply, b4_apply]
  rfl

/-- A point's block of the output, at an element. -/
theorem after5_apply (t : Fin cfg0.N) (y : S512x2048.Idx) : ((dats m 0 c).after 5 t : Vec Ideal S512x2048 .f32) y = outAt m c t y := by
  rw [after0_5]
  frame_out
  refine View.canon_apply_of_pieces (Val := Elt Ideal) (e := .f32) (outAt m c t) _ ?_ y ?_
  · intro p hp
    rcases List.mem_cons.mp hp with rfl | hp
    · intro x
      obtain ⟨a, b, rfl⟩ : ∃ (a : Fin 256) (b : Fin 2048), x = ix2 a b := ⟨x 0, x 1, by funext a; fin_cases a <;> rfl⟩
      rw [emb_hi]
      exact (pay1_apply _ _ _ _ _ _ a b).trans (rows_eq m c t ⟨256 + a.val, by omega⟩ _ _ _ _ _ a b
        (fun k => congrArg (iblk m c 0 t : Vec Ideal S512x1024 .bf16) (emba_hi a k)) (fun k => congrArg (iblk m c 1 t : Vec Ideal S512x1024 .bf16) (emba_hi a k))
        (fun k d => congrArg (iblk m c 2 t : Vec Ideal S2048x2048 .bf16) (embw_lo k d)) (fun k d => congrArg (iblk m c 2 t : Vec Ideal S2048x2048 .bf16) (embw_hi k d))
        fun k => congrArg (iblk m c 3 t : Vec Ideal S512x2048 .f32) (emb_hi a k))
    · obtain rfl := List.mem_singleton.mp hp
      intro x
      obtain ⟨a, b, rfl⟩ : ∃ (a : Fin 256) (b : Fin 2048), x = ix2 a b := ⟨x 0, x 1, by funext a; fin_cases a <;> rfl⟩
      rw [emb_lo]
      exact (pay2_apply _ _ _ _ _ _ a b).trans (rows_eq m c t ⟨a.val, by omega⟩ _ _ _ _ _ a b
        (fun k => congrArg (iblk m c 0 t : Vec Ideal S512x1024 .bf16) (emba_lo a k)) (fun k => congrArg (iblk m c 1 t : Vec Ideal S512x1024 .bf16) (emba_lo a k))
        (fun k d => congrArg (iblk m c 2 t : Vec Ideal S2048x2048 .bf16) (embw_lo k d)) (fun k d => congrArg (iblk m c 2 t : Vec Ideal S2048x2048 .bf16) (embw_hi k d))
        fun k => congrArg (iblk m c 3 t : Vec Ideal S512x2048 .f32) (emb_lo a k))
  · have h1 : (y 1).val < 2048 := (y 1).isLt
    have h0 : (y 0).val < 512 := (y 0).isLt
    by_cases h : (y 0).val < 256
    · refine ⟨_, List.mem_cons_of_mem _ (List.mem_singleton.mpr rfl), (Rect.mem_set_unit (inb := inb_S512x2048_S256x2048_0_0)).mpr fun a => ?_⟩
      fin_cases a
      · exact ⟨Nat.zero_le _, by show (y 0).val < 0 + 256; omega⟩
      · exact ⟨Nat.zero_le _, by show (y 1).val < 0 + 2048; omega⟩
    · refine ⟨_, List.mem_cons_self, (Rect.mem_set_unit (inb := inb_S512x2048_S256x2048_256_0)).mpr fun a => ?_⟩
      fin_cases a
      · exact ⟨by show 256 ≤ (y 0).val; omega, by show (y 0).val < 256 + 256; omega⟩
      · exact ⟨Nat.zero_le _, by show (y 1).val < 0 + 2048; omega⟩

/-- The output array at an element. -/
theorem final5 : (dats m 0 c).arrAt 5 cfg0.N = fun i => oprojAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) := by
  refine (dats m 0 c).arrAt_eq_of_covers 5 _ (by decide +kernel) fun t hf y => ?_
  refine Eq.trans ?_ ((after5_apply m c t y).trans ?_)
  · blk_simp
  obtain ⟨y0, y1, rfl⟩ : ∃ (a : Fin 512) (b : Fin 2048), y = ix2 a b := ⟨y 0, y 1, by funext a; fin_cases a <;> rfl⟩
  have e0 : ((win0_5.blk t).view.emb (ix2 y0 y1)) 0 = row t y0 := Fin.ext (by blk_simp [j5_eq]; rfl)
  have e1 : ((win0_5.blk t).view.emb (ix2 y0 y1)) 1 = y1 := Fin.ext (by blk_simp [j5_eq])
  unfold outAt
  blk_simp
  rw [e0, e1]
  rfl

end Cert.OprojIdeal.Val
-- ==== Proof.OprojClaim.lean ====
module

public import proofs.«01_k».proof.Defs
public import proofs.«01_k».proof.Proof.OprojVal

@[expose] public section

set_option maxRecDepth 16384
set_option maxHeartbeats 1000000

noncomputable section

namespace Cert.Proof

open Idealize.ShloMosaic Idealize.ShloMosaic.TcCoe Idealize.SL.Sem
open Cert.OprojIdeal Cert.OprojIdeal.Gen in
/-- The output projection and its reference end with the same result. -/
theorem algebraic_Oproj : letI := Cert.OprojIdeal.Gen.facts; letI := Cert.OprojRefIdeal.Gen.facts; Cert.algebraic_OprojIdeal_OprojRefIdeal := by
  letI := Cert.OprojIdeal.Gen.facts
  letI := Cert.OprojRefIdeal.Gen.facts
  intro m g m' g' _ he
  refine ⟨fun c => (dats m 0 c).arrAt 5 cfg0.N, Cert.OprojIdeal.Value.run_blocks (F := Ideal) m g, ?_⟩
  refine (θ_run _ _ _).mono (fun _ h c => ?_) (Cert.OprojRefIdeal.Val.run_out m' g')
  obtain ⟨h0, ha⟩ := h c
  obtain ⟨e0, e1, e2, e3, e4⟩ := he c
  refine ⟨h0.trans ?_, ha⟩
  refine Eq.trans ?_ (Cert.OprojIdeal.Val.final5 m c).symm
  funext i
  obtain ⟨r, d, rfl⟩ : ∃ (a : Fin 16384) (b : Fin 2048), i = ix2 a b := ⟨i 0, i 1, by funext a; fin_cases a <;> rfl⟩
  rw [Cert.OprojRefIdeal.Val.refOut_apply, e0, e1, e2, e3, e4]
  rfl

end Cert.Proof
-- ==== Proof.InBRef.lean ====
module

public import proofs.«01_k».proof.Proof.Gen.InBRefIdeal.Run
public import proofs.«01_k».proof.Proof.AttnHost
public import Idealize.ShloMosaic.Lib.Pointwise

@[expose] public section

set_option maxRecDepth 16384
set_option maxHeartbeats 1000000

noncomputable section

namespace Cert.Rows

open Idealize.ShloMosaic

/-- The queries' factor. -/
def qscale : EReal := ((1 / (Real.sqrt 128 * Real.log 2) : ℝ) : EReal)

/-- A row's product with a column of the weight, columns counted from 1536. -/
def colAt (x : Vec Ideal (⟨2, ![16384, 2048]⟩ : Shape) .f32) (w : Vec Ideal (⟨3, ![1, 2048, 4608]⟩ : Shape) .f32) (r : Fin 16384) (d : Fin 3072) : EReal :=
  ∑ k : Fin 2048, x (ix2 r k) * w (ix3 0 k ⟨1536 + d.val, by omega⟩)

/-- One element of the projection to the windowed attention's queries, keys and values: the first 1024 columns are scaled. -/
def inbAt (x : Vec Ideal (⟨2, ![16384, 2048]⟩ : Shape) .f32) (w : Vec Ideal (⟨3, ![1, 2048, 4608]⟩ : Shape) .f32) (r : Fin 16384) (d : Fin 3072) : EReal :=
  if d.val < 1024 then colAt x w r d * qscale else colAt x w r d

end Cert.Rows

namespace Cert.InBRefIdeal.Val

open Cert.InBRefIdeal Cert.InBRefIdeal.Gen Cert.Rows
open Idealize.ShloMosaic Idealize.ShloMosaic.TcCoe Idealize.SL.Sem

/-- The reference's projection, all columns. -/
def refProj (x : FVec Ideal S16384x2048 .f32) (w : FVec Ideal S1x2048x4608 .f32) : FVec Ideal S16384x4608 .f32 :=
  Host.dotGeneral dot_S16384x2048_S2048x4608_S16384x4608_1_0_0_1_n_n none x (shapeCast _ w shapeCasts_S1x2048x4608_S2048x4608)

/-- The reference's result. -/
def refOut (x : FVec Ideal S16384x2048 .f32) (w : FVec Ideal S1x2048x4608 .f32) : FVec Ideal S16384x3072 .bf16 :=
  truncf .bf16 (concatenate S16384x3072 1 [⟨S16384x1024, (mulf (extractStridedSlice S16384x1024 ![0, 1536] (refProj x w) slices_S16384x4608_S16384x1024_0_1536) (broadcastInDim S16384x1024 ![] bcast_S_S16384x1024 (Host.divf (constant S_ .f32 0x3F800000#32) (mulf (Host.sqrt (constant S_ .f32 0x43000000#32)) (Host.log (constant S_ .f32 0x40000000#32))))))⟩, ⟨S16384x2048, (extractStridedSlice S16384x2048 ![0, 2560] (refProj x w) slices_S16384x4608_S16384x2048_0_2560)⟩] concatenates_S16384x1024_S16384x2048_S16384x3072_d1) bitsLt_bf16_f32

/-- The projection at an element. -/
theorem refProj_apply (x : FVec Ideal S16384x2048 .f32) (w : FVec Ideal S1x2048x4608 .f32) (r : Fin 16384) (d : Fin 4608) :
    refProj x w (ix2 r d) = ∑ k : Fin 2048, (x (ix2 r k) : EReal) * w (ix3 0 k d) := by
  unfold refProj
  pointwise

/-- A scaled column, -/
theorem refOut_lo (x : FVec Ideal S16384x2048 .f32) (w : FVec Ideal S1x2048x4608 .f32) (r : Fin 16384) (d : Fin 1024) :
    refOut x w (ix2 r (⟨d.val, by omega⟩ : Fin 3072)) = (∑ k : Fin 2048, (x (ix2 r k) : EReal) * w (ix3 0 k ⟨1536 + d.val, by omega⟩)) * qscale := by
  unfold refOut
  generalize hP : refProj x w = P
  pointwise
  rw [← hP, refProj_apply]
  exact congrArg _ Cert.KernelIdeal.Attn.scale2

/-- and a plain one. -/
theorem refOut_hi (x : FVec Ideal S16384x2048 .f32) (w : FVec Ideal S1x2048x4608 .f32) (r : Fin 16384) (d : Fin 2048) :
    refOut x w (ix2 r (⟨1024 + d.val, by omega⟩ : Fin 3072)) = ∑ k : Fin 2048, (x (ix2 r k) : EReal) * w (ix3 0 k ⟨2560 + d.val, by omega⟩) := by
  unfold refOut
  generalize hP : refProj x w = P
  pointwise
  rw [← hP, refProj_apply]

/-- The reference's result at an element. -/
theorem refOut_apply (x : FVec Ideal S16384x2048 .f32) (w : FVec Ideal S1x2048x4608 .f32) (r : Fin 16384) (d : Fin 3072) :
    refOut x w (ix2 r d) = inbAt x w r d := by
  unfold inbAt
  split_ifs with h
  · exact refOut_lo x w r ⟨d.val, h⟩
  · have hd : d = ⟨1024 + (⟨d.val - 1024, by omega⟩ : Fin 2048).val, by omega⟩ := Fin.ext (by show d.val = 1024 + (d.val - 1024); omega)
    refine ((congrArg (fun e => refOut x w (ix2 r e)) hd).trans (refOut_hi x w r ⟨d.val - 1024, by omega⟩)).trans (Finset.sum_congr rfl fun k _ => ?_)
    refine congrArg _ (congrArg w (congrArg (ix3 0 k) (Fin.ext ?_)))
    show 2560 + (d.val - 1024) = 1536 + d.val
    omega

/-- The reference run ends with that result. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := Value.run (F := Ideal) m ρ

end Cert.InBRefIdeal.Val
-- ==== Proof.InBVal.lean ====
module

public import proofs.«01_k».proof.Proof.Gen.InBIdeal.Value
public import proofs.«01_k».proof.Proof.InBRef
public import Idealize.ShloMosaic.Lib.Pointwise
public import Idealize.ShloMosaic.Lib.Pipeline.ValueKit
public import Idealize.ShloMosaic.Lib.Pipeline.ReadBack

@[expose] public section

set_option maxRecDepth 16384
set_option maxHeartbeats 1000000

noncomputable section

namespace Cert.InBIdeal.Val

open Cert.InBIdeal Cert.InBIdeal.Gen Cert.Rows
open Idealize.ShloMosaic Idealize.ShloMosaic.TcCoe Idealize.SL.Sem

/-- One column over a point's blocks. -/
def col (x : Fin 2048 → EReal) (w : Vec Ideal S2048x1536 .bf16) (d : Fin 1536) : EReal := ∑ k : Fin 2048, x k * w (ix2 k d)

/-- The named factor is the queries' factor. -/
theorem named_eq : (Named.named (F := Ideal) κ "qscale" (φ := .f32) 0x3E0293EE#32 : EReal) = qscale := by
  show (((Real.sqrt 128)⁻¹ * (Real.log 2)⁻¹ : ℝ) : EReal) = qscale
  unfold qscale
  rw [← mul_inv, one_div]

/-- The scaled columns' payload at an element, -/
theorem pay2_apply (x : Vec Ideal S1024x2048 .bf16) (w : Vec Ideal S2048x1536 .bf16) (r : Fin 1024) (d : Fin 1024) :
    k0_pay2 x w (ix2 r d) = col (fun k => x (ix2 r k)) w ⟨d.val, by omega⟩ * qscale := by
  unfold k0_pay2 k0_pay1
  pointwise
  exact congrArg _ named_eq
/-- the plain columns' beside them, -/
theorem pay3_apply (x : Vec Ideal S1024x2048 .bf16) (w : Vec Ideal S2048x1536 .bf16) (r : Fin 1024) (d : Fin 512) :
    k0_pay3 x w (ix2 r d) = col (fun k => x (ix2 r k)) w ⟨1024 + d.val, by omega⟩ := by
  unfold k0_pay3 k0_pay1
  pointwise
  rfl
/-- and the other block's. -/
theorem pay4_apply (x : Vec Ideal S1024x2048 .bf16) (w : Vec Ideal S2048x1536 .bf16) (r : Fin 1024) (d : Fin 1536) :
    k0_pay4 x w (ix2 r d) = col (fun k => x (ix2 r k)) w d := by
  unfold k0_pay4
  pointwise
  rfl

theorem j0_eq : ∀ t : Fin cfg0.N, win0_0.index t = ![t.val / 2, 0] := by decide +kernel
theorem j1_eq : ∀ t : Fin cfg0.N, win0_1.index t = ![0, t.val % 2 + 1] := by decide +kernel
theorem j2_eq : ∀ t : Fin cfg0.N, win0_2.index t = ![t.val / 2, t.val % 2] := by decide +kernel

variable (m : (ℓ : Loc nD τ sig) → Buf (Elt Ideal) ℓ) (c : Dev nD)

/-- The normalised input as the call reads it: cast. -/
def hostX (u : FVec Ideal S16384x2048 .f32) : FVec Ideal S16384x2048 .bf16 := truncf .bf16 u bitsLt_bf16_f32
/-- The weight as the call reads it: cast, without its leading axis. -/
def hostW (w : FVec Ideal S1x2048x4608 .f32) : FVec Ideal S2048x4608 .bf16 := truncf .bf16 (shapeCast S2048x4608 w shapeCasts_S1x2048x4608_S2048x4608) bitsLt_bf16_f32
/-- The call's input is that, -/
theorem V_x : V m c main_v0 = hostX (m ((c.tc : Thread nD τ).loc main_arg0)) := by
  unfold hostX
  show StableHlo.after hostOps0 (fun b => m (c, b)) _ = _
  after_results <;> rfl
/-- and its weight. -/
theorem V_w : V m c main_v2 = hostW (m ((c.tc : Thread nD τ).loc main_arg1)) := by
  unfold hostW
  show StableHlo.after hostOps0 (fun b => m (c, b)) _ = _
  after_results <;> rfl
/-- The input at an element. -/
theorem hostX_apply (u : FVec Ideal S16384x2048 .f32) (i : S16384x2048.Idx) : hostX u i = u i := rfl
/-- The weight at an element. -/
theorem hostW_apply (w : FVec Ideal S1x2048x4608 .f32) (l : Fin 2048) (d : Fin 4608) : hostW w (ix2 l d) = w (ix3 0 l d) := by
  unfold hostW
  pointwise

/-- The row a point's block's row is, -/
def row (t : Fin cfg0.N) (y : Fin 1024) : Fin 16384 := ⟨t.val / 2 * 1024 + y.val, by have h : t.val < 32 := t.isLt; omega⟩
/-- and the output's column its column is. -/
def ocol (t : Fin cfg0.N) (y : Fin 1536) : Fin 3072 := ⟨t.val % 2 * 1536 + y.val, by omega⟩

/-- A block of the input at an element. -/
theorem b0_apply (t : Fin cfg0.N) (y : Fin 1024) (k : Fin 2048) : (iblk m c 0 t : Vec Ideal S1024x2048 .bf16) (ix2 y k) = (m ((c.tc : Thread nD τ).loc main_arg0) : Vec Ideal S16384x2048 .f32) (ix2 (row t y) k) := by
  refine Eq.trans ?_ ((congrFun (V_x m c) _).trans (hostX_apply _ _))
  blk_simp [iblk]
  refine congrArg (V m c main_v0) ?_
  unfold row
  blk_ext [j0_eq]
/-- The weight's block at an element. -/
theorem b1_apply (t : Fin cfg0.N) (k : Fin 2048) (e : Fin 1536) : (iblk m c 1 t : Vec Ideal S2048x1536 .bf16) (ix2 k e)
    = (m ((c.tc : Thread nD τ).loc main_arg1) : Vec Ideal S1x2048x4608 .f32) (ix3 0 k ⟨1536 + (ocol t e).val, by omega⟩) := by
  refine Eq.trans ?_ ((congrFun (V_w m c) _).trans (hostW_apply _ _ _))
  blk_simp [iblk]
  refine congrArg (V m c main_v2) ?_
  unfold ocol
  blk_ext [j1_eq]

/-- What a point writes at an element of its block. -/
def outAt (t : Fin cfg0.N) (y : S1024x1536.Idx) : EReal :=
  inbAt (m ((c.tc : Thread nD τ).loc main_arg0)) (m ((c.tc : Thread nD τ).loc main_arg1)) (row t (y 0)) (ocol t (y 1))

/-- A column over the arrays. -/
theorem col_eq (t : Fin cfg0.N) (a : Fin 1024) (d : Fin 1536) :
    col (fun k => (iblk m c 0 t : Vec Ideal S1024x2048 .bf16) (ix2 a k)) (iblk m c 1 t) d
      = colAt (m ((c.tc : Thread nD τ).loc main_arg0)) (m ((c.tc : Thread nD τ).loc main_arg1)) (row t a) (ocol t d) := by
  unfold colAt
  unfold col
  simp only [b0_apply, b1_apply]

/-- A plain element over the arrays. -/
theorem plain_eq (t : Fin cfg0.N) (a : Fin 1024) (d : Fin 1536) (h : ¬(ocol t d).val < 1024) :
    col (fun k => (iblk m c 0 t : Vec Ideal S1024x2048 .bf16) (ix2 a k)) (iblk m c 1 t) d = outAt m c t (ix2 a d) := by
  rw [col_eq]
  show _ = inbAt _ _ (row t a) (ocol t d)
  unfold inbAt
  rw [if_neg h]

/-- A scaled element over the arrays. -/
theorem scaled_eq (t : Fin cfg0.N) (a : Fin 1024) (d : Fin 1536) (h : (ocol t d).val < 1024) :
    col (fun k => (iblk m c 0 t : Vec Ideal S1024x2048 .bf16) (ix2 a k)) (iblk m c 1 t) d * qscale = outAt m c t (ix2 a d) := by
  rw [col_eq]
  show _ = inbAt _ _ (row t a) (ocol t d)
  unfold inbAt
  rw [if_pos h]

/-- A scaled element's place in its block, -/
theorem emb_lo (a : Fin 1024) (k : Fin 1024) : (Rect.unit (s := S1024x1536) ![0, 0] S1024x1024.size inb_S1024x1536_S1024x1024_0_0).emb (ix2 a k) = ix2 a (⟨k.val, by omega⟩ : Fin 1536) := by
  funext x
  fin_cases x
  · exact Fin.ext (by blk_simp; rfl)
  · exact Fin.ext (by blk_simp; rfl)
/-- and a plain one's. -/
theorem emb_hi (a : Fin 1024) (k : Fin 512) : (Rect.unit (s := S1024x1536) ![0, 1024] S1024x512.size inb_S1024x1536_S1024x512_0_1024).emb (ix2 a k) = ix2 a (⟨1024 + k.val, by omega⟩ : Fin 1536) := by
  funext x
  fin_cases x
  · exact Fin.ext (by blk_simp; rfl)
  · exact Fin.ext (by blk_simp; rfl)

/-- A point's block of the output, at an element: the block of the queries, -/
theorem outA_apply (t : Fin cfg0.N) (h : t.val % 2 = 0) (y : S1024x1536.Idx) : (outsAt0 m c t.val t.isLt : Vec Ideal S1024x1536 .bf16) y = outAt m c t y := by
  rw [outsAt0_A m c t h (by omega)]
  frame_out
  refine View.canon_apply_of_pieces (Val := Elt Ideal) (e := .bf16) (outAt m c t) _ ?_ y ?_
  · intro p hp
    rcases List.mem_cons.mp hp with rfl | hp
    · intro x
      obtain ⟨a, b, rfl⟩ : ∃ (a : Fin 1024) (b : Fin 512), x = ix2 a b := ⟨x 0, x 1, by funext a; fin_cases a <;> rfl⟩
      refine (pay3_apply _ _ a b).trans ((plain_eq m c t a ⟨1024 + b.val, by omega⟩ ?_).trans (congrArg (outAt m c t) (emb_hi a b).symm))
      show ¬t.val % 2 * 1536 + (1024 + b.val) < 1024
      omega
    · obtain rfl := List.mem_singleton.mp hp
      intro x
      obtain ⟨a, b, rfl⟩ : ∃ (a : Fin 1024) (b : Fin 1024), x = ix2 a b := ⟨x 0, x 1, by funext a; fin_cases a <;> rfl⟩
      refine (pay2_apply _ _ a b).trans ((scaled_eq m c t a ⟨b.val, by omega⟩ ?_).trans (congrArg (outAt m c t) (emb_lo a b).symm))
      show t.val % 2 * 1536 + b.val < 1024
      omega
  · have h1 : (y 1).val < 1536 := (y 1).isLt
    have h0 : (y 0).val < 1024 := (y 0).isLt
    by_cases h : (y 1).val < 1024
    · refine ⟨_, List.mem_cons_of_mem _ (List.mem_singleton.mpr rfl), (Rect.mem_set_unit (inb := inb_S1024x1536_S1024x1024_0_0)).mpr fun a => ?_⟩
      fin_cases a
      · exact ⟨Nat.zero_le _, by show (y 0).val < 0 + 1024; omega⟩
      · exact ⟨Nat.zero_le _, by show (y 1).val < 0 + 1024; omega⟩
    · refine ⟨_, List.mem_cons_self, (Rect.mem_set_unit (inb := inb_S1024x1536_S1024x512_0_1024)).mpr fun a => ?_⟩
      fin_cases a
      · exact ⟨Nat.zero_le _, by show (y 0).val < 0 + 1024; omega⟩
      · exact ⟨by show 1024 ≤ (y 1).val; omega, by show (y 1).val < 1024 + 512; omega⟩

/-- and the other. -/
theorem outB_apply (t : Fin cfg0.N) (h : t.val % 2 = 1) (y : S1024x1536.Idx) : (outsAt0 m c t.val t.isLt : Vec Ideal S1024x1536 .bf16) y = outAt m c t y := by
  rw [outsAt0_B m c t (by omega) h]
  frame_out
  obtain ⟨a, b, rfl⟩ : ∃ (a : Fin 1024) (b : Fin 1536), y = ix2 a b := ⟨y 0, y 1, by funext a; fin_cases a <;> rfl⟩
  refine (pay4_apply _ _ a b).trans (plain_eq m c t a b ?_)
  show ¬t.val % 2 * 1536 + b.val < 1024
  omega

/-- The output array at an element. -/
theorem final2 : (dats m 0 c).arrAt 2 cfg0.N = fun i => inbAt (m ((c.tc : Thread nD τ).loc main_arg0)) (m ((c.tc : Thread nD τ).loc main_arg1)) (i 0) (i 1) := by
  refine (dats m 0 c).arrAt_eq_of_covers 2 _ (by decide +kernel) fun t hf y => ?_
  have ho : ((dats m 0 c).after 2 t : Vec Ideal S1024x1536 .bf16) y = outAt m c t y := by
    rw [after0_2]
    rcases Nat.mod_two_eq_zero_or_one t.val with h | h
    · exact outA_apply m c t h y
    · exact outB_apply m c t h y
  refine Eq.trans ?_ (ho.trans ?_)
  · blk_simp
  obtain ⟨y0, y1, rfl⟩ : ∃ (a : Fin 1024) (b : Fin 1536), y = ix2 a b := ⟨y 0, y 1, by funext a; fin_cases a <;> rfl⟩
  have e0 : ((win0_2.blk t).view.emb (ix2 y0 y1)) 0 = row t y0 := Fin.ext (by blk_simp [j2_eq]; rfl)
  have e1 : ((win0_2.blk t).view.emb (ix2 y0 y1)) 1 = ocol t y1 := Fin.ext (by blk_simp [j2_eq]; rfl)
  unfold outAt
  blk_simp
  rw [e0, e1]
  rfl

end Cert.InBIdeal.Val
-- ==== Proof.InBClaim.lean ====
module

public import proofs.«01_k».proof.Defs
public import proofs.«01_k».proof.Proof.InBVal

@[expose] public section

set_option maxRecDepth 16384
set_option maxHeartbeats 1000000

noncomputable section

namespace Cert.Proof

open Idealize.ShloMosaic Idealize.ShloMosaic.TcCoe Idealize.SL.Sem
open Cert.InBIdeal Cert.InBIdeal.Gen in
/-- The projection to the windowed attention's inputs and its reference end with the same result. -/
theorem algebraic_InB : letI := Cert.InBIdeal.Gen.facts; letI := Cert.InBRefIdeal.Gen.facts; Cert.algebraic_InBIdeal_InBRefIdeal := by
  letI := Cert.InBIdeal.Gen.facts
  letI := Cert.InBRefIdeal.Gen.facts
  intro m g m' g' _ he
  refine ⟨fun c => (dats m 0 c).arrAt 2 cfg0.N, Cert.InBIdeal.Value.run_blocks (F := Ideal) m g, ?_⟩
  refine (θ_run _ _ _).mono (fun _ h c => ?_) (Cert.InBRefIdeal.Val.run_out m' g')
  obtain ⟨h0, ha⟩ := h c
  obtain ⟨e0, e1⟩ := he c
  refine ⟨h0.trans ?_, ha⟩
  refine Eq.trans ?_ (Cert.InBIdeal.Val.final2 m c).symm
  funext i
  obtain ⟨r, d, rfl⟩ : ∃ (a : Fin 16384) (b : Fin 3072), i = ix2 a b := ⟨i 0, i 1, by funext a; fin_cases a <;> rfl⟩
  rw [Cert.InBRefIdeal.Val.refOut_apply, e0, e1]
  rfl

/-- The named factor is the one word's number. -/
theorem preserves_InB : Cert.preserves_InB_InBIdeal :=
  IdealRules.named_const.statement Cert.InBIdeal.κ "qscale" .f32 0x3E0293EE#32 (((Real.sqrt 128)⁻¹ * (Real.log 2)⁻¹ : ℝ) : EReal) rfl

end Cert.Proof
-- ==== Proof.InARef.lean ====
module

public import proofs.«01_k».proof.Proof.Gen.InARefIdeal.Run
public import proofs.«01_k».proof.Proof.InBRef
public import proofs.«01_k».proof.Proof.MlpRef
public import Idealize.ShloMosaic.Lib.Pointwise

@[expose] public section

set_option maxRecDepth 16384
set_option maxHeartbeats 1000000

noncomputable section

namespace Cert.Rows

open Idealize.ShloMosaic

/-- One of the 32 rotation frequencies. -/
def freq (n : Fin 32) : EReal :=
  Ideal.pow (Ideal.ofBits FTy.f32 0x461C4000#32) (Ideal.div (-FloatOps.sitofp (F := Ideal) FTy.f32 (BitVec.ofNat 32 n.val)) (Ideal.ofBits FTy.f32 0x42000000#32))

/-- A token's angle from its place on the grid: the first half of a head turns with the grid's row, the second with its column. -/
def ang (t : Fin 16384) (e : Fin 128) : EReal :=
  (((if e.val < 64 then t.val / 64 else t.val % 64 : ℕ) : ℝ) : EReal) * freq ⟨e.val % 32, Nat.mod_lt _ (by decide)⟩

/-- The partner of a feature in its rotation. -/
def mate (e : Fin 128) : Fin 128 := if h : e.val % 64 < 32 then ⟨e.val + 32, by omega⟩ else ⟨e.val - 32, by omega⟩

/-- One feature of a rotated head. -/
def ropeAt (y : Fin 128 → EReal) (t : Fin 16384) (e : Fin 128) : EReal :=
  if e.val % 64 < 32 then y e * Ideal.cos (ang t e) - y (mate e) * Ideal.sin (ang t e) else y e * Ideal.cos (ang t e) + y (mate e) * Ideal.sin (ang t e)

/-- A head over its root mean square, times a gain. -/
def headNorm (y g : Fin 128 → EReal) (e : Fin 128) : EReal :=
  y e * Ideal.rsqrt (Ideal.div (∑ j, y j * y j) (Ideal.ofBits FTy.f32 0x43000000#32) + Ideal.ofBits FTy.f32 0x358637BD#32) * g e

/-- The normalised token rows. -/
def xnAt (x : Vec Ideal (⟨2, ![16384, 2048]⟩ : Shape) .f32) (g : Vec Ideal (⟨2, ![1, 2048]⟩ : Shape) .f32) (t : Fin 16384) (k : Fin 2048) : EReal :=
  rmsRow (fun k => x (ix2 t k)) (fun k => g (ix2 0 k)) k

/-- A normalised row's product with a column of the weight. -/
def projAt (x : Vec Ideal (⟨2, ![16384, 2048]⟩ : Shape) .f32) (g : Vec Ideal (⟨2, ![1, 2048]⟩ : Shape) .f32) (w : Vec Ideal (⟨3, ![1, 2048, 4608]⟩ : Shape) .f32)
    (t : Fin 16384) (d : Fin 4608) : EReal :=
  ∑ k : Fin 2048, xnAt x g t k * w (ix3 0 k d)

/-- Head `h` of a token's projection, -/
def headOf (x : Vec Ideal (⟨2, ![16384, 2048]⟩ : Shape) .f32) (g : Vec Ideal (⟨2, ![1, 2048]⟩ : Shape) .f32) (w : Vec Ideal (⟨3, ![1, 2048, 4608]⟩ : Shape) .f32)
    (t : Fin 16384) (h : Fin 12) (e : Fin 128) : EReal :=
  projAt x g w t ⟨128 * h.val + e.val, by omega⟩

/-- and that head normalised with a gain and rotated. -/
def turned (x : Vec Ideal (⟨2, ![16384, 2048]⟩ : Shape) .f32) (g : Vec Ideal (⟨2, ![1, 2048]⟩ : Shape) .f32) (w : Vec Ideal (⟨3, ![1, 2048, 4608]⟩ : Shape) .f32)
    (gn : Vec Ideal (⟨2, ![1, 128]⟩ : Shape) .f32) (t : Fin 16384) (h : Fin 12) (e : Fin 128) : EReal :=
  ropeAt (headNorm (headOf x g w t h) fun e => gn (ix2 0 e)) t e

/-- One feature of one head for one token: eight scaled query heads, two key heads, two value heads. -/
def inaAt (x : Vec Ideal (⟨2, ![16384, 2048]⟩ : Shape) .f32) (g : Vec Ideal (⟨2, ![1, 2048]⟩ : Shape) .f32) (w : Vec Ideal (⟨3, ![1, 2048, 4608]⟩ : Shape) .f32)
    (gq gk : Vec Ideal (⟨2, ![1, 128]⟩ : Shape) .f32) (h : Fin 12) (e : Fin 128) (t : Fin 16384) : EReal :=
  if h.val < 8 then turned x g w gq t h e * qscale else if h.val < 10 then turned x g w gk t h e else headOf x g w t h e

/-- The first half of a rotation's pairs -/
theorem rope_lo (y : Fin 128 → EReal) (t : Fin 16384) (e a b : Fin 128) (n : Fin 32) (A : EReal) (h : e.val % 64 < 32) (ha : a.val = e.val) (hb : b.val = e.val + 32)
    (hn : n.val = e.val % 32) (hA : A = (((if e.val < 64 then t.val / 64 else t.val % 64 : ℕ) : ℝ) : EReal) * freq n) :
    y a * Ideal.cos A - y b * Ideal.sin A = ropeAt y t e := by
  obtain rfl : a = e := Fin.ext ha
  obtain rfl : b = mate a := Fin.ext (by unfold mate; rw [dif_pos h]; exact hb)
  obtain rfl : n = ⟨a.val % 32, Nat.mod_lt _ (by decide)⟩ := Fin.ext hn
  unfold ropeAt ang
  rw [if_pos h, hA]

/-- and the second. -/
theorem rope_hi (y : Fin 128 → EReal) (t : Fin 16384) (e a b : Fin 128) (n : Fin 32) (A : EReal) (h : ¬ e.val % 64 < 32) (ha : a.val = e.val) (hb : b.val = e.val - 32)
    (hn : n.val = e.val % 32) (hA : A = (((if e.val < 64 then t.val / 64 else t.val % 64 : ℕ) : ℝ) : EReal) * freq n) :
    y a * Ideal.cos A + y b * Ideal.sin A = ropeAt y t e := by
  obtain rfl : a = e := Fin.ext ha
  obtain rfl : b = mate a := Fin.ext (by unfold mate; rw [dif_neg h]; exact hb)
  obtain rfl : n = ⟨a.val % 32, Nat.mod_lt _ (by decide)⟩ := Fin.ext hn
  unfold ropeAt ang
  rw [if_neg h, hA]

end Cert.Rows

namespace Cert.InARefIdeal.Val

open Cert.InARefIdeal Cert.InARefIdeal.Gen Cert.Rows Cert.InARefIdeal.Value
open Idealize.ShloMosaic Idealize.ShloMosaic.TcCoe Idealize.SL.Sem

variable (V : Valuation τ sig (Elt Ideal))

/-- The inputs. -/
abbrev inX : FVec Ideal S16384x2048 .f32 := V (Proc.devRef .tc main_arg0)
@[inherit_doc inX] abbrev inG : FVec Ideal S1x2048 .f32 := V (Proc.devRef .tc main_arg1)
@[inherit_doc inX] abbrev inW : FVec Ideal S1x2048x4608 .f32 := V (Proc.devRef .tc main_arg2)
@[inherit_doc inX] abbrev inQ : FVec Ideal S1x128 .f32 := V (Proc.devRef .tc main_arg3)
@[inherit_doc inX] abbrev inK : FVec Ideal S1x128 .f32 := V (Proc.devRef .tc main_arg4)

/-- The queries and the keys, rotated. -/
def ropeQ : FVec Ideal S16384x8x128 .f32 := concatenate S16384x8x128 2 [⟨S16384x8x64, (concatenate S16384x8x64 2 [⟨S16384x8x32, (subf (mulf (res_main_v58 V) (broadcastInDim S16384x8x32 ![0, 1, 2] bcast_S16384x1x32_S16384x8x32_0_1_2 (res_main_v55 V))) (mulf (res_main_v59 V) (broadcastInDim S16384x8x32 ![0, 1, 2] bcast_S16384x1x32_S16384x8x32_0_1_2 (res_main_v57 V))))⟩, ⟨S16384x8x32, (addf (mulf (res_main_v59 V) (broadcastInDim S16384x8x32 ![0, 1, 2] bcast_S16384x1x32_S16384x8x32_0_1_2 (res_main_v55 V))) (mulf (res_main_v58 V) (broadcastInDim S16384x8x32 ![0, 1, 2] bcast_S16384x1x32_S16384x8x32_0_1_2 (res_main_v57 V))))⟩] concatenates_S16384x8x32_S16384x8x32_S16384x8x64_d2)⟩, ⟨S16384x8x64, (concatenate S16384x8x64 2 [⟨S16384x8x32, (subf (mulf (res_main_v76 V) (broadcastInDim S16384x8x32 ![0, 1, 2] bcast_S16384x1x32_S16384x8x32_0_1_2 (res_main_v73 V))) (mulf (res_main_v77 V) (broadcastInDim S16384x8x32 ![0, 1, 2] bcast_S16384x1x32_S16384x8x32_0_1_2 (res_main_v75 V))))⟩, ⟨S16384x8x32, (addf (mulf (res_main_v77 V) (broadcastInDim S16384x8x32 ![0, 1, 2] bcast_S16384x1x32_S16384x8x32_0_1_2 (res_main_v73 V))) (mulf (res_main_v76 V) (broadcastInDim S16384x8x32 ![0, 1, 2] bcast_S16384x1x32_S16384x8x32_0_1_2 (res_main_v75 V))))⟩] concatenates_S16384x8x32_S16384x8x32_S16384x8x64_d2)⟩] concatenates_S16384x8x64_S16384x8x64_S16384x8x128_d2

@[inherit_doc ropeQ]
def ropeK : FVec Ideal S16384x2x128 .f32 := concatenate S16384x2x128 2 [⟨S16384x2x64, (concatenate S16384x2x64 2 [⟨S16384x2x32, (subf (mulf (res_main_v111 V) (broadcastInDim S16384x2x32 ![0, 1, 2] bcast_S16384x1x32_S16384x2x32_0_1_2 (res_main_v108 V))) (mulf (res_main_v112 V) (broadcastInDim S16384x2x32 ![0, 1, 2] bcast_S16384x1x32_S16384x2x32_0_1_2 (res_main_v110 V))))⟩, ⟨S16384x2x32, (addf (mulf (res_main_v112 V) (broadcastInDim S16384x2x32 ![0, 1, 2] bcast_S16384x1x32_S16384x2x32_0_1_2 (res_main_v108 V))) (mulf (res_main_v111 V) (broadcastInDim S16384x2x32 ![0, 1, 2] bcast_S16384x1x32_S16384x2x32_0_1_2 (res_main_v110 V))))⟩] concatenates_S16384x2x32_S16384x2x32_S16384x2x64_d2)⟩, ⟨S16384x2x64, (concatenate S16384x2x64 2 [⟨S16384x2x32, (subf (mulf (res_main_v129 V) (broadcastInDim S16384x2x32 ![0, 1, 2] bcast_S16384x1x32_S16384x2x32_0_1_2 (res_main_v126 V))) (mulf (res_main_v130 V) (broadcastInDim S16384x2x32 ![0, 1, 2] bcast_S16384x1x32_S16384x2x32_0_1_2 (res_main_v128 V))))⟩, ⟨S16384x2x32, (addf (mulf (res_main_v130 V) (broadcastInDim S16384x2x32 ![0, 1, 2] bcast_S16384x1x32_S16384x2x32_0_1_2 (res_main_v126 V))) (mulf (res_main_v129 V) (broadcastInDim S16384x2x32 ![0, 1, 2] bcast_S16384x1x32_S16384x2x32_0_1_2 (res_main_v128 V))))⟩] concatenates_S16384x2x32_S16384x2x32_S16384x2x64_d2)⟩] concatenates_S16384x2x64_S16384x2x64_S16384x2x128_d2

/-- The reference's result. -/
def refOut : FVec Ideal S1536x16384 .bf16 := transpose S1536x16384 [1, 0] (truncf .bf16 ((concatenate S16384x1536 1 [⟨S16384x1024, ((shapeCast _ (mulf (ropeQ V) (broadcastInDim S16384x8x128 ![] bcast_S_S16384x8x128 (Host.divf (constant S_ .f32 0x3F800000#32) (mulf (Host.sqrt (constant S_ .f32 0x43000000#32)) (Host.log (constant S_ .f32 0x40000000#32)))))) shapeCasts_S16384x8x128_S16384x1024) : (⟨S16384x1024, .f32⟩ : BufTy).Contents (Elt Ideal))⟩, ⟨S16384x256, ((shapeCast _ (ropeK V) shapeCasts_S16384x2x128_S16384x256) : (⟨S16384x256, .f32⟩ : BufTy).Contents (Elt Ideal))⟩, ⟨S16384x256, ((extractStridedSlice S16384x256 ![0, 1280] (res_main_v36 V) slices_S16384x4608_S16384x256_0_1280) : (⟨S16384x256, .f32⟩ : BufTy).Contents (Elt Ideal))⟩] concatenates_S16384x1024_S16384x256_S16384x256_S16384x1536_d1 : (⟨S16384x1536, .f32⟩ : BufTy).Contents (Elt Ideal))) bitsLt_bf16_f32) transposes_S16384x1536_S1536x16384_1_0

/-- The grid row of a token, -/
theorem row_word : ∀ t : Fin 16384, (Scalar.select
          (IntOp.andi
            (IntOp.cmpi CmpIPredicate.ne
              (if BitVec.ofNat 32 t.val = 0 then (0 : BitVec 32) else if (BitVec.ofNat 32 t.val).msb = true then -1 else 1)
              (if (64#32 : BitVec 32) = 0 then (0 : BitVec 32) else if BitVec.msb (64#32 : BitVec 32) = true then -1 else 1))
            (IntOp.cmpi CmpIPredicate.ne (IntOp.remsi ArithUnit.host (BitVec.ofNat 32 t.val) (64#32)) 0#32))
          (IntOp.subi (IntOp.divsi ArithUnit.host (BitVec.ofNat 32 t.val) (64#32)) 1#32)
          (IntOp.divsi ArithUnit.host (BitVec.ofNat 32 t.val) (64#32))).toInt = ((t.val / 64 : ℕ) : ℤ) := by
  decide +kernel

/-- The grid column of a token, -/
theorem col_word : ∀ t : Fin 16384, (Scalar.select
          (IntOp.andi
            (IntOp.cmpi CmpIPredicate.ne
              (IntOp.cmpi CmpIPredicate.slt (IntOp.remsi ArithUnit.host (BitVec.ofNat 32 t.val)
                  (Scalar.select (IntOp.cmpi CmpIPredicate.eq (64#32) 0#32) (1#32) (64#32))) 0#32)
              (IntOp.cmpi CmpIPredicate.slt (Scalar.select (IntOp.cmpi CmpIPredicate.eq (64#32) 0#32) (1#32) (64#32)) 0#32))
            (IntOp.cmpi CmpIPredicate.ne (IntOp.remsi ArithUnit.host (BitVec.ofNat 32 t.val)
                (Scalar.select (IntOp.cmpi CmpIPredicate.eq (64#32) 0#32) (1#32) (64#32))) 0#32))
          (IntOp.addi (IntOp.remsi ArithUnit.host (BitVec.ofNat 32 t.val) (Scalar.select (IntOp.cmpi CmpIPredicate.eq (64#32) 0#32) (1#32) (64#32)))
            (Scalar.select (IntOp.cmpi CmpIPredicate.eq (64#32) 0#32) (1#32) (64#32)))
          (IntOp.remsi ArithUnit.host (BitVec.ofNat 32 t.val) (Scalar.select (IntOp.cmpi CmpIPredicate.eq (64#32) 0#32) (1#32) (64#32)))).toInt = ((t.val % 64 : ℕ) : ℤ) := by
  decide +kernel

/-- The frequencies. -/
theorem freq_apply (n : Fin 32) : res_main_v10 (F := Ideal) V (ix1 n) = freq n := by
  unfold res_main_v10 freq
  pointwise

/-- The row angles. -/
theorem row_apply (t : Fin 16384) (n : Fin 32) : res_main_v15 (F := Ideal) V (ix2 t n) = (((t.val / 64 : ℕ) : ℝ) : EReal) * freq n := by
  unfold res_main_v15
  rw [← freq_apply V n]
  generalize res_main_v10 V = f
  unfold res_main_call0_v2 res_main_call0_v0 res_main_v0
  pointwise
  exact congrArg (· * _) (congrArg (fun z : ℤ => ((z : ℝ) : EReal)) (row_word t))

/-- The column angles. -/
theorem col_apply (t : Fin 16384) (n : Fin 32) : res_main_v20 (F := Ideal) V (ix2 t n) = (((t.val % 64 : ℕ) : ℝ) : EReal) * freq n := by
  unfold res_main_v20
  rw [← freq_apply V n]
  generalize res_main_v10 V = f
  unfold res_main_call1_v4 res_main_call1_v2 res_main_call1_v0 res_main_v0
  pointwise
  exact congrArg (· * _) (congrArg (fun z : ℤ => ((z : ℝ) : EReal)) (col_word t))

/-- The normalised rows. -/
theorem xn_apply (t : Fin 16384) (k : Fin 2048) : res_main_v34 (F := Ideal) V (ix2 t k) = xnAt (inX V) (inG V) t k := by
  unfold res_main_v34 xnAt rmsRow inX inG
  generalize V (Proc.devRef .tc main_arg0) = x
  generalize V (Proc.devRef .tc main_arg1) = g
  pointwise

/-- The projection. -/
theorem proj_apply (t : Fin 16384) (d : Fin 4608) : res_main_v36 (F := Ideal) V (ix2 t d) = projAt (inX V) (inG V) (inW V) t d := by
  unfold projAt
  simp only [← xn_apply]
  unfold res_main_v36 inW
  generalize res_main_v34 V = x
  generalize V (Proc.devRef .tc main_arg2) = g
  pointwise

/-- The query heads, -/
theorem qhead_apply (t : Fin 16384) (h : Fin 8) (e : Fin 128) : res_main_v38 (F := Ideal) V (ix3 t h e) = headOf (inX V) (inG V) (inW V) t ⟨h.val, by omega⟩ e := by
  unfold headOf
  rw [← proj_apply]
  unfold res_main_v38
  generalize res_main_v36 V = x
  pointwise
  exact congrArg x (congrArg (ix2 t) (Fin.ext (by show h.val * 128 + e.val = 128 * h.val + e.val; omega)))

/-- and the key heads; -/
theorem khead_apply (t : Fin 16384) (h : Fin 2) (e : Fin 128) : res_main_v91 (F := Ideal) V (ix3 t h e) = headOf (inX V) (inG V) (inW V) t ⟨8 + h.val, by omega⟩ e := by
  unfold headOf
  rw [← proj_apply]
  unfold res_main_v91
  generalize res_main_v36 V = x
  pointwise
  refine congrArg x (congrArg (ix2 t) (Fin.ext ?_))
  show 1024 + (h.val * 128 + e.val) = 128 * (8 + h.val) + e.val
  omega

/-- the query heads normalised, -/
theorem qnorm_apply (t : Fin 16384) (h : Fin 8) (e : Fin 128) :
    res_main_v52 (F := Ideal) V (ix3 t h e) = headNorm (headOf (inX V) (inG V) (inW V) t ⟨h.val, by omega⟩) (fun e => inQ V (ix2 0 e)) e := by
  unfold headNorm
  simp only [← qhead_apply]
  unfold res_main_v52 inQ
  generalize res_main_v38 V = x
  generalize V (Proc.devRef .tc main_arg3) = g
  pointwise

/-- and the key heads normalised. -/
theorem knorm_apply (t : Fin 16384) (h : Fin 2) (e : Fin 128) :
    res_main_v105 (F := Ideal) V (ix3 t h e) = headNorm (headOf (inX V) (inG V) (inW V) t ⟨8 + h.val, by omega⟩) (fun e => inK V (ix2 0 e)) e := by
  unfold headNorm
  simp only [← khead_apply]
  unfold res_main_v105 inK
  generalize res_main_v91 V = x
  generalize V (Proc.devRef .tc main_arg4) = g
  pointwise

/-- The rotated queries. -/
theorem ropeQ_apply (t : Fin 16384) (h : Fin 8) (e : Fin 128) :
    ropeQ V (ix3 t h e) = turned (inX V) (inG V) (inW V) (inQ V) t ⟨h.val, by omega⟩ e := by
  unfold turned
  have hy : (fun e => res_main_v52 (F := Ideal) V (ix3 t h e)) = headNorm (headOf (inX V) (inG V) (inW V) t ⟨h.val, by omega⟩) (fun e => inQ V (ix2 0 e)) :=
    funext fun e => qnorm_apply V t h e
  rw [← hy]
  have hr := row_apply V t
  have hc := col_apply V t
  unfold ropeQ res_main_v58 res_main_v59 res_main_v76 res_main_v77 res_main_v55 res_main_v57 res_main_v73 res_main_v75 res_main_v53 res_main_v71
  generalize res_main_v52 V = y
  generalize res_main_v15 V = r at hr ⊢
  generalize res_main_v20 V = c at hc ⊢
  pointwise
  by_cases h1 : e.val < 64 <;> [by_cases h2 : e.val < 32; by_cases h2 : e.val - 64 < 32]
  · rw [dif_pos h1, dif_pos h2]
    exact rope_lo (fun e => y (ix3 t h e)) t e _ _ ⟨e.val, h2⟩ _ (by omega) rfl (Nat.add_comm _ _) (by show e.val = _; omega) (by rw [hr, if_pos h1])
  · rw [dif_pos h1, dif_neg h2]
    exact rope_hi (fun e => y (ix3 t h e)) t e ⟨32 + (e.val - 32), by omega⟩ ⟨e.val - 32, by omega⟩ ⟨e.val - 32, by omega⟩ _ (by omega) (by show 32 + (e.val - 32) = _; omega) rfl
      (by show e.val - 32 = _; omega) (by rw [hr, if_pos h1])
  · rw [dif_neg h1, dif_pos h2]
    exact rope_lo (fun e => y (ix3 t h e)) t e ⟨64 + (e.val - 64), by omega⟩ ⟨64 + (32 + (e.val - 64)), by omega⟩ ⟨e.val - 64, h2⟩ _ (by omega) (by show 64 + (e.val - 64) = _; omega)
      (by show 64 + (32 + (e.val - 64)) = _; omega) (by show e.val - 64 = _; omega) (by rw [hc, if_neg h1])
  · rw [dif_neg h1, dif_neg h2]
    exact rope_hi (fun e => y (ix3 t h e)) t e ⟨64 + (32 + (e.val - 64 - 32)), by omega⟩ ⟨64 + (e.val - 64 - 32), by omega⟩ ⟨e.val - 64 - 32, by omega⟩ _ (by omega)
      (by show 64 + (32 + (e.val - 64 - 32)) = _; omega) (by show 64 + (e.val - 64 - 32) = _; omega) (by show e.val - 64 - 32 = _; omega) (by rw [hc, if_neg h1])

/-- The rotated keys. -/
theorem ropeK_apply (t : Fin 16384) (h : Fin 2) (e : Fin 128) :
    ropeK V (ix3 t h e) = turned (inX V) (inG V) (inW V) (inK V) t ⟨8 + h.val, by omega⟩ e := by
  unfold turned
  have hy : (fun e => res_main_v105 (F := Ideal) V (ix3 t h e)) = headNorm (headOf (inX V) (inG V) (inW V) t ⟨8 + h.val, by omega⟩) (fun e => inK V (ix2 0 e)) :=
    funext fun e => knorm_apply V t h e
  rw [← hy]
  have hr := row_apply V t
  have hc := col_apply V t
  unfold ropeK res_main_v111 res_main_v112 res_main_v129 res_main_v130 res_main_v108 res_main_v110 res_main_v126 res_main_v128 res_main_v106 res_main_v124
  generalize res_main_v105 V = y
  generalize res_main_v15 V = r at hr ⊢
  generalize res_main_v20 V = c at hc ⊢
  pointwise
  by_cases h1 : e.val < 64 <;> [by_cases h2 : e.val < 32; by_cases h2 : e.val - 64 < 32]
  · rw [dif_pos h1, dif_pos h2]
    exact rope_lo (fun e => y (ix3 t h e)) t e _ _ ⟨e.val, h2⟩ _ (by omega) rfl (Nat.add_comm _ _) (by show e.val = _; omega) (by rw [hr, if_pos h1])
  · rw [dif_pos h1, dif_neg h2]
    exact rope_hi (fun e => y (ix3 t h e)) t e ⟨32 + (e.val - 32), by omega⟩ ⟨e.val - 32, by omega⟩ ⟨e.val - 32, by omega⟩ _ (by omega) (by show 32 + (e.val - 32) = _; omega) rfl
      (by show e.val - 32 = _; omega) (by rw [hr, if_pos h1])
  · rw [dif_neg h1, dif_pos h2]
    exact rope_lo (fun e => y (ix3 t h e)) t e ⟨64 + (e.val - 64), by omega⟩ ⟨64 + (32 + (e.val - 64)), by omega⟩ ⟨e.val - 64, h2⟩ _ (by omega) (by show 64 + (e.val - 64) = _; omega)
      (by show 64 + (32 + (e.val - 64)) = _; omega) (by show e.val - 64 = _; omega) (by rw [hc, if_neg h1])
  · rw [dif_neg h1, dif_neg h2]
    exact rope_hi (fun e => y (ix3 t h e)) t e ⟨64 + (32 + (e.val - 64 - 32)), by omega⟩ ⟨64 + (e.val - 64 - 32), by omega⟩ ⟨e.val - 64 - 32, by omega⟩ _ (by omega)
      (by show 64 + (32 + (e.val - 64 - 32)) = _; omega) (by show 64 + (e.val - 64 - 32) = _; omega) (by show e.val - 64 - 32 = _; omega) (by rw [hc, if_neg h1])

/-- The reference's result at an element. -/
theorem refOut_apply (h : Fin 12) (e : Fin 128) (t : Fin 16384) :
    refOut V (ix2 ⟨128 * h.val + e.val, by omega⟩ t) = inaAt (inX V) (inG V) (inW V) (inQ V) (inK V) h e t := by
  unfold inaAt
  have hq := ropeQ_apply V t
  have hk := ropeK_apply V t
  have hp := proj_apply V t
  unfold refOut
  generalize ropeQ V = q at hq ⊢
  generalize ropeK V = k at hk ⊢
  generalize res_main_v36 V = p at hp ⊢
  pointwise
  by_cases h1 : h.val < 8
  · rw [dif_pos (by omega), if_pos h1, hq]
    refine congr (congrArg _ (congrArg (fun z => turned _ _ _ _ t z e) (Fin.ext ?_))) Cert.KernelIdeal.Attn.scale2
    show (128 * h.val + e.val) / 128 = h.val
    omega
  · by_cases h2 : h.val < 10
    · rw [dif_neg (by omega), dif_pos (by omega), if_neg h1, if_pos h2, hk]
      refine congr (congrArg (turned _ _ _ _ t) (Fin.ext ?_)) (Fin.ext ?_)
      · show 8 + (128 * h.val + e.val - 1024) / 128 = h.val
        omega
      · show (128 * h.val + e.val - 1024) % 128 = e.val
        omega
    · rw [dif_neg (by omega), dif_neg (by omega), if_neg h1, if_neg h2, hp]
      unfold headOf
      refine congrArg (projAt _ _ _ t) (Fin.ext ?_)
      show 1280 + (128 * h.val + e.val - 1024 - 256) = 128 * h.val + e.val
      omega

/-- The reference run ends with these results. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v154) = refOut (StableHlo.launchContents m c)
      ∧ r.2.mem ((c.tc : Thread nD τ).loc main_v155) = truncf .bf16 (res_main_v34 (StableHlo.launchContents m c)) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run (F := Ideal) m ρ

end Cert.InARefIdeal.Val
-- ==== Proof.InAHost.lean ====
module

public import proofs.«01_k».proof.Proof.Gen.InAIdeal.Value
public import proofs.«01_k».proof.Proof.InARef
public import Idealize.ShloMosaic.Lib.StableHlo.RunRead
public import Idealize.ShloMosaic.Lib.Pointwise

@[expose] public section

set_option maxRecDepth 16384
set_option maxHeartbeats 4000000

noncomputable section

namespace Cert.InAIdeal.Val

open Cert.InAIdeal Cert.InAIdeal.Gen Cert.Rows
open Idealize.ShloMosaic Idealize.ShloMosaic.TcCoe Idealize.SL.Sem Idealize.ShloMosaic.StableHlo

/-- The host's frequencies, -/
def hFreq : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))
/-- its angles by grid row -/
def hAngR : FVec Ideal S32x256 .f32 :=
  mulf (broadcastInDim S32x256 ![0, 1] bcast_S32x1_S32x256_0_1 (broadcastInDim S32x1 ![0] bcast_S32_S32x1_0 hFreq))
    (broadcastInDim S32x256 ![0, 1] bcast_S1x256_S32x256_0_1 (broadcastInDim S1x256 ![1] bcast_S256_S1x256_1 (sitofp .f32 (iotaInDim S256 32 0))))
/-- and by grid column. -/
def hAngC : FVec Ideal S32x64 .f32 :=
  mulf (broadcastInDim S32x64 ![0, 1] bcast_S32x1_S32x64_0_1 (broadcastInDim S32x1 ![0] bcast_S32_S32x1_0 hFreq))
    (broadcastInDim S32x64 ![0, 1] bcast_S1x64_S32x64_0_1 (broadcastInDim S1x64 ![1] bcast_S64_S1x64_1 (sitofp .f32 (iotaInDim S64 32 0))))

/-- A row table: two quarters given, two zero. -/
def tabR (a b : FVec Ideal S32x256 .f32) : FVec Ideal S128x256 .f32 :=
  concatenate S128x256 0 [⟨S32x256, a⟩, ⟨S32x256, b⟩, ⟨S32x256, broadcastInDim S32x256 ![] bcast_S_S32x256 (constant S_ .f32 0x00000000#32)⟩, ⟨S32x256, broadcastInDim S32x256 ![] bcast_S_S32x256 (constant S_ .f32 0x00000000#32)⟩]
    concatenates_S32x256_S32x256_S32x256_S32x256_S128x256_d0
/-- A column table: two quarters zero, two given. -/
def tabC (a b : FVec Ideal S32x64 .f32) : FVec Ideal S128x64 .f32 :=
  concatenate S128x64 0 [⟨S32x64, broadcastInDim S32x64 ![] bcast_S_S32x64 (constant S_ .f32 0x00000000#32)⟩, ⟨S32x64, broadcastInDim S32x64 ![] bcast_S_S32x64 (constant S_ .f32 0x00000000#32)⟩, ⟨S32x64, a⟩, ⟨S32x64, b⟩]
    concatenates_S32x64_S32x64_S32x64_S32x64_S128x64_d0
/-- A row table in two parts, its rounding and what the rounding leaves, cut into the tiles' lines. -/
def split (T : FVec Ideal S128x256 .f32) : FVec Ideal S16x128x32 .bf16 :=
  concatenate S16x128x32 2 [⟨S16x128x16, transpose S16x128x16 [1, 0, 2] (shapeCast S128x16x16 (truncf .bf16 T bitsLt_bf16_f32) shapeCasts_S128x256_S128x16x16) transposes_S128x16x16_S16x128x16_1_0_2⟩,
    ⟨S16x128x16, transpose S16x128x16 [1, 0, 2] (shapeCast S128x16x16 (truncf .bf16 (subf T (extf .f32 (truncf .bf16 T bitsLt_bf16_f32) bitsLt_bf16_f32)) bitsLt_bf16_f32) shapeCasts_S128x256_S128x16x16) transposes_S128x16x16_S16x128x16_1_0_2⟩]
    concatenates_S16x128x16_S16x128x16_S16x128x32_d2
/-- A column table repeated for a tile's lines. -/
def tile (T : FVec Ideal S128x64 .f32) : FVec Ideal S128x1024 .f32 :=
  shapeCast S128x1024 (broadcastInDim S1x128x16x64 ![0, 1, 2, 3] bcast_S1x128x1x64_S1x128x16x64_0_1_2_3 (shapeCast S1x128x1x64 T shapeCasts_S128x64_S1x128x1x64)) shapeCasts_S1x128x16x64_S128x1024

/-- The tokens' lines in a tile, -/
def lineOf : IVec S1x1024 32 :=
  select (andi (cmpi .ne (signi (broadcastInDim S1x1024 ![1] bcast_S1024_S1x1024_1 (iotaInDim S1024 32 0))) (broadcastInDim S1x1024 ![] bcast_S_S1x1024 (signi (id (constantI S_ 32 64#32)))))
      (cmpi .ne (Host.remsi (broadcastInDim S1x1024 ![1] bcast_S1024_S1x1024_1 (iotaInDim S1024 32 0)) (broadcastInDim S1x1024 ![] bcast_S_S1x1024 (id (constantI S_ 32 64#32)))) (broadcastInDim S1x1024 ![] bcast_S_S1x1024 (constantI S_ 32 0#32))))
    (subi (Host.divsi (broadcastInDim S1x1024 ![1] bcast_S1024_S1x1024_1 (iotaInDim S1024 32 0)) (broadcastInDim S1x1024 ![] bcast_S_S1x1024 (id (constantI S_ 32 64#32)))) (broadcastInDim S1x1024 ![] bcast_S_S1x1024 (constantI S_ 32 1#32)))
    (Host.divsi (broadcastInDim S1x1024 ![1] bcast_S1024_S1x1024_1 (iotaInDim S1024 32 0)) (broadcastInDim S1x1024 ![] bcast_S_S1x1024 (id (constantI S_ 32 64#32))))
/-- the divisor of the table's line numbers, -/
def sixteen : IVec S_ 32 := select (cmpi .eq (id (constantI S_ 32 16#32)) (constantI S_ 32 0#32)) (constantI S_ 32 1#32) (id (constantI S_ 32 16#32))
/-- their remainders, -/
def lineRem : IVec S32x1 32 := Host.remsi (broadcastInDim S32x1 ![0] bcast_S32_S32x1_0 (iotaInDim S32 32 0)) (broadcastInDim S32x1 ![] bcast_S_S32x1 sixteen)
/-- which are the lines the table's entries are for, -/
def tabLine : IVec S32x1 32 :=
  select (andi (cmpi .ne (cmpi .slt lineRem (broadcastInDim S32x1 ![] bcast_S_S32x1 (constantI S_ 32 0#32))) (broadcastInDim S32x1 ![] bcast_S_S32x1 (cmpi .slt sixteen (constantI S_ 32 0#32))))
      (cmpi .ne lineRem (broadcastInDim S32x1 ![] bcast_S_S32x1 (constantI S_ 32 0#32))))
    (addi lineRem (broadcastInDim S32x1 ![] bcast_S_S32x1 sixteen)) lineRem
/-- and the picks of a token's line from a table's. -/
def picks : FVec Ideal S32x1024 .bf16 :=
  uitofp .bf16 (cmpi .eq (broadcastInDim S32x1024 ![0, 1] bcast_S1x1024_S32x1024_0_1 lineOf) (broadcastInDim S32x1024 ![0, 1] bcast_S32x1_S32x1024_0_1 tabLine))

/-- A gain, scaled, over all lanes; -/
def gainQ (g : FVec Ideal S1x128 .f32) : FVec Ideal S128x128 .f32 :=
  broadcastInDim S128x128 ![0, 1] bcast_S128x1_S128x128_0_1 (broadcastInDim S128x1 ![0] bcast_S128_S128x1_0 (mulf (shapeCast S128 g shapeCasts_S1x128_S128)
    (broadcastInDim S128 ![] bcast_S_S128 (Host.divf (constant S_ .f32 0x3F800000#32) (mulf (Host.sqrt (constant S_ .f32 0x43000000#32)) (Host.log (constant S_ .f32 0x40000000#32)))))))
/-- a gain over all lanes; -/
def gainK (g : FVec Ideal S1x128 .f32) : FVec Ideal S128x128 .f32 :=
  broadcastInDim S128x128 ![0, 1] bcast_S128x1_S128x128_0_1 (broadcastInDim S128x1 ![0] bcast_S128_S128x1_0 (shapeCast S128 g shapeCasts_S1x128_S128))
/-- the weight's columns, as rows. -/
def hostW (w : FVec Ideal S1x2048x4608 .f32) : FVec Ideal S1536x2048 .bf16 :=
  transpose S1536x2048 [1, 0] (extractStridedSlice S2048x1536 ![0, 0] (truncf .bf16 (shapeCast S2048x4608 w shapeCasts_S1x2048x4608_S2048x4608) bitsLt_bf16_f32) slices_S2048x4608_S2048x1536_0_0) transposes_S2048x1536_S1536x2048_1_0

variable (m : (ℓ : Loc nD τ sig) → Buf (Elt Ideal) ℓ) (c : Dev nD)

/-- The arrays the call reads: the weight, -/
theorem V_w : V m c main_v83 = hostW (m ((c.tc : Thread nD τ).loc main_arg2)) := by
  unfold hostW
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_reads_simp <;> rfl
/-- the queries' gain, -/
theorem V_q : V m c main_v76 = gainQ (m ((c.tc : Thread nD τ).loc main_arg3)) := by
  unfold gainQ
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_reads_simp <;> rfl
/-- the keys', -/
theorem V_k : V m c main_v79 = gainK (m ((c.tc : Thread nD τ).loc main_arg4)) := by
  unfold gainK
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_reads_simp <;> rfl
/-- the picks, -/
theorem V_p : V m c main_v67 = picks := by
  unfold picks lineOf tabLine lineRem sixteen
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_reads_simp <;> rfl
/-- the row tables -/
theorem V_cr : V m c main_v31 = split (tabR (Host.cos hAngR) (Host.cos hAngR)) := by
  unfold split tabR hAngR hFreq
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_reads_simp <;> rfl
@[inherit_doc V_cr]
theorem V_sr : V m c main_v44 = split (tabR (Host.negf (Host.sin hAngR)) (Host.sin hAngR)) := by
  unfold split tabR hAngR hFreq
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_reads_simp <;> rfl
/-- and the column tables. -/
theorem V_cc : V m c main_v50 = tile (tabC (Host.cos hAngC) (Host.cos hAngC)) := by
  unfold tile tabC hAngC hFreq
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_reads_simp <;> rfl
@[inherit_doc V_cc]
theorem V_sc : V m c main_v57 = tile (tabC (Host.negf (Host.sin hAngC)) (Host.sin hAngC)) := by
  unfold tile tabC hAngC hFreq
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_reads_simp <;> rfl

end Cert.InAIdeal.Val
-- ==== Proof.InATab.lean ====
module

public import proofs.«01_k».proof.Proof.InAHost

@[expose] public section

set_option maxRecDepth 16384
set_option maxHeartbeats 1000000

noncomputable section

namespace Cert.InAIdeal.Val

open Cert.InAIdeal Cert.InAIdeal.Gen Cert.Rows Cert.KernelIdeal.Attn
open Idealize.ShloMosaic Idealize.ShloMosaic.TcCoe Idealize.SL.Sem

/-- A frequency is a number. -/
theorem freq_real (n : Fin 32) : ∃ r : ℝ, freq n = (r : EReal) := by
  unfold freq
  rw [word10000, word32]
  show ∃ r : ℝ, Ideal.pow _ (Ideal.div (-((((BitVec.ofNat 32 n.val).toInt : ℝ)) : EReal)) _) = (r : EReal)
  rw [Ideal.div_coe (by norm_num), ← EReal.coe_neg, ← EReal.coe_mul, Ideal.pow_coe_coe]
  exact ⟨_, rfl⟩

/-- The host's frequencies at an element. -/
theorem hFreq_apply (n : Fin 32) : hFreq (ix1 n) = freq n := by
  unfold hFreq freq
  pointwise

/-- A small word's number. -/
theorem word_int : ∀ r : Fin 256, (BitVec.ofNat 32 r.val).toInt = ((r.val : ℕ) : ℤ) := by decide +kernel

/-- The angle of a place on the grid. -/
def spin (r : ℕ) (n : Fin 32) : EReal := ((r : ℝ) : EReal) * freq n

/-- The row angles at an element, -/
theorem hAngR_apply (n : Fin 32) (r : Fin 256) : hAngR (ix2 n r) = spin r.val n := by
  unfold hAngR spin
  rw [← hFreq_apply]
  generalize hFreq = f
  pointwise
  exact (mul_comm _ _).trans (congrArg (· * _) (congrArg (fun z : ℤ => ((z : ℝ) : EReal)) (word_int r)))
/-- and the column angles. -/
theorem hAngC_apply (n : Fin 32) (r : Fin 64) : hAngC (ix2 n r) = spin r.val n := by
  unfold hAngC spin
  rw [← hFreq_apply]
  generalize hFreq = f
  pointwise
  exact (mul_comm _ _).trans (congrArg (· * _) (congrArg (fun z : ℤ => ((z : ℝ) : EReal)) (word_int ⟨r.val, by omega⟩)))

/-- An angle is a number. -/
theorem spin_real (r : ℕ) (n : Fin 32) : ∃ z : ℝ, spin r n = (z : EReal) := by
  obtain ⟨f, hf⟩ := freq_real n
  unfold spin
  rw [hf, ← EReal.coe_mul]
  exact ⟨_, rfl⟩

/-- A feature's frequency. -/
def fq (e : Fin 128) : Fin 32 := ⟨e.val % 32, Nat.mod_lt _ (by decide)⟩
/-- A feature's cosine, -/
def cosOf (r : ℕ) (e : Fin 128) : EReal := Ideal.cos (spin r (fq e))
/-- and its sine with the sign its partner enters by. -/
def sinOf (r : ℕ) (e : Fin 128) : EReal := if e.val % 64 < 32 then -Ideal.sin (spin r (fq e)) else Ideal.sin (spin r (fq e))

/-- A row table at an element. -/
theorem tabR_apply (a b : FVec Ideal S32x256 .f32) (e : Fin 128) (r : Fin 256) :
    tabR a b (ix2 e r) = if h : e.val < 32 then (a (ix2 ⟨e.val, h⟩ r) : EReal) else if h : e.val < 64 then b (ix2 ⟨e.val - 32, by omega⟩ r) else 0 := by
  unfold tabR
  pointwise
  by_cases h1 : e.val < 32
  · rw [dif_pos h1, dif_pos h1]
  · rw [dif_neg h1, dif_neg h1]
    by_cases h2 : e.val < 64
    · rw [dif_pos (by omega), dif_pos h2]
    · rw [dif_neg (by omega), dif_neg h2]
      first | (by_cases h3 : e.val - 32 - 32 < 32 <;> simp [h3]) | simp
/-- A column table at an element. -/
theorem tabC_apply (a b : FVec Ideal S32x64 .f32) (e : Fin 128) (r : Fin 64) :
    tabC a b (ix2 e r) = if e.val < 64 then 0 else if h : e.val < 96 then (a (ix2 ⟨e.val - 64, by omega⟩ r) : EReal) else b (ix2 ⟨e.val - 96, by omega⟩ r) := by
  unfold tabC
  pointwise
  by_cases h1 : e.val < 64
  · rw [if_pos h1]
    by_cases h0 : e.val < 32
    · rw [dif_pos h0]
    · rw [dif_neg h0, dif_pos (by omega)]
  · rw [if_neg h1, dif_neg (by omega), dif_neg (by omega)]
    by_cases h2 : e.val < 96
    · rw [dif_pos (by omega), dif_pos h2]
      exact congrArg (fun z => a (ix2 z r)) (Fin.ext (by show e.val - 32 - 32 = e.val - 64; omega))
    · rw [dif_neg (by omega), dif_neg h2]
      exact congrArg (fun z => b (ix2 z r)) (Fin.ext (by show e.val - 32 - 32 - 32 = e.val - 96; omega))

/-- The cosines' row table, -/
theorem cosR_apply (e : Fin 128) (r : Fin 256) : tabR (Host.cos hAngR) (Host.cos hAngR) (ix2 e r) = if e.val < 64 then cosOf r.val e else 0 := by
  rw [tabR_apply]
  unfold cosOf fq
  by_cases h1 : e.val < 32
  · rw [dif_pos h1, if_pos (by omega)]
    show Ideal.cos (hAngR _) = _
    rw [hAngR_apply]
    exact congrArg (fun n => Ideal.cos (spin r.val n)) (Fin.ext (by show e.val = e.val % 32; omega))
  · rw [dif_neg h1]
    by_cases h2 : e.val < 64
    · rw [dif_pos h2, if_pos h2]
      show Ideal.cos (hAngR _) = _
      rw [hAngR_apply]
      exact congrArg (fun n => Ideal.cos (spin r.val n)) (Fin.ext (by show e.val - 32 = e.val % 32; omega))
    · rw [dif_neg h2, if_neg h2]
/-- the sines', -/
theorem sinR_apply (e : Fin 128) (r : Fin 256) : tabR (Host.negf (Host.sin hAngR)) (Host.sin hAngR) (ix2 e r) = if e.val < 64 then sinOf r.val e else 0 := by
  rw [tabR_apply]
  unfold sinOf fq
  by_cases h1 : e.val < 32
  · rw [dif_pos h1, if_pos (by omega), if_pos (by omega)]
    show -Ideal.sin (hAngR _) = _
    rw [hAngR_apply]
    exact congrArg (fun n => -Ideal.sin (spin r.val n)) (Fin.ext (by show e.val = e.val % 32; omega))
  · rw [dif_neg h1]
    by_cases h2 : e.val < 64
    · rw [dif_pos h2, if_pos h2, if_neg (by omega)]
      show Ideal.sin (hAngR _) = _
      rw [hAngR_apply]
      exact congrArg (fun n => Ideal.sin (spin r.val n)) (Fin.ext (by show e.val - 32 = e.val % 32; omega))
    · rw [dif_neg h2, if_neg h2]
/-- the cosines' column table -/
theorem cosC_apply (e : Fin 128) (r : Fin 64) : tabC (Host.cos hAngC) (Host.cos hAngC) (ix2 e r) = if e.val < 64 then 0 else cosOf r.val e := by
  rw [tabC_apply]
  unfold cosOf fq
  by_cases h1 : e.val < 64
  · rw [if_pos h1, if_pos h1]
  · rw [if_neg h1, if_neg h1]
    by_cases h2 : e.val < 96
    · rw [dif_pos h2]
      show Ideal.cos (hAngC _) = _
      rw [hAngC_apply]
      exact congrArg (fun n => Ideal.cos (spin r.val n)) (Fin.ext (by show e.val - 64 = e.val % 32; omega))
    · rw [dif_neg h2]
      show Ideal.cos (hAngC _) = _
      rw [hAngC_apply]
      exact congrArg (fun n => Ideal.cos (spin r.val n)) (Fin.ext (by show e.val - 96 = e.val % 32; omega))
/-- and the sines'. -/
theorem sinC_apply (e : Fin 128) (r : Fin 64) : tabC (Host.negf (Host.sin hAngC)) (Host.sin hAngC) (ix2 e r) = if e.val < 64 then 0 else sinOf r.val e := by
  rw [tabC_apply]
  unfold sinOf fq
  by_cases h1 : e.val < 64
  · rw [if_pos h1, if_pos h1]
  · rw [if_neg h1, if_neg h1]
    by_cases h2 : e.val < 96
    · rw [dif_pos h2, if_pos (by omega)]
      show -Ideal.sin (hAngC _) = _
      rw [hAngC_apply]
      exact congrArg (fun n => -Ideal.sin (spin r.val n)) (Fin.ext (by show e.val - 64 = e.val % 32; omega))
    · rw [dif_neg h2, if_neg (by omega)]
      show Ideal.sin (hAngC _) = _
      rw [hAngC_apply]
      exact congrArg (fun n => Ideal.sin (spin r.val n)) (Fin.ext (by show e.val - 96 = e.val % 32; omega))

/-- A tile's line of a row table: its rounding, -/
theorem split_lo (T : FVec Ideal S128x256 .f32) (i : Fin 16) (e : Fin 128) (j : Fin 16) :
    split T (ix3 i e (⟨j.val, by omega⟩ : Fin 32)) = T (ix2 e ⟨16 * i.val + j.val, by omega⟩) := by
  unfold split
  pointwise
  exact congrArg (fun z => T (ix2 e z)) (Fin.ext (by show i.val * 16 + j.val = 16 * i.val + j.val; omega))
/-- and what that leaves. -/
theorem split_hi (T : FVec Ideal S128x256 .f32) (i : Fin 16) (e : Fin 128) (j : Fin 16) :
    split T (ix3 i e (⟨16 + j.val, by omega⟩ : Fin 32)) = (T (ix2 e ⟨16 * i.val + j.val, by omega⟩) : EReal) - T (ix2 e ⟨16 * i.val + j.val, by omega⟩) := by
  unfold split
  pointwise
  exact congrArg (fun z => (T (ix2 e z) : EReal) - T (ix2 e z)) (Fin.ext (by show i.val * 16 + j.val = 16 * i.val + j.val; omega))
/-- A column table in a tile. -/
theorem tile_apply (T : FVec Ideal S128x64 .f32) (e : Fin 128) (l : Fin 1024) : tile T (ix2 e l) = T (ix2 e ⟨l.val % 64, Nat.mod_lt _ (by decide)⟩) := by
  unfold tile
  pointwise

/-- A token's line in its tile, -/
theorem lineOf_apply (l : Fin 1024) : lineOf (ix2 0 l) = BitVec.ofNat 32 (l.val / 64) := by
  unfold lineOf
  pointwise
  revert l
  decide +kernel
/-- a table entry's line, -/
theorem tabLine_apply (j : Fin 32) : tabLine (ix2 j 0) = BitVec.ofNat 32 (j.val % 16) := by
  unfold tabLine lineRem sixteen
  pointwise
  revert j
  decide +kernel
/-- when they are one, -/
theorem pick_word : ∀ a b : Fin 16, (IntOp.cmpi .eq (BitVec.ofNat 32 a.val) (BitVec.ofNat 32 b.val)).toNat = if b = a then 1 else 0 := by decide +kernel
/-- and the picks. -/
theorem picks_apply (j : Fin 32) (l : Fin 1024) : picks (ix2 j l) = if (⟨j.val % 16, by omega⟩ : Fin 16) = ⟨l.val / 64, by omega⟩ then (1 : EReal) else 0 := by
  unfold picks
  pointwise
  rw [lineOf_apply, tabLine_apply]
  refine (congrArg (fun z : ℕ => ((z : ℝ) : EReal)) (pick_word ⟨l.val / 64, by omega⟩ ⟨j.val % 16, by omega⟩)).trans ?_
  split_ifs <;> simp

/-- A sum over a table's entries against the picks: both parts of one line. -/
theorem sum_picks (c : Fin 32 → EReal) (l : Fin 1024) :
    ∑ j : Fin 32, c j * picks (ix2 j l) = c ⟨l.val / 64, by omega⟩ + c ⟨16 + l.val / 64, by omega⟩ := by
  simp only [picks_apply]
  rw [Fin.sum_univ_add (a := 16) (b := 16)]
  have h1 : ∀ i : Fin 16, (⟨(Fin.castAdd 16 i).val % 16, by omega⟩ : Fin 16) = i := fun i => Fin.ext (by show i.val % 16 = i.val; omega)
  have h2 : ∀ i : Fin 16, (⟨(Fin.natAdd 16 i).val % 16, by omega⟩ : Fin 16) = i := fun i => Fin.ext (by show (16 + i.val) % 16 = i.val; omega)
  simp only [h1, h2, mul_ite, mul_one, mul_zero, Finset.sum_ite_eq', Finset.sum_ite_eq, Finset.mem_univ, if_true]
  rfl

/-- A row table against the picks: the token's line. -/
theorem row_pick (T : FVec Ideal S128x256 .f32) (i : Fin 16) (e : Fin 128) (l : Fin 1024)
    (h : ∃ z : ℝ, (T (ix2 e ⟨16 * i.val + l.val / 64, by omega⟩) : EReal) = (z : EReal)) :
    ∑ j : Fin 32, (split T (ix3 i e j) : EReal) * picks (ix2 j l) = T (ix2 e ⟨16 * i.val + l.val / 64, by omega⟩) := by
  rw [sum_picks (fun j => split T (ix3 i e j)) l]
  refine (congr (congrArg _ (split_lo T i e ⟨l.val / 64, by omega⟩)) (split_hi T i e ⟨l.val / 64, by omega⟩)).trans ?_
  obtain ⟨z, hz⟩ := h
  show (T (ix2 e ⟨16 * i.val + l.val / 64, _⟩) : EReal) + (T (ix2 e ⟨16 * i.val + l.val / 64, _⟩) - T (ix2 e ⟨16 * i.val + l.val / 64, _⟩)) = _
  rw [hz, ← EReal.coe_sub, sub_self, EReal.coe_zero, add_zero]

end Cert.InAIdeal.Val
-- ==== Proof.InAHead.lean ====
module

public import proofs.«01_k».proof.Proof.InATab

@[expose] public section

set_option maxRecDepth 16384
set_option maxHeartbeats 1000000

noncomputable section

namespace Cert.InAIdeal.Val

open Cert.InAIdeal Cert.InAIdeal.Gen Cert.Rows Cert.KernelIdeal.Attn
open Idealize.ShloMosaic Idealize.ShloMosaic.TcCoe Idealize.SL.Sem

/-- A head of a tile, normalised with a gain, -/
def normVal (y : FVec Ideal S128x1024 .f32) (g : Vec Ideal S128x128 .f32) : FVec Ideal S128x1024 .f32 :=
  mulf (mulf y (broadcastTo S128x1024 (rsqrt (addf (mulf (shapeCast S1x1024 (multiReduction .add [0] S1024 (mulf y y) 0x00000000#32 reduces_S128x1024_S1024 (.inl rfl) rfl) shapeCasts_S1024_S1x1024)
    (broadcast S1x1024 (Scalar.ofBits .f32 0x3C000000#32))) (broadcast S1x1024 (Scalar.ofBits .f32 0x358637BD#32)))) broadcasts_S1x1024_S128x1024)) (k0_pay16 g)
/-- and rotated. -/
def turnVal (C S y : FVec Ideal S128x1024 .f32) : FVec Ideal S128x1024 .bf16 :=
  k0_pay13 C S y (extractStridedSlice S32x1024 ![32, 0] y slices_S128x1024_o32_0_S32x1024) (extractStridedSlice S32x1024 ![0, 0] y slices_S128x1024_o0_0_S32x1024)

/-- A mean over 128 two ways. -/
theorem mean128 (s : EReal) : s * Ideal.ofBits FTy.f32 0x3C000000#32 = Ideal.div s (Ideal.ofBits FTy.f32 0x43000000#32) := by
  rw [word128, word128inv, Ideal.div_coe (by norm_num)]

/-- A gain repeated over a tile. -/
theorem pay16_apply (g : Vec Ideal S128x128 .f32) (γ : Fin 128 → EReal) (hg : ∀ e z : Fin 128, g (ix2 e z) = γ e) (e : Fin 128) (l : Fin 1024) : k0_pay16 g (ix2 e l) = γ e := by
  unfold k0_pay16
  pointwise
  simp only [hg, dite_eq_ite, ite_self]

/-- A normalised head at an element. -/
theorem normVal_apply (y : FVec Ideal S128x1024 .f32) (g : Vec Ideal S128x128 .f32) (γ : Fin 128 → EReal) (hg : ∀ e z : Fin 128, g (ix2 e z) = γ e) (e : Fin 128) (l : Fin 1024) :
    normVal y g (ix2 e l) = headNorm (fun e => y (ix2 e l)) γ e := by
  unfold normVal headNorm
  rw [← mean128, ← pay16_apply g γ hg e l]
  generalize k0_pay16 g = G
  pointwise

/-- A rotated head at an element. -/
theorem turnVal_apply (C S y : FVec Ideal S128x1024 .f32) (e : Fin 128) (l : Fin 1024) :
    turnVal C S y (ix2 e l) = (y (ix2 e l) : EReal) * C (ix2 e l) + y (ix2 (mate e) l) * S (ix2 e l) := by
  unfold turnVal k0_pay13
  pointwise
  refine congrArg (fun z : EReal => (y (ix2 e l) : EReal) * C (ix2 e l) + z * S (ix2 e l)) ?_
  unfold mate
  by_cases h1 : e.val < 32
  · rw [dif_pos h1, dif_pos (by omega)]
    exact congrArg (fun z => y (ix2 z l)) (Fin.ext (by show 32 + e.val = e.val + 32; omega))
  · rw [dif_neg h1]
    by_cases h2 : e.val < 64
    · rw [dif_pos (by omega), dif_neg (by omega)]
    · rw [dif_neg (by omega)]
      by_cases h3 : e.val < 96
      · rw [dif_pos (by omega), dif_pos (by omega)]
        exact congrArg (fun z => y (ix2 z l)) (Fin.ext (by show 96 + (e.val - 32 - 32) = e.val + 32; omega))
      · rw [dif_neg (by omega), dif_neg (by omega)]
        exact congrArg (fun z => y (ix2 z l)) (Fin.ext (by show 64 + (e.val - 32 - 32 - 32) = e.val - 32; omega))

/-- A rotation by a signed sine. -/
theorem rope_signed (y : Fin 128 → EReal) (t : Fin 16384) (e : Fin 128) :
    y e * Ideal.cos (ang t e) + y (mate e) * (if e.val % 64 < 32 then -Ideal.sin (ang t e) else Ideal.sin (ang t e)) = ropeAt y t e := by
  unfold ropeAt
  by_cases h : e.val % 64 < 32
  · rw [if_pos h, if_pos h, mul_neg, sub_eq_add_neg]
  · rw [if_neg h, if_neg h]

/-- The factor is a number at least zero. -/
theorem qscale_nonneg : 0 ≤ qscale := by
  unfold qscale
  exact EReal.coe_nonneg.mpr (div_nonneg zero_le_one (mul_nonneg (Real.sqrt_nonneg _) (Real.log_nonneg (by norm_num))))
@[inherit_doc qscale_nonneg]
theorem qscale_top : qscale ≠ ⊤ := by
  unfold qscale
  exact EReal.coe_ne_top _

/-- A gain's factor is the head's, -/
theorem headNorm_scale (y g : Fin 128 → EReal) : headNorm y (fun e => g e * qscale) = fun e => headNorm y g e * qscale := by
  funext e
  unfold headNorm
  exact (mul_assoc _ _ _).symm
/-- and the rotated head's. -/
theorem ropeAt_scale (y : Fin 128 → EReal) (t : Fin 16384) (e : Fin 128) : ropeAt (fun e => y e * qscale) t e = ropeAt y t e * qscale := by
  unfold ropeAt
  by_cases h : e.val % 64 < 32
  · rw [if_pos h, if_pos h, sub_eq_add_neg, sub_eq_add_neg, EReal.right_distrib_of_nonneg_of_ne_top qscale_nonneg qscale_top, mul_right_comm, mul_right_comm (y (mate e)), neg_mul]
  · rw [if_neg h, if_neg h, EReal.right_distrib_of_nonneg_of_ne_top qscale_nonneg qscale_top, mul_right_comm, mul_right_comm (y (mate e))]

/-- The gains at an element, -/
theorem gainQ_apply (g : FVec Ideal S1x128 .f32) (e z : Fin 128) : gainQ g (ix2 e z) = g (ix2 0 e) * qscale := by
  unfold gainQ qscale
  pointwise
  exact congrArg _ scale2
@[inherit_doc gainQ_apply]
theorem gainK_apply (g : FVec Ideal S1x128 .f32) (e z : Fin 128) : gainK g (ix2 e z) = g (ix2 0 e) := by
  unfold gainK
  pointwise
/-- and the weight. -/
theorem hostW_apply (w : FVec Ideal S1x2048x4608 .f32) (d : Fin 1536) (k : Fin 2048) : hostW w (ix2 d k) = w (ix3 0 k ⟨d.val, by omega⟩) := by
  unfold hostW
  pointwise

/-- The payloads at an element: the normalised rows, -/
theorem pay4_apply (x : Vec Ideal S1024x2048 .f32) (g : Vec Ideal S1x2048 .f32) (r : Fin 1024) (k : Fin 2048) :
    k0_pay4 x g (ix2 r k) = rmsRow (fun j => x (ix2 r j)) (fun j => g (ix2 0 j)) k := by
  unfold k0_pay4
  pointwise
  rfl
/-- their products with the weight, -/
theorem pay5_apply (x : Vec Ideal S1024x2048 .f32) (g : Vec Ideal S1x2048 .f32) (w : Vec Ideal S1536x2048 .bf16) (d : Fin 1536) (l : Fin 1024) :
    k0_pay5 x g w (ix2 d l) = ∑ k : Fin 2048, rmsRow (fun j => x (ix2 l j)) (fun j => g (ix2 0 j)) k * w (ix2 d k) := by
  simp only [← pay4_apply]
  unfold k0_pay5
  generalize k0_pay4 x g = G
  pointwise
  exact Finset.sum_congr rfl fun k _ => mul_comm _ _
/-- the cosines, -/
theorem pay6_apply (a : Vec Ideal S1x128x32 .bf16) (p : Vec Ideal S32x1024 .bf16) (b : Vec Ideal S128x1024 .f32) (e : Fin 128) (l : Fin 1024) :
    k0_pay6 a p b (ix2 e l) = (∑ j : Fin 32, (a (ix3 0 e j) : EReal) * p (ix2 j l)) + b (ix2 e l) := by
  unfold k0_pay6
  pointwise
/-- and the sines. -/
theorem pay8_apply (a : Vec Ideal S1x128x32 .bf16) (p : Vec Ideal S32x1024 .bf16) (b : Vec Ideal S128x1024 .f32) (e : Fin 128) (l : Fin 1024) :
    k0_pay8 (k0_pay7 a p) b (ix2 e l) = (∑ j : Fin 32, (a (ix3 0 e j) : EReal) * p (ix2 j l)) + b (ix2 e l) := by
  unfold k0_pay8 k0_pay7
  pointwise

/-- A tile's cosines over its tables, -/
theorem cos_tile (i : Fin 16) (t : Fin 16384) (e : Fin 128) (l : Fin 1024) (ht : t.val = i.val * 1024 + l.val) :
    (∑ j : Fin 32, (split (tabR (Host.cos hAngR) (Host.cos hAngR)) (ix3 i e j) : EReal) * picks (ix2 j l)) + tile (tabC (Host.cos hAngC) (Host.cos hAngC)) (ix2 e l) = Ideal.cos (ang t e) := by
  have e1 : 16 * i.val + l.val / 64 = t.val / 64 := by omega
  have e2 : l.val % 64 = t.val % 64 := by omega
  rw [row_pick, cosR_apply, tile_apply, cosC_apply]
  · unfold cosOf spin fq ang
    by_cases h : e.val < 64
    · rw [if_pos h, if_pos h, if_pos h, add_zero]
      show Ideal.cos ((((16 * i.val + l.val / 64 : ℕ) : ℝ) : EReal) * _) = _
      rw [e1]
    · rw [if_neg h, if_neg h, if_neg h, zero_add]
      show Ideal.cos ((((l.val % 64 : ℕ) : ℝ) : EReal) * _) = _
      rw [e2]
  · rw [cosR_apply]
    obtain ⟨z, hz⟩ := spin_real (16 * i.val + l.val / 64) (fq e)
    by_cases h : e.val < 64
    · refine ⟨Real.cos z, ?_⟩
      rw [if_pos h]
      unfold cosOf
      exact (congrArg Ideal.cos hz).trans (Ideal.cos_coe _)
    · rw [if_neg h]
      exact ⟨0, rfl⟩
/-- and its signed sines. -/
theorem sin_tile (i : Fin 16) (t : Fin 16384) (e : Fin 128) (l : Fin 1024) (ht : t.val = i.val * 1024 + l.val) :
    (∑ j : Fin 32, (split (tabR (Host.negf (Host.sin hAngR)) (Host.sin hAngR)) (ix3 i e j) : EReal) * picks (ix2 j l)) + tile (tabC (Host.negf (Host.sin hAngC)) (Host.sin hAngC)) (ix2 e l)
      = if e.val % 64 < 32 then -Ideal.sin (ang t e) else Ideal.sin (ang t e) := by
  have e1 : 16 * i.val + l.val / 64 = t.val / 64 := by omega
  have e2 : l.val % 64 = t.val % 64 := by omega
  rw [row_pick, sinR_apply, tile_apply, sinC_apply]
  · unfold sinOf spin fq ang
    by_cases h : e.val < 64
    · rw [if_pos h, if_pos h, if_pos h, add_zero]
      show (if e.val % 64 < 32 then -Ideal.sin ((((16 * i.val + l.val / 64 : ℕ) : ℝ) : EReal) * _) else Ideal.sin ((((16 * i.val + l.val / 64 : ℕ) : ℝ) : EReal) * _)) = _
      rw [e1]
    · rw [if_neg h, if_neg h, if_neg h, zero_add]
      show (if e.val % 64 < 32 then -Ideal.sin ((((l.val % 64 : ℕ) : ℝ) : EReal) * _) else Ideal.sin ((((l.val % 64 : ℕ) : ℝ) : EReal) * _)) = _
      rw [e2]
  · rw [sinR_apply]
    obtain ⟨z, hz⟩ := spin_real (16 * i.val + l.val / 64) (fq e)
    have hs : Ideal.sin (spin (16 * i.val + l.val / 64) (fq e)) = ((Real.sin z : ℝ) : EReal) := (congrArg Ideal.sin hz).trans (Ideal.sin_coe _)
    by_cases h : e.val < 64
    · rw [if_pos h]
      show ∃ z : ℝ, (if e.val % 64 < 32 then -Ideal.sin (spin (16 * i.val + l.val / 64) (fq e)) else Ideal.sin (spin (16 * i.val + l.val / 64) (fq e))) = (z : EReal)
      rw [hs, ← EReal.coe_neg]
      by_cases h' : e.val % 64 < 32
      · exact ⟨_, if_pos h'⟩
      · exact ⟨_, if_neg h'⟩
    · rw [if_neg h]
      exact ⟨0, rfl⟩

end Cert.InAIdeal.Val
-- ==== Proof.InAVal.lean ====
module

public import proofs.«01_k».proof.Proof.InAHead
public import Idealize.ShloMosaic.Lib.Pipeline.ValueKit
public import Idealize.ShloMosaic.Lib.Pipeline.ReadBack

@[expose] public section

set_option maxRecDepth 16384
set_option maxHeartbeats 1000000

noncomputable section

namespace Cert.InAIdeal.Val

open Cert.InAIdeal Cert.InAIdeal.Gen Cert.Rows
open Idealize.ShloMosaic Idealize.ShloMosaic.TcCoe Idealize.SL.Sem

/-! The blocks' places on the grid. -/
theorem j0_eq : ∀ t : Fin cfg0.N, win0_0.index t = ![t.val, 0] := by decide +kernel
theorem j1_eq : ∀ t : Fin cfg0.N, win0_1.index t = ![0, 0] := by decide +kernel
theorem j2_eq : ∀ t : Fin cfg0.N, win0_2.index t = ![0, 0] := by decide +kernel
theorem j3_eq : ∀ t : Fin cfg0.N, win0_3.index t = ![t.val, 0, 0] := by decide +kernel
theorem j4_eq : ∀ t : Fin cfg0.N, win0_4.index t = ![t.val, 0, 0] := by decide +kernel
theorem j5_eq : ∀ t : Fin cfg0.N, win0_5.index t = ![0, 0] := by decide +kernel
theorem j6_eq : ∀ t : Fin cfg0.N, win0_6.index t = ![0, 0] := by decide +kernel
theorem j7_eq : ∀ t : Fin cfg0.N, win0_7.index t = ![0, 0] := by decide +kernel
theorem j8_eq : ∀ t : Fin cfg0.N, win0_8.index t = ![0, 0] := by decide +kernel
theorem j9_eq : ∀ t : Fin cfg0.N, win0_9.index t = ![0, 0] := by decide +kernel
theorem j10_eq : ∀ t : Fin cfg0.N, win0_10.index t = ![0, t.val] := by decide +kernel
theorem j11_eq : ∀ t : Fin cfg0.N, win0_11.index t = ![t.val, 0] := by decide +kernel

variable (m : (ℓ : Loc nD τ sig) → Buf (Elt Ideal) ℓ) (c : Dev nD)

/-- The tile a point is, -/
def tileOf (t : Fin cfg0.N) : Fin 16 := ⟨t.val, t.isLt⟩
/-- and the token its row is. -/
def tok (t : Fin cfg0.N) (y : Fin 1024) : Fin 16384 := ⟨t.val * 1024 + y.val, by have h : t.val < 16 := t.isLt; omega⟩

/-! The blocks a point reads, at an element. -/

/-- The layer's input, -/
theorem b0_apply (t : Fin cfg0.N) (y : Fin 1024) (k : Fin 2048) : (iblk m c 0 t : Vec Ideal S1024x2048 .f32) (ix2 y k) = (m ((c.tc : Thread nD τ).loc main_arg0) : Vec Ideal S16384x2048 .f32) (ix2 (tok t y) k) := by
  refine Eq.trans ?_ (congrFun (V_main_arg0 m c) _)
  blk_simp [iblk]
  refine congrArg (V m c main_arg0) ?_
  unfold tok
  blk_ext [j0_eq]
/-- the input norm's gain, -/
theorem b1_apply (t : Fin cfg0.N) (k : Fin 2048) : (iblk m c 1 t : Vec Ideal S1x2048 .f32) (ix2 0 k) = (m ((c.tc : Thread nD τ).loc main_arg1) : Vec Ideal S1x2048 .f32) (ix2 0 k) := by
  refine Eq.trans ?_ (congrFun (V_main_arg1 m c) _)
  blk_simp [iblk]
  refine congrArg (V m c main_arg1) ?_
  blk_ext [j1_eq]
/-- the weight's rows, -/
theorem b2_apply (t : Fin cfg0.N) (d : Fin 1536) (k : Fin 2048) : (iblk m c 2 t : Vec Ideal S1536x2048 .bf16) (ix2 d k) = (m ((c.tc : Thread nD τ).loc main_arg2) : Vec Ideal S1x2048x4608 .f32) (ix3 0 k ⟨d.val, by omega⟩) := by
  refine Eq.trans ?_ ((congrFun (V_w m c) _).trans (hostW_apply _ d k))
  blk_simp [iblk]
  refine congrArg (V m c main_v83) ?_
  blk_ext [j2_eq]
/-- the cosines' row table, -/
theorem b3_apply (t : Fin cfg0.N) (e : Fin 128) (j : Fin 32) : (iblk m c 3 t : Vec Ideal S1x128x32 .bf16) (ix3 0 e j) = split (tabR (Host.cos hAngR) (Host.cos hAngR)) (ix3 (tileOf t) e j) := by
  refine Eq.trans ?_ (congrFun (V_cr m c) _)
  blk_simp [iblk]
  refine congrArg (V m c main_v31) ?_
  unfold tileOf
  blk_ext [j3_eq]
/-- the sines', -/
theorem b4_apply (t : Fin cfg0.N) (e : Fin 128) (j : Fin 32) : (iblk m c 4 t : Vec Ideal S1x128x32 .bf16) (ix3 0 e j) = split (tabR (Host.negf (Host.sin hAngR)) (Host.sin hAngR)) (ix3 (tileOf t) e j) := by
  refine Eq.trans ?_ (congrFun (V_sr m c) _)
  blk_simp [iblk]
  refine congrArg (V m c main_v44) ?_
  unfold tileOf
  blk_ext [j4_eq]
/-- the cosines' column table, -/
theorem b5_apply (t : Fin cfg0.N) (e : Fin 128) (l : Fin 1024) : (iblk m c 5 t : Vec Ideal S128x1024 .f32) (ix2 e l) = tile (tabC (Host.cos hAngC) (Host.cos hAngC)) (ix2 e l) := by
  refine Eq.trans ?_ (congrFun (V_cc m c) _)
  blk_simp [iblk]
  refine congrArg (V m c main_v50) ?_
  blk_ext [j5_eq]
/-- the sines', -/
theorem b6_apply (t : Fin cfg0.N) (e : Fin 128) (l : Fin 1024) : (iblk m c 6 t : Vec Ideal S128x1024 .f32) (ix2 e l) = tile (tabC (Host.negf (Host.sin hAngC)) (Host.sin hAngC)) (ix2 e l) := by
  refine Eq.trans ?_ (congrFun (V_sc m c) _)
  blk_simp [iblk]
  refine congrArg (V m c main_v57) ?_
  blk_ext [j6_eq]
/-- the picks, -/
theorem b7_apply (t : Fin cfg0.N) (e : Fin 32) (l : Fin 1024) : (iblk m c 7 t : Vec Ideal S32x1024 .bf16) (ix2 e l) = picks (ix2 e l) := by
  refine Eq.trans ?_ (congrFun (V_p m c) _)
  blk_simp [iblk]
  refine congrArg (V m c main_v67) ?_
  blk_ext [j7_eq]
/-- the queries' gain, -/
theorem b8_apply (t : Fin cfg0.N) (e : Fin 128) (l : Fin 128) : (iblk m c 8 t : Vec Ideal S128x128 .f32) (ix2 e l) = gainQ (m ((c.tc : Thread nD τ).loc main_arg3)) (ix2 e l) := by
  refine Eq.trans ?_ (congrFun (V_q m c) _)
  blk_simp [iblk]
  refine congrArg (V m c main_v76) ?_
  blk_ext [j8_eq]
/-- and the keys'. -/
theorem b9_apply (t : Fin cfg0.N) (e : Fin 128) (l : Fin 128) : (iblk m c 9 t : Vec Ideal S128x128 .f32) (ix2 e l) = gainK (m ((c.tc : Thread nD τ).loc main_arg4)) (ix2 e l) := by
  refine Eq.trans ?_ (congrFun (V_k m c) _)
  blk_simp [iblk]
  refine congrArg (V m c main_v79) ?_
  blk_ext [j9_eq]

/-- A point's products, -/
def accV (t : Fin cfg0.N) : FVec Ideal S1536x1024 .f32 := k0_pay28 (iblk m c 0 t) (iblk m c 1 t) (iblk m c 2 t) (iblk m c 3 t) (iblk m c 4 t) (iblk m c 5 t) (iblk m c 6 t) (iblk m c 7 t) (iblk m c 8 t) (iblk m c 9 t)
/-- its cosines, -/
def cosV (t : Fin cfg0.N) : FVec Ideal S128x1024 .f32 := k0_pay29 (iblk m c 0 t) (iblk m c 1 t) (iblk m c 2 t) (iblk m c 3 t) (iblk m c 4 t) (iblk m c 5 t) (iblk m c 6 t) (iblk m c 7 t) (iblk m c 8 t) (iblk m c 9 t)
/-- its sines -/
def sinV (t : Fin cfg0.N) : FVec Ideal S128x1024 .f32 := k0_pay31 (iblk m c 0 t) (iblk m c 1 t) (iblk m c 2 t) (iblk m c 3 t) (iblk m c 4 t) (iblk m c 5 t) (iblk m c 6 t) (iblk m c 7 t) (iblk m c 8 t) (iblk m c 9 t)
/-- and its gains, the queries' -/
def gqV (t : Fin cfg0.N) : Vec Ideal S128x128 .f32 := View.ld (iblk m c 8 t : Vec Ideal S128x128 .f32) r0_6
/-- and the keys'. -/
def gkV (t : Fin cfg0.N) : Vec Ideal S128x128 .f32 := View.ld (iblk m c 9 t : Vec Ideal S128x128 .f32) r0_6

/-- The corner of a block of two axes, -/
theorem z2 : (![0, 0] : Fin 2 → ℕ) = fun _ => 0 := by funext a; fin_cases a <;> rfl
/-- and of three. -/
theorem z3 : (![0, 0, 0] : Fin 3 → ℕ) = fun _ => 0 := by funext a; fin_cases a <;> rfl

/-- The normalised rows over the arrays. -/
theorem rms_eq (t : Fin cfg0.N) (l : Fin 1024) (k : Fin 2048) :
    rmsRow (fun j => (iblk m c 0 t : Vec Ideal S1024x2048 .f32) (ix2 l j)) (fun j => (iblk m c 1 t : Vec Ideal S1x2048 .f32) (ix2 0 j)) k = xnAt (m ((c.tc : Thread nD τ).loc main_arg0)) (m ((c.tc : Thread nD τ).loc main_arg1)) (tok t l) k := by
  unfold xnAt
  simp only [b0_apply, b1_apply]
/-- The products over the arrays. -/
theorem acc_eq (t : Fin cfg0.N) (d : Fin 1536) (l : Fin 1024) : accV m c t (ix2 d l) = projAt (m ((c.tc : Thread nD τ).loc main_arg0)) (m ((c.tc : Thread nD τ).loc main_arg1)) (m ((c.tc : Thread nD τ).loc main_arg2)) (tok t l) ⟨d.val, by omega⟩ := by
  unfold accV k0_pay28
  rw [View.ld_unit_zero z2, View.ld_unit_zero z2, View.ld_unit_zero z2]
  refine (pay5_apply _ _ _ d l).trans ?_
  unfold projAt
  refine Finset.sum_congr rfl fun k _ => ?_
  rw [rms_eq, b2_apply]
/-- The cosines of the tokens' angles, -/
theorem cos_eq (t : Fin cfg0.N) (e : Fin 128) (l : Fin 1024) : cosV m c t (ix2 e l) = Ideal.cos (ang (tok t l) e) := by
  unfold cosV k0_pay29
  rw [View.ld_unit_zero z3, View.ld_unit_zero z2, View.ld_unit_zero z2]
  refine (pay6_apply _ _ _ e l).trans ?_
  rw [b5_apply]
  simp only [b3_apply, b7_apply]
  exact cos_tile (tileOf t) (tok t l) e l rfl
/-- and their signed sines. -/
theorem sin_eq (t : Fin cfg0.N) (e : Fin 128) (l : Fin 1024) : sinV m c t (ix2 e l) = if e.val % 64 < 32 then -Ideal.sin (ang (tok t l) e) else Ideal.sin (ang (tok t l) e) := by
  unfold sinV k0_pay31 k0_pay30
  rw [View.ld_unit_zero z3, View.ld_unit_zero z2, View.ld_unit_zero z2]
  refine (pay8_apply _ _ _ e l).trans ?_
  rw [b6_apply]
  simp only [b4_apply, b7_apply]
  exact sin_tile (tileOf t) (tok t l) e l rfl
/-- A gain's row. -/
def gainRow (g : Vec Ideal S1x128 .f32) (e : Fin 128) : EReal := g (ix2 0 e)
/-- The queries' gain over the arrays, -/
theorem gq_eq (t : Fin cfg0.N) (e z : Fin 128) : gqV m c t (ix2 e z) = gainRow (m ((c.tc : Thread nD τ).loc main_arg3)) e * qscale := by
  unfold gqV
  exact (congrFun (View.ld_unit_zero (Val := Elt Ideal) (S := S128x128) (e := .f32) z2 inb_S128x128_S128x128_0_0 (iblk m c 8 t)) (ix2 e z)).trans ((b8_apply m c t e z).trans (gainQ_apply _ e z))
/-- and the keys'. -/
theorem gk_eq (t : Fin cfg0.N) (e z : Fin 128) : gkV m c t (ix2 e z) = (m ((c.tc : Thread nD τ).loc main_arg4) : Vec Ideal S1x128 .f32) (ix2 0 e) := by
  unfold gkV
  exact (congrFun (View.ld_unit_zero (Val := Elt Ideal) (S := S128x128) (e := .f32) z2 inb_S128x128_S128x128_0_0 (iblk m c 9 t)) (ix2 e z)).trans ((b9_apply m c t e z).trans (gainK_apply _ e z))

/-- The rows of the products that are head `h`, as they are cut out. -/
def cutV (t : Fin cfg0.N) (o : ℕ) (hs : S1536x1024.Slices ![o, 0] S128x1024) : FVec Ideal S128x1024 .f32 := extractStridedSlice S128x1024 ![o, 0] (accV m c t) hs
/-- A head over the arrays. -/
theorem cut_eq (t : Fin cfg0.N) (h : Fin 12) (o : ℕ) (ho : o = 128 * h.val) (hs : S1536x1024.Slices ![o, 0] S128x1024) (e : Fin 128) (l : Fin 1024) :
    cutV m c t o hs (ix2 e l) = headOf (m ((c.tc : Thread nD τ).loc main_arg0)) (m ((c.tc : Thread nD τ).loc main_arg1)) (m ((c.tc : Thread nD τ).loc main_arg2)) (tok t l) h e := by
  subst ho
  unfold headOf
  refine Eq.trans ?_ (acc_eq m c t ⟨128 * h.val + e.val, by omega⟩ l)
  unfold cutV
  refine congrArg (accV m c t) ?_
  funext a
  fin_cases a
  · rfl
  · exact Fin.ext (Nat.zero_add _)

/-- A rotated head over the arrays. -/
theorem turn_eq (t : Fin cfg0.N) (h : Fin 12) (o : ℕ) (ho : o = 128 * h.val) (hs : S1536x1024.Slices ![o, 0] S128x1024) (g : Vec Ideal S128x128 .f32) (γ : Fin 128 → EReal)
    (hg : ∀ e z : Fin 128, g (ix2 e z) = γ e) (e : Fin 128) (l : Fin 1024) :
    turnVal (cosV m c t) (sinV m c t) (normVal (cutV m c t o hs) g) (ix2 e l) = ropeAt (headNorm (headOf (m ((c.tc : Thread nD τ).loc main_arg0)) (m ((c.tc : Thread nD τ).loc main_arg1)) (m ((c.tc : Thread nD τ).loc main_arg2)) (tok t l) h) γ) (tok t l) e := by
  rw [turnVal_apply, cos_eq, sin_eq, normVal_apply _ g γ hg, normVal_apply _ g γ hg]
  simp only [cut_eq m c t h o ho hs]
  exact rope_signed _ _ _

/-- A piece of a point's block: a query head, -/
theorem query_eq (t : Fin cfg0.N) (h : Fin 12) (hh : h.val < 8) (o : ℕ) (ho : o = 128 * h.val) (hs : S1536x1024.Slices ![o, 0] S128x1024) (e : Fin 128) (l : Fin 1024) :
    turnVal (cosV m c t) (sinV m c t) (normVal (cutV m c t o hs) (gqV m c t)) (ix2 e l) = inaAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h e (tok t l) := by
  unfold inaAt turned
  rw [if_pos hh, turn_eq m c t h o ho hs _ _ (gq_eq m c t), headNorm_scale, ropeAt_scale]
  rfl
/-- a key head, -/
theorem key_eq (t : Fin cfg0.N) (h : Fin 12) (h1 : ¬h.val < 8) (h2 : h.val < 10) (o : ℕ) (ho : o = 128 * h.val) (hs : S1536x1024.Slices ![o, 0] S128x1024) (e : Fin 128) (l : Fin 1024) :
    turnVal (cosV m c t) (sinV m c t) (normVal (cutV m c t o hs) (gkV m c t)) (ix2 e l) = inaAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h e (tok t l) := by
  unfold inaAt turned
  rw [if_neg h1, if_pos h2, turn_eq m c t h o ho hs _ _ (gk_eq m c t)]
/-- or a value head. -/
theorem value_eq (t : Fin cfg0.N) (h : Fin 12) (h2 : ¬h.val < 10) (o : ℕ) (ho : o = 128 * h.val) (hs : S1536x1024.Slices ![o, 0] S128x1024) (e : Fin 128) (l : Fin 1024) :
    cutV m c t o hs (ix2 e l) = inaAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h e (tok t l) := by
  unfold inaAt
  rw [if_neg (by omega), if_neg h2, cut_eq m c t h o ho hs]

/-- What a point writes at an element of its first block. -/
def outAt (t : Fin cfg0.N) (y : S1536x1024.Idx) : EReal :=
  inaAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨(y 0).val / 128, by have h : (y 0).val < 1536 := (y 0).isLt; omega⟩ ⟨(y 0).val % 128, Nat.mod_lt _ (by decide)⟩ (tok t (y 1))

/-- A piece's place in the block. -/
theorem piece (t : Fin cfg0.N) (h : Fin 12) (o : ℕ) (ho : o = 128 * h.val) (inb : ∀ a, (![o, 0] : Fin 2 → ℕ) a + S128x1024.size a ≤ S1536x1024.size a) (P : FVec Ideal S128x1024 .bf16)
    (hP : ∀ (e : Fin 128) (l : Fin 1024), P (ix2 e l) = inaAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h e (tok t l)) (x : S128x1024.Idx) :
    P x = outAt m c t ((Rect.unit (s := S1536x1024) ![o, 0] S128x1024.size inb).emb x) := by
  subst ho
  obtain ⟨e, l, rfl⟩ : ∃ (a : Fin 128) (b : Fin 1024), x = ix2 a b := ⟨x 0, x 1, by funext a; fin_cases a <;> rfl⟩
  have hx : (Rect.unit (s := S1536x1024) ![128 * h.val, 0] S128x1024.size inb).emb (ix2 e l) = ix2 (⟨128 * h.val + e.val, by omega⟩ : Fin 1536) l := by
    funext x
    fin_cases x
    · exact Fin.ext (by blk_simp; rfl)
    · exact Fin.ext (by blk_simp; rfl)
  refine (hP e l).trans (Eq.trans ?_ (congrArg (outAt m c t) hx.symm))
  unfold outAt
  have h1 : (⟨(128 * h.val + e.val) / 128, by omega⟩ : Fin 12) = h := Fin.ext (by show (128 * h.val + e.val) / 128 = h.val; omega)
  have h2 : (⟨(128 * h.val + e.val) % 128, Nat.mod_lt _ (by decide)⟩ : Fin 128) = e := Fin.ext (by show (128 * h.val + e.val) % 128 = e.val; omega)
  show _ = inaAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨(128 * h.val + e.val) / 128, _⟩ ⟨(128 * h.val + e.val) % 128, _⟩ (tok t l)
  rw [h1, h2]

/-- A point's first block at an element. -/
theorem out10_apply (t : Fin cfg0.N) (y : S1536x1024.Idx) : (out0_10 (iblk m c 0 t) (iblk m c 1 t) (iblk m c 2 t) (iblk m c 3 t) (iblk m c 4 t) (iblk m c 5 t) (iblk m c 6 t) (iblk m c 7 t) (iblk m c 8 t) (iblk m c 9 t) : Vec Ideal S1536x1024 .bf16) y = outAt m c t y := by
  unfold out0_10
  refine View.canon_apply_of_pieces (Val := Elt Ideal) (e := .bf16) (outAt m c t) _ ?_ y (cover0_10 _ _ _ _ _ _ _ _ _ _ _ _ y)
  intro q hq
  rcases List.mem_cons.mp hq with rfl | hq
  · exact piece m c t 11 1408 rfl inb_S1536x1024_S128x1024_1408_0 _ (value_eq m c t 11 (by decide) 1408 rfl slices_S1536x1024_o1408_0_S128x1024)
  rcases List.mem_cons.mp hq with rfl | hq
  · exact piece m c t 10 1280 rfl inb_S1536x1024_S128x1024_1280_0 _ (value_eq m c t 10 (by decide) 1280 rfl slices_S1536x1024_o1280_0_S128x1024)
  rcases List.mem_cons.mp hq with rfl | hq
  · exact piece m c t 9 1152 rfl inb_S1536x1024_S128x1024_1152_0 _ (key_eq m c t 9 (by decide) (by decide) 1152 rfl slices_S1536x1024_o1152_0_S128x1024)
  rcases List.mem_cons.mp hq with rfl | hq
  · exact piece m c t 8 1024 rfl inb_S1536x1024_S128x1024_1024_0 _ (key_eq m c t 8 (by decide) (by decide) 1024 rfl slices_S1536x1024_o1024_0_S128x1024)
  rcases List.mem_cons.mp hq with rfl | hq
  · exact piece m c t 7 896 rfl inb_S1536x1024_S128x1024_896_0 _ (query_eq m c t 7 (by decide) 896 rfl slices_S1536x1024_o896_0_S128x1024)
  rcases List.mem_cons.mp hq with rfl | hq
  · exact piece m c t 6 768 rfl inb_S1536x1024_S128x1024_768_0 _ (query_eq m c t 6 (by decide) 768 rfl slices_S1536x1024_o768_0_S128x1024)
  rcases List.mem_cons.mp hq with rfl | hq
  · exact piece m c t 5 640 rfl inb_S1536x1024_S128x1024_640_0 _ (query_eq m c t 5 (by decide) 640 rfl slices_S1536x1024_o640_0_S128x1024)
  rcases List.mem_cons.mp hq with rfl | hq
  · exact piece m c t 4 512 rfl inb_S1536x1024_S128x1024_512_0 _ (query_eq m c t 4 (by decide) 512 rfl slices_S1536x1024_o512_0_S128x1024)
  rcases List.mem_cons.mp hq with rfl | hq
  · exact piece m c t 3 384 rfl inb_S1536x1024_S128x1024_384_0 _ (query_eq m c t 3 (by decide) 384 rfl slices_S1536x1024_o384_0_S128x1024)
  rcases List.mem_cons.mp hq with rfl | hq
  · exact piece m c t 2 256 rfl inb_S1536x1024_S128x1024_256_0 _ (query_eq m c t 2 (by decide) 256 rfl slices_S1536x1024_o256_0_S128x1024)
  rcases List.mem_cons.mp hq with rfl | hq
  · exact piece m c t 1 128 rfl inb_S1536x1024_S128x1024_128_0 _ (query_eq m c t 1 (by decide) 128 rfl slices_S1536x1024_o128_0_S128x1024)
  obtain rfl := List.mem_singleton.mp hq
  exact piece m c t 0 0 rfl inb_S1536x1024_S128x1024_0_0 _ (query_eq m c t 0 (by decide) 0 rfl slices_S1536x1024_o0_0_S128x1024)

/-- A point's second block at an element. -/
theorem out11_apply (t : Fin cfg0.N) (y : Fin 1024) (k : Fin 2048) : (out0_11 (iblk m c 0 t) (iblk m c 1 t) (iblk m c 2 t) (iblk m c 3 t) (iblk m c 4 t) (iblk m c 5 t) (iblk m c 6 t) (iblk m c 7 t) (iblk m c 8 t) (iblk m c 9 t) : Vec Ideal S1024x2048 .bf16) (ix2 y k) = xnAt (m ((c.tc : Thread nD τ).loc main_arg0)) (m ((c.tc : Thread nD τ).loc main_arg1)) (tok t y) k := by
  rw [← rms_eq]
  frame_out
  exact pay4_apply _ _ y k

/-- The first output array, -/
def outArr (i : S1536x16384.Idx) : EReal :=
  inaAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨(i 0).val / 128, by have h : (i 0).val < 1536 := (i 0).isLt; omega⟩ ⟨(i 0).val % 128, Nat.mod_lt _ (by decide)⟩ (i 1)
/-- and that it is what the run leaves, -/
theorem final10 : (dats m 0 c).arrAt 10 cfg0.N = outArr m c := by
  refine (dats m 0 c).arrAt_eq_of_covers 10 _ (by decide +kernel) fun t hf y => ?_
  have ho : ((dats m 0 c).after 10 t : Vec Ideal S1536x1024 .bf16) y = outAt m c t y := by
    rw [after0_10]
    exact out10_apply m c t y
  refine Eq.trans ?_ (ho.trans ?_)
  · blk_simp
  obtain ⟨y0, y1, rfl⟩ : ∃ (a : Fin 1536) (b : Fin 1024), y = ix2 a b := ⟨y 0, y 1, by funext a; fin_cases a <;> rfl⟩
  have e : (win0_10.blk t).view.emb (ix2 y0 y1) = ix2 y0 (tok t y1) := by
    funext x
    fin_cases x
    · exact Fin.ext (by blk_simp [j10_eq]; rfl)
    · exact Fin.ext (by blk_simp [j10_eq]; rfl)
  blk_simp
  rw [e]
  rfl
/-- and the second array. -/
theorem final11 : (dats m 0 c).arrAt 11 cfg0.N = fun i => xnAt (m ((c.tc : Thread nD τ).loc main_arg0)) (m ((c.tc : Thread nD τ).loc main_arg1)) (i 0) (i 1) := by
  refine (dats m 0 c).arrAt_eq_of_covers 11 _ (by decide +kernel) fun t hf y => ?_
  obtain ⟨y0, y1, rfl⟩ : ∃ (a : Fin 1024) (b : Fin 2048), y = ix2 a b := ⟨y 0, y 1, by funext a; fin_cases a <;> rfl⟩
  have ho : ((dats m 0 c).after 11 t : Vec Ideal S1024x2048 .bf16) (ix2 y0 y1) = xnAt (m ((c.tc : Thread nD τ).loc main_arg0)) (m ((c.tc : Thread nD τ).loc main_arg1)) (tok t y0) y1 := by
    rw [after0_11]
    exact out11_apply m c t y0 y1
  refine Eq.trans ?_ (ho.trans ?_)
  · blk_simp
  have e : (win0_11.blk t).view.emb (ix2 y0 y1) = ix2 (tok t y0) y1 := by
    funext x
    fin_cases x
    · exact Fin.ext (by blk_simp [j11_eq]; rfl)
    · exact Fin.ext (by blk_simp [j11_eq]; rfl)
  blk_simp
  rw [e]
  rfl

end Cert.InAIdeal.Val
-- ==== Proof.InAClaim.lean ====
module

public import proofs.«01_k».proof.Defs
public import proofs.«01_k».proof.Proof.InAVal

@[expose] public section

set_option maxRecDepth 16384
set_option maxHeartbeats 1000000

noncomputable section

namespace Cert.Proof

open Idealize.ShloMosaic Idealize.ShloMosaic.TcCoe Idealize.SL.Sem Cert.Rows
open Cert.InAIdeal Cert.InAIdeal.Gen in
/-- The projection to the full attention's inputs, with its rotation and its gains, and its reference end with the same two results. -/
theorem algebraic_InA : letI := Cert.InAIdeal.Gen.facts; letI := Cert.InARefIdeal.Gen.facts; Cert.algebraic_InAIdeal_InARefIdeal := by
  letI := Cert.InAIdeal.Gen.facts
  letI := Cert.InARefIdeal.Gen.facts
  intro m g m' g' _ he
  refine ⟨fun c => (dats m 0 c).arrAt 10 cfg0.N, fun c => (dats m 0 c).arrAt 11 cfg0.N, Cert.InAIdeal.Value.run_blocks (F := Ideal) m g, ?_⟩
  refine (θ_run _ _ _).mono (fun _ h c => ?_) (Cert.InARefIdeal.Val.run_out m' g')
  obtain ⟨h0, h1, ha⟩ := h c
  obtain ⟨e0, e1, e2, e3, e4⟩ := he c
  have f0 : Cert.InARefIdeal.Val.inX (StableHlo.launchContents m' c) = m ((c.tc : Thread nD τ).loc main_arg0) := e0
  have f1 : Cert.InARefIdeal.Val.inG (StableHlo.launchContents m' c) = m ((c.tc : Thread nD τ).loc main_arg1) := e1
  have f2 : Cert.InARefIdeal.Val.inW (StableHlo.launchContents m' c) = m ((c.tc : Thread nD τ).loc main_arg2) := e2
  have f3 : Cert.InARefIdeal.Val.inQ (StableHlo.launchContents m' c) = m ((c.tc : Thread nD τ).loc main_arg3) := e3
  have f4 : Cert.InARefIdeal.Val.inK (StableHlo.launchContents m' c) = m ((c.tc : Thread nD τ).loc main_arg4) := e4
  refine ⟨h0.trans ?_, h1.trans ?_, ha⟩
  · refine Eq.trans ?_ (Cert.InAIdeal.Val.final10 m c).symm
    funext i
    obtain ⟨r, t, rfl⟩ : ∃ (a : Fin 1536) (b : Fin 16384), i = ix2 a b := ⟨i 0, i 1, by funext a; fin_cases a <;> rfl⟩
    have hr : r = (⟨128 * (r.val / 128) + r.val % 128, by omega⟩ : Fin 1536) := Fin.ext (by show r.val = 128 * (r.val / 128) + r.val % 128; omega)
    have h := Cert.InARefIdeal.Val.refOut_apply (StableHlo.launchContents m' c) (⟨r.val / 128, by omega⟩ : Fin 12) (⟨r.val % 128, Nat.mod_lt _ (by decide)⟩ : Fin 128) t
    rw [f0, f1, f2, f3, f4] at h
    exact (congrArg (fun z => Cert.InARefIdeal.Val.refOut (StableHlo.launchContents m' c) (ix2 z t)) hr).trans h
  · refine Eq.trans ?_ (Cert.InAIdeal.Val.final11 m c).symm
    funext i
    obtain ⟨t, k, rfl⟩ : ∃ (a : Fin 16384) (b : Fin 2048), i = ix2 a b := ⟨i 0, i 1, by funext a; fin_cases a <;> rfl⟩
    have h := Cert.InARefIdeal.Val.xn_apply (StableHlo.launchContents m' c) t k
    rw [f0, f1] at h
    exact h

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojRefIdeal
public import proofs.«01_k».proof.Proof.Gen.MlpIdeal.Value
public import proofs.«01_k».proof.Proof.Gen.PleIdeal.Value
public import proofs.«01_k».proof.Proof.Gen.OprojIdeal.Value
public import proofs.«01_k».proof.Proof.Gen.ReferenceIdeal.Run
public import proofs.«01_k».proof.Proof.Gen.MlpRefIdeal.Run
public import proofs.«01_k».proof.Proof.Gen.PleRefIdeal.Run
public import proofs.«01_k».proof.Proof.Gen.OprojRefIdeal.Run
public import proofs.«01_k».proof.Proof.Frames
public import proofs.«01_k».proof.Proof.AttnClaim
public import proofs.«01_k».proof.Proof.MlpClaim
public import proofs.«01_k».proof.Proof.PleClaim
public import proofs.«01_k».proof.Proof.OprojClaim
public import proofs.«01_k».proof.Proof.InBClaim
public import proofs.«01_k».proof.Proof.InAClaim
public import proofs.«01_k».proof.Proof.Gen.InB
public import proofs.«01_k».proof.Proof.Gen.InB.Frame
public import proofs.«01_k».proof.Proof.Gen.InBIdeal
public import proofs.«01_k».proof.Proof.Gen.InBIdeal.Frame
public import proofs.«01_k».proof.Proof.Gen.InBIdeal.Value
public import proofs.«01_k».proof.Proof.Gen.InBRefIdeal
public import proofs.«01_k».proof.Proof.Gen.InBRefIdeal.Run
public import proofs.«01_k».proof.Proof.Gen.InA
public import proofs.«01_k».proof.Proof.Gen.InA.Frame
public import proofs.«01_k».proof.Proof.Gen.InAIdeal
public import proofs.«01_k».proof.Proof.Gen.InAIdeal.Frame
public import proofs.«01_k».proof.Proof.Gen.InAIdeal.Value
public import proofs.«01_k».proof.Proof.Gen.InARefIdeal
public import proofs.«01_k».proof.Proof.Gen.InARefIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Mlp.Gen.facts, Cert.MlpIdeal.Gen.facts, Cert.MlpRefIdeal.Gen.facts, Cert.Ple.Gen.facts, Cert.PleIdeal.Gen.facts, Cert.PleRefIdeal.Gen.facts, Cert.Oproj.Gen.facts, Cert.OprojIdeal.Gen.facts, Cert.OprojRefIdeal.Gen.facts, Cert.InB.Gen.facts, Cert.InBIdeal.Gen.facts, Cert.InBRefIdeal.Gen.facts, Cert.InA.Gen.facts, Cert.InAIdeal.Gen.facts, Cert.InARefIdeal.Gen.facts, finite_facts,
  frame_kernel, frame_kernelIdeal, fun m g _ => frame_kernelIdeal m g trivial, frame_ref, fun m g _ => frame_ref m g trivial, frame_Mlp, frame_MlpIdeal, frame_MlpRef, frame_Ple, frame_PleIdeal, frame_PleRef, frame_Oproj, frame_OprojIdeal, frame_OprojRef, frame_InB, frame_InBIdeal, frame_InBRef, frame_InA, frame_InAIdeal, frame_InARef,
  trivial, algebraic_kernel, trivial, algebraic_Mlp, trivial, algebraic_Ple, trivial, algebraic_Oproj, preserves_InB, algebraic_InB, trivial, algebraic_InA⟩

end Cert.Proof

end
